-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceApproxIdeal (m : (ℓ : Loc Cert.ReferenceApproxIdeal.nD Cert.ReferenceApproxIdeal.τ Cert.ReferenceApproxIdeal.sig) → Buf (Elt Ideal) ℓ) : Prop :=
  True

def Pre_KernelSine (m : (ℓ : Loc Cert.KernelSine.nD Cert.KernelSine.τ Cert.KernelSine.sig) → Buf (Elt Bits) ℓ) : Prop :=
  True

def Pre_KernelSineIdeal (m : (ℓ : Loc Cert.KernelSineIdeal.nD Cert.KernelSineIdeal.τ Cert.KernelSineIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_ReferenceApproxIdeal [hReferenceApproxIdeal : Cert.ReferenceApproxIdeal.Facts] : Prop :=
  ∀ (m : (ℓ : Loc Cert.ReferenceApproxIdeal.nD Cert.ReferenceApproxIdeal.τ Cert.ReferenceApproxIdeal.sig) → Buf (Elt Ideal) ℓ) (g : Dev Cert.ReferenceApproxIdeal.nD → PrngReg), Pre_ReferenceApproxIdeal m →
    θ_run (Cert.ReferenceApproxIdeal.defs (F := Ideal)) (onTc (τ := Cert.ReferenceApproxIdeal.τ) (Cert.ReferenceApproxIdeal.main (F := Ideal))) ⟨m, fun _ => 0, g⟩ (fun r => (∀ c : Dev Cert.ReferenceApproxIdeal.nD,
      r.2.mem ((c.tc : Thread Cert.ReferenceApproxIdeal.nD Cert.ReferenceApproxIdeal.τ).loc Cert.ReferenceApproxIdeal.main_arg0) = m ((c.tc : Thread Cert.ReferenceApproxIdeal.nD Cert.ReferenceApproxIdeal.τ).loc Cert.ReferenceApproxIdeal.main_arg0)
      ∧ r.2.mem ((c.tc : Thread Cert.ReferenceApproxIdeal.nD Cert.ReferenceApproxIdeal.τ).loc Cert.ReferenceApproxIdeal.main_arg1) = m ((c.tc : Thread Cert.ReferenceApproxIdeal.nD Cert.ReferenceApproxIdeal.τ).loc Cert.ReferenceApproxIdeal.main_arg1)
      ∧ r.2.mem ((c.tc : Thread Cert.ReferenceApproxIdeal.nD Cert.ReferenceApproxIdeal.τ).loc Cert.ReferenceApproxIdeal.main_arg2) = m ((c.tc : Thread Cert.ReferenceApproxIdeal.nD Cert.ReferenceApproxIdeal.τ).loc Cert.ReferenceApproxIdeal.main_arg2)
      ∧ r.2.mem ((c.tc : Thread Cert.ReferenceApproxIdeal.nD Cert.ReferenceApproxIdeal.τ).loc Cert.ReferenceApproxIdeal.main_arg3) = m ((c.tc : Thread Cert.ReferenceApproxIdeal.nD Cert.ReferenceApproxIdeal.τ).loc Cert.ReferenceApproxIdeal.main_arg3)
      ∧ r.2.mem ((c.tc : Thread Cert.ReferenceApproxIdeal.nD Cert.ReferenceApproxIdeal.τ).loc Cert.ReferenceApproxIdeal.main_arg4) = m ((c.tc : Thread Cert.ReferenceApproxIdeal.nD Cert.ReferenceApproxIdeal.τ).loc Cert.ReferenceApproxIdeal.main_arg4)
      ∧ r.2.mem ((c.tc : Thread Cert.ReferenceApproxIdeal.nD Cert.ReferenceApproxIdeal.τ).loc Cert.ReferenceApproxIdeal.main_arg5) = m ((c.tc : Thread Cert.ReferenceApproxIdeal.nD Cert.ReferenceApproxIdeal.τ).loc Cert.ReferenceApproxIdeal.main_arg5)
      ∧ r.2.mem ((c.tc : Thread Cert.ReferenceApproxIdeal.nD Cert.ReferenceApproxIdeal.τ).loc Cert.ReferenceApproxIdeal.main_arg6) = m ((c.tc : Thread Cert.ReferenceApproxIdeal.nD Cert.ReferenceApproxIdeal.τ).loc Cert.ReferenceApproxIdeal.main_arg6)
      ∧ r.2.mem ((c.tc : Thread Cert.ReferenceApproxIdeal.nD Cert.ReferenceApproxIdeal.τ).loc Cert.ReferenceApproxIdeal.main_arg7) = m ((c.tc : Thread Cert.ReferenceApproxIdeal.nD Cert.ReferenceApproxIdeal.τ).loc Cert.ReferenceApproxIdeal.main_arg7)
      ∧ r.2.mem ((c.tc : Thread Cert.ReferenceApproxIdeal.nD Cert.ReferenceApproxIdeal.τ).loc Cert.ReferenceApproxIdeal.main_arg8) = m ((c.tc : Thread Cert.ReferenceApproxIdeal.nD Cert.ReferenceApproxIdeal.τ).loc Cert.ReferenceApproxIdeal.main_arg8)
      ∧ r.2.mem ((c.tc : Thread Cert.ReferenceApproxIdeal.nD Cert.ReferenceApproxIdeal.τ).loc Cert.ReferenceApproxIdeal.main_arg9) = m ((c.tc : Thread Cert.ReferenceApproxIdeal.nD Cert.ReferenceApproxIdeal.τ).loc Cert.ReferenceApproxIdeal.main_arg9)
      ∧ r.2.mem ((c.tc : Thread Cert.ReferenceApproxIdeal.nD Cert.ReferenceApproxIdeal.τ).loc Cert.ReferenceApproxIdeal.main_arg10) = m ((c.tc : Thread Cert.ReferenceApproxIdeal.nD Cert.ReferenceApproxIdeal.τ).loc Cert.ReferenceApproxIdeal.main_arg10)
      ∧ r.2.mem ((c.tc : Thread Cert.ReferenceApproxIdeal.nD Cert.ReferenceApproxIdeal.τ).loc Cert.ReferenceApproxIdeal.main_arg11) = m ((c.tc : Thread Cert.ReferenceApproxIdeal.nD Cert.ReferenceApproxIdeal.τ).loc Cert.ReferenceApproxIdeal.main_arg11)
      ∧ r.2.mem ((c.tc : Thread Cert.ReferenceApproxIdeal.nD Cert.ReferenceApproxIdeal.τ).loc Cert.ReferenceApproxIdeal.main_arg12) = m ((c.tc : Thread Cert.ReferenceApproxIdeal.nD Cert.ReferenceApproxIdeal.τ).loc Cert.ReferenceApproxIdeal.main_arg12)
      ∧ r.2.mem ((c.tc : Thread Cert.ReferenceApproxIdeal.nD Cert.ReferenceApproxIdeal.τ).loc Cert.ReferenceApproxIdeal.main_arg13) = m ((c.tc : Thread Cert.ReferenceApproxIdeal.nD Cert.ReferenceApproxIdeal.τ).loc Cert.ReferenceApproxIdeal.main_arg13)
      ∧ r.2.mem ((c.tc : Thread Cert.ReferenceApproxIdeal.nD Cert.ReferenceApproxIdeal.τ).loc Cert.ReferenceApproxIdeal.main_arg14) = m ((c.tc : Thread Cert.ReferenceApproxIdeal.nD Cert.ReferenceApproxIdeal.τ).loc Cert.ReferenceApproxIdeal.main_arg14)
      ∧ r.2.mem ((c.tc : Thread Cert.ReferenceApproxIdeal.nD Cert.ReferenceApproxIdeal.τ).loc Cert.ReferenceApproxIdeal.main_arg15) = m ((c.tc : Thread Cert.ReferenceApproxIdeal.nD Cert.ReferenceApproxIdeal.τ).loc Cert.ReferenceApproxIdeal.main_arg15)
      ∧ r.2.mem ((c.tc : Thread Cert.ReferenceApproxIdeal.nD Cert.ReferenceApproxIdeal.τ).loc Cert.ReferenceApproxIdeal.main_arg16) = m ((c.tc : Thread Cert.ReferenceApproxIdeal.nD Cert.ReferenceApproxIdeal.τ).loc Cert.ReferenceApproxIdeal.main_arg16)
      ∧ r.2.mem ((c.tc : Thread Cert.ReferenceApproxIdeal.nD Cert.ReferenceApproxIdeal.τ).loc Cert.ReferenceApproxIdeal.main_arg17) = m ((c.tc : Thread Cert.ReferenceApproxIdeal.nD Cert.ReferenceApproxIdeal.τ).loc Cert.ReferenceApproxIdeal.main_arg17)
      ∧ r.2.mem ((c.tc : Thread Cert.ReferenceApproxIdeal.nD Cert.ReferenceApproxIdeal.τ).loc Cert.ReferenceApproxIdeal.main_arg18) = m ((c.tc : Thread Cert.ReferenceApproxIdeal.nD Cert.ReferenceApproxIdeal.τ).loc Cert.ReferenceApproxIdeal.main_arg18)
      ∧ r.2.mem ((c.tc : Thread Cert.ReferenceApproxIdeal.nD Cert.ReferenceApproxIdeal.τ).loc Cert.ReferenceApproxIdeal.main_arg19) = m ((c.tc : Thread Cert.ReferenceApproxIdeal.nD Cert.ReferenceApproxIdeal.τ).loc Cert.ReferenceApproxIdeal.main_arg19)
      ∧ r.2.mem ((c.tc : Thread Cert.ReferenceApproxIdeal.nD Cert.ReferenceApproxIdeal.τ).loc Cert.ReferenceApproxIdeal.main_arg20) = m ((c.tc : Thread Cert.ReferenceApproxIdeal.nD Cert.ReferenceApproxIdeal.τ).loc Cert.ReferenceApproxIdeal.main_arg20)
      ∧ r.2.mem ((c.tc : Thread Cert.ReferenceApproxIdeal.nD Cert.ReferenceApproxIdeal.τ).loc Cert.ReferenceApproxIdeal.main_arg21) = m ((c.tc : Thread Cert.ReferenceApproxIdeal.nD Cert.ReferenceApproxIdeal.τ).loc Cert.ReferenceApproxIdeal.main_arg21)
      ∧ r.2.mem ((c.tc : Thread Cert.ReferenceApproxIdeal.nD Cert.ReferenceApproxIdeal.τ).loc Cert.ReferenceApproxIdeal.main_arg22) = m ((c.tc : Thread Cert.ReferenceApproxIdeal.nD Cert.ReferenceApproxIdeal.τ).loc Cert.ReferenceApproxIdeal.main_arg22)
      ∧ r.2.mem ((c.tc : Thread Cert.ReferenceApproxIdeal.nD Cert.ReferenceApproxIdeal.τ).loc Cert.ReferenceApproxIdeal.main_arg23) = m ((c.tc : Thread Cert.ReferenceApproxIdeal.nD Cert.ReferenceApproxIdeal.τ).loc Cert.ReferenceApproxIdeal.main_arg23)
      ∧ r.2.mem ((c.tc : Thread Cert.ReferenceApproxIdeal.nD Cert.ReferenceApproxIdeal.τ).loc Cert.ReferenceApproxIdeal.main_arg24) = m ((c.tc : Thread Cert.ReferenceApproxIdeal.nD Cert.ReferenceApproxIdeal.τ).loc Cert.ReferenceApproxIdeal.main_arg24))
      ∧ r.2.sem = fun _ => 0)

def quiescent_KernelSine [hKernelSine : Cert.KernelSine.Facts] : Prop :=
  ∀ (m : (ℓ : Loc Cert.KernelSine.nD Cert.KernelSine.τ Cert.KernelSine.sig) → Buf (Elt Bits) ℓ) (g : Dev Cert.KernelSine.nD → PrngReg), Pre_KernelSine m →
    θ_run (Cert.KernelSine.defs (F := Bits)) (onTc (τ := Cert.KernelSine.τ) (Cert.KernelSine.main (F := Bits))) ⟨m, fun _ => 0, g⟩ (fun r => (∀ c : Dev Cert.KernelSine.nD,
      r.2.mem ((c.tc : Thread Cert.KernelSine.nD Cert.KernelSine.τ).loc Cert.KernelSine.main_arg0) = m ((c.tc : Thread Cert.KernelSine.nD Cert.KernelSine.τ).loc Cert.KernelSine.main_arg0)
      ∧ r.2.mem ((c.tc : Thread Cert.KernelSine.nD Cert.KernelSine.τ).loc Cert.KernelSine.main_arg1) = m ((c.tc : Thread Cert.KernelSine.nD Cert.KernelSine.τ).loc Cert.KernelSine.main_arg1)
      ∧ r.2.mem ((c.tc : Thread Cert.KernelSine.nD Cert.KernelSine.τ).loc Cert.KernelSine.main_arg2) = m ((c.tc : Thread Cert.KernelSine.nD Cert.KernelSine.τ).loc Cert.KernelSine.main_arg2)
      ∧ r.2.mem ((c.tc : Thread Cert.KernelSine.nD Cert.KernelSine.τ).loc Cert.KernelSine.main_arg3) = m ((c.tc : Thread Cert.KernelSine.nD Cert.KernelSine.τ).loc Cert.KernelSine.main_arg3)
      ∧ r.2.mem ((c.tc : Thread Cert.KernelSine.nD Cert.KernelSine.τ).loc Cert.KernelSine.main_arg4) = m ((c.tc : Thread Cert.KernelSine.nD Cert.KernelSine.τ).loc Cert.KernelSine.main_arg4)
      ∧ r.2.mem ((c.tc : Thread Cert.KernelSine.nD Cert.KernelSine.τ).loc Cert.KernelSine.main_arg5) = m ((c.tc : Thread Cert.KernelSine.nD Cert.KernelSine.τ).loc Cert.KernelSine.main_arg5)
      ∧ r.2.mem ((c.tc : Thread Cert.KernelSine.nD Cert.KernelSine.τ).loc Cert.KernelSine.main_arg6) = m ((c.tc : Thread Cert.KernelSine.nD Cert.KernelSine.τ).loc Cert.KernelSine.main_arg6)
      ∧ r.2.mem ((c.tc : Thread Cert.KernelSine.nD Cert.KernelSine.τ).loc Cert.KernelSine.main_arg7) = m ((c.tc : Thread Cert.KernelSine.nD Cert.KernelSine.τ).loc Cert.KernelSine.main_arg7)
      ∧ r.2.mem ((c.tc : Thread Cert.KernelSine.nD Cert.KernelSine.τ).loc Cert.KernelSine.main_arg8) = m ((c.tc : Thread Cert.KernelSine.nD Cert.KernelSine.τ).loc Cert.KernelSine.main_arg8)
      ∧ r.2.mem ((c.tc : Thread Cert.KernelSine.nD Cert.KernelSine.τ).loc Cert.KernelSine.main_arg9) = m ((c.tc : Thread Cert.KernelSine.nD Cert.KernelSine.τ).loc Cert.KernelSine.main_arg9)
      ∧ r.2.mem ((c.tc : Thread Cert.KernelSine.nD Cert.KernelSine.τ).loc Cert.KernelSine.main_arg10) = m ((c.tc : Thread Cert.KernelSine.nD Cert.KernelSine.τ).loc Cert.KernelSine.main_arg10)
      ∧ r.2.mem ((c.tc : Thread Cert.KernelSine.nD Cert.KernelSine.τ).loc Cert.KernelSine.main_arg11) = m ((c.tc : Thread Cert.KernelSine.nD Cert.KernelSine.τ).loc Cert.KernelSine.main_arg11)
      ∧ r.2.mem ((c.tc : Thread Cert.KernelSine.nD Cert.KernelSine.τ).loc Cert.KernelSine.main_arg12) = m ((c.tc : Thread Cert.KernelSine.nD Cert.KernelSine.τ).loc Cert.KernelSine.main_arg12)
      ∧ r.2.mem ((c.tc : Thread Cert.KernelSine.nD Cert.KernelSine.τ).loc Cert.KernelSine.main_arg13) = m ((c.tc : Thread Cert.KernelSine.nD Cert.KernelSine.τ).loc Cert.KernelSine.main_arg13)
      ∧ r.2.mem ((c.tc : Thread Cert.KernelSine.nD Cert.KernelSine.τ).loc Cert.KernelSine.main_arg14) = m ((c.tc : Thread Cert.KernelSine.nD Cert.KernelSine.τ).loc Cert.KernelSine.main_arg14)
      ∧ r.2.mem ((c.tc : Thread Cert.KernelSine.nD Cert.KernelSine.τ).loc Cert.KernelSine.main_arg15) = m ((c.tc : Thread Cert.KernelSine.nD Cert.KernelSine.τ).loc Cert.KernelSine.main_arg15)
      ∧ r.2.mem ((c.tc : Thread Cert.KernelSine.nD Cert.KernelSine.τ).loc Cert.KernelSine.main_arg16) = m ((c.tc : Thread Cert.KernelSine.nD Cert.KernelSine.τ).loc Cert.KernelSine.main_arg16)
      ∧ r.2.mem ((c.tc : Thread Cert.KernelSine.nD Cert.KernelSine.τ).loc Cert.KernelSine.main_arg17) = m ((c.tc : Thread Cert.KernelSine.nD Cert.KernelSine.τ).loc Cert.KernelSine.main_arg17)
      ∧ r.2.mem ((c.tc : Thread Cert.KernelSine.nD Cert.KernelSine.τ).loc Cert.KernelSine.main_arg18) = m ((c.tc : Thread Cert.KernelSine.nD Cert.KernelSine.τ).loc Cert.KernelSine.main_arg18)
      ∧ r.2.mem ((c.tc : Thread Cert.KernelSine.nD Cert.KernelSine.τ).loc Cert.KernelSine.main_arg19) = m ((c.tc : Thread Cert.KernelSine.nD Cert.KernelSine.τ).loc Cert.KernelSine.main_arg19)
      ∧ r.2.mem ((c.tc : Thread Cert.KernelSine.nD Cert.KernelSine.τ).loc Cert.KernelSine.main_arg20) = m ((c.tc : Thread Cert.KernelSine.nD Cert.KernelSine.τ).loc Cert.KernelSine.main_arg20)
      ∧ r.2.mem ((c.tc : Thread Cert.KernelSine.nD Cert.KernelSine.τ).loc Cert.KernelSine.main_arg21) = m ((c.tc : Thread Cert.KernelSine.nD Cert.KernelSine.τ).loc Cert.KernelSine.main_arg21)
      ∧ r.2.mem ((c.tc : Thread Cert.KernelSine.nD Cert.KernelSine.τ).loc Cert.KernelSine.main_arg22) = m ((c.tc : Thread Cert.KernelSine.nD Cert.KernelSine.τ).loc Cert.KernelSine.main_arg22)
      ∧ r.2.mem ((c.tc : Thread Cert.KernelSine.nD Cert.KernelSine.τ).loc Cert.KernelSine.main_arg23) = m ((c.tc : Thread Cert.KernelSine.nD Cert.KernelSine.τ).loc Cert.KernelSine.main_arg23)
      ∧ r.2.mem ((c.tc : Thread Cert.KernelSine.nD Cert.KernelSine.τ).loc Cert.KernelSine.main_arg24) = m ((c.tc : Thread Cert.KernelSine.nD Cert.KernelSine.τ).loc Cert.KernelSine.main_arg24))
      ∧ r.2.sem = fun _ => 0)

def quiescent_KernelSineIdeal [hKernelSineIdeal : Cert.KernelSineIdeal.Facts] : Prop :=
  ∀ (m : (ℓ : Loc Cert.KernelSineIdeal.nD Cert.KernelSineIdeal.τ Cert.KernelSineIdeal.sig) → Buf (Elt Ideal) ℓ) (g : Dev Cert.KernelSineIdeal.nD → PrngReg), Pre_KernelSineIdeal m →
    θ_run (Cert.KernelSineIdeal.defs (F := Ideal)) (onTc (τ := Cert.KernelSineIdeal.τ) (Cert.KernelSineIdeal.main (F := Ideal))) ⟨m, fun _ => 0, g⟩ (fun r => (∀ c : Dev Cert.KernelSineIdeal.nD,
      r.2.mem ((c.tc : Thread Cert.KernelSineIdeal.nD Cert.KernelSineIdeal.τ).loc Cert.KernelSineIdeal.main_arg0) = m ((c.tc : Thread Cert.KernelSineIdeal.nD Cert.KernelSineIdeal.τ).loc Cert.KernelSineIdeal.main_arg0)
      ∧ r.2.mem ((c.tc : Thread Cert.KernelSineIdeal.nD Cert.KernelSineIdeal.τ).loc Cert.KernelSineIdeal.main_arg1) = m ((c.tc : Thread Cert.KernelSineIdeal.nD Cert.KernelSineIdeal.τ).loc Cert.KernelSineIdeal.main_arg1)
      ∧ r.2.mem ((c.tc : Thread Cert.KernelSineIdeal.nD Cert.KernelSineIdeal.τ).loc Cert.KernelSineIdeal.main_arg2) = m ((c.tc : Thread Cert.KernelSineIdeal.nD Cert.KernelSineIdeal.τ).loc Cert.KernelSineIdeal.main_arg2)
      ∧ r.2.mem ((c.tc : Thread Cert.KernelSineIdeal.nD Cert.KernelSineIdeal.τ).loc Cert.KernelSineIdeal.main_arg3) = m ((c.tc : Thread Cert.KernelSineIdeal.nD Cert.KernelSineIdeal.τ).loc Cert.KernelSineIdeal.main_arg3)
      ∧ r.2.mem ((c.tc : Thread Cert.KernelSineIdeal.nD Cert.KernelSineIdeal.τ).loc Cert.KernelSineIdeal.main_arg4) = m ((c.tc : Thread Cert.KernelSineIdeal.nD Cert.KernelSineIdeal.τ).loc Cert.KernelSineIdeal.main_arg4)
      ∧ r.2.mem ((c.tc : Thread Cert.KernelSineIdeal.nD Cert.KernelSineIdeal.τ).loc Cert.KernelSineIdeal.main_arg5) = m ((c.tc : Thread Cert.KernelSineIdeal.nD Cert.KernelSineIdeal.τ).loc Cert.KernelSineIdeal.main_arg5)
      ∧ r.2.mem ((c.tc : Thread Cert.KernelSineIdeal.nD Cert.KernelSineIdeal.τ).loc Cert.KernelSineIdeal.main_arg6) = m ((c.tc : Thread Cert.KernelSineIdeal.nD Cert.KernelSineIdeal.τ).loc Cert.KernelSineIdeal.main_arg6)
      ∧ r.2.mem ((c.tc : Thread Cert.KernelSineIdeal.nD Cert.KernelSineIdeal.τ).loc Cert.KernelSineIdeal.main_arg7) = m ((c.tc : Thread Cert.KernelSineIdeal.nD Cert.KernelSineIdeal.τ).loc Cert.KernelSineIdeal.main_arg7)
      ∧ r.2.mem ((c.tc : Thread Cert.KernelSineIdeal.nD Cert.KernelSineIdeal.τ).loc Cert.KernelSineIdeal.main_arg8) = m ((c.tc : Thread Cert.KernelSineIdeal.nD Cert.KernelSineIdeal.τ).loc Cert.KernelSineIdeal.main_arg8)
      ∧ r.2.mem ((c.tc : Thread Cert.KernelSineIdeal.nD Cert.KernelSineIdeal.τ).loc Cert.KernelSineIdeal.main_arg9) = m ((c.tc : Thread Cert.KernelSineIdeal.nD Cert.KernelSineIdeal.τ).loc Cert.KernelSineIdeal.main_arg9)
      ∧ r.2.mem ((c.tc : Thread Cert.KernelSineIdeal.nD Cert.KernelSineIdeal.τ).loc Cert.KernelSineIdeal.main_arg10) = m ((c.tc : Thread Cert.KernelSineIdeal.nD Cert.KernelSineIdeal.τ).loc Cert.KernelSineIdeal.main_arg10)
      ∧ r.2.mem ((c.tc : Thread Cert.KernelSineIdeal.nD Cert.KernelSineIdeal.τ).loc Cert.KernelSineIdeal.main_arg11) = m ((c.tc : Thread Cert.KernelSineIdeal.nD Cert.KernelSineIdeal.τ).loc Cert.KernelSineIdeal.main_arg11)
      ∧ r.2.mem ((c.tc : Thread Cert.KernelSineIdeal.nD Cert.KernelSineIdeal.τ).loc Cert.KernelSineIdeal.main_arg12) = m ((c.tc : Thread Cert.KernelSineIdeal.nD Cert.KernelSineIdeal.τ).loc Cert.KernelSineIdeal.main_arg12)
      ∧ r.2.mem ((c.tc : Thread Cert.KernelSineIdeal.nD Cert.KernelSineIdeal.τ).loc Cert.KernelSineIdeal.main_arg13) = m ((c.tc : Thread Cert.KernelSineIdeal.nD Cert.KernelSineIdeal.τ).loc Cert.KernelSineIdeal.main_arg13)
      ∧ r.2.mem ((c.tc : Thread Cert.KernelSineIdeal.nD Cert.KernelSineIdeal.τ).loc Cert.KernelSineIdeal.main_arg14) = m ((c.tc : Thread Cert.KernelSineIdeal.nD Cert.KernelSineIdeal.τ).loc Cert.KernelSineIdeal.main_arg14)
      ∧ r.2.mem ((c.tc : Thread Cert.KernelSineIdeal.nD Cert.KernelSineIdeal.τ).loc Cert.KernelSineIdeal.main_arg15) = m ((c.tc : Thread Cert.KernelSineIdeal.nD Cert.KernelSineIdeal.τ).loc Cert.KernelSineIdeal.main_arg15)
      ∧ r.2.mem ((c.tc : Thread Cert.KernelSineIdeal.nD Cert.KernelSineIdeal.τ).loc Cert.KernelSineIdeal.main_arg16) = m ((c.tc : Thread Cert.KernelSineIdeal.nD Cert.KernelSineIdeal.τ).loc Cert.KernelSineIdeal.main_arg16)
      ∧ r.2.mem ((c.tc : Thread Cert.KernelSineIdeal.nD Cert.KernelSineIdeal.τ).loc Cert.KernelSineIdeal.main_arg17) = m ((c.tc : Thread Cert.KernelSineIdeal.nD Cert.KernelSineIdeal.τ).loc Cert.KernelSineIdeal.main_arg17)
      ∧ r.2.mem ((c.tc : Thread Cert.KernelSineIdeal.nD Cert.KernelSineIdeal.τ).loc Cert.KernelSineIdeal.main_arg18) = m ((c.tc : Thread Cert.KernelSineIdeal.nD Cert.KernelSineIdeal.τ).loc Cert.KernelSineIdeal.main_arg18)
      ∧ r.2.mem ((c.tc : Thread Cert.KernelSineIdeal.nD Cert.KernelSineIdeal.τ).loc Cert.KernelSineIdeal.main_arg19) = m ((c.tc : Thread Cert.KernelSineIdeal.nD Cert.KernelSineIdeal.τ).loc Cert.KernelSineIdeal.main_arg19)
      ∧ r.2.mem ((c.tc : Thread Cert.KernelSineIdeal.nD Cert.KernelSineIdeal.τ).loc Cert.KernelSineIdeal.main_arg20) = m ((c.tc : Thread Cert.KernelSineIdeal.nD Cert.KernelSineIdeal.τ).loc Cert.KernelSineIdeal.main_arg20)
      ∧ r.2.mem ((c.tc : Thread Cert.KernelSineIdeal.nD Cert.KernelSineIdeal.τ).loc Cert.KernelSineIdeal.main_arg21) = m ((c.tc : Thread Cert.KernelSineIdeal.nD Cert.KernelSineIdeal.τ).loc Cert.KernelSineIdeal.main_arg21)
      ∧ r.2.mem ((c.tc : Thread Cert.KernelSineIdeal.nD Cert.KernelSineIdeal.τ).loc Cert.KernelSineIdeal.main_arg22) = m ((c.tc : Thread Cert.KernelSineIdeal.nD Cert.KernelSineIdeal.τ).loc Cert.KernelSineIdeal.main_arg22)
      ∧ r.2.mem ((c.tc : Thread Cert.KernelSineIdeal.nD Cert.KernelSineIdeal.τ).loc Cert.KernelSineIdeal.main_arg23) = m ((c.tc : Thread Cert.KernelSineIdeal.nD Cert.KernelSineIdeal.τ).loc Cert.KernelSineIdeal.main_arg23)
      ∧ r.2.mem ((c.tc : Thread Cert.KernelSineIdeal.nD Cert.KernelSineIdeal.τ).loc Cert.KernelSineIdeal.main_arg24) = m ((c.tc : Thread Cert.KernelSineIdeal.nD Cert.KernelSineIdeal.τ).loc Cert.KernelSineIdeal.main_arg24))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def preserves_Kernel_KernelIdeal : Prop :=
  True

def algebraic_KernelIdeal_ReferenceApproxIdeal [hKernelIdeal : Cert.KernelIdeal.Facts] [hReferenceApproxIdeal : Cert.ReferenceApproxIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceApproxIdeal.nD Cert.ReferenceApproxIdeal.τ Cert.ReferenceApproxIdeal.sig) → Buf (Elt Ideal) ℓ) (g' : Dev Cert.ReferenceApproxIdeal.nD → PrngReg), Pre_KernelIdeal m →
    (∀ c : Dev Cert.KernelIdeal.nD,
      m' ((c.tc : Thread Cert.ReferenceApproxIdeal.nD Cert.ReferenceApproxIdeal.τ).loc Cert.ReferenceApproxIdeal.main_arg0) = m ((c.tc : Thread Cert.KernelIdeal.nD Cert.KernelIdeal.τ).loc Cert.KernelIdeal.main_arg0)
      ∧ m' ((c.tc : Thread Cert.ReferenceApproxIdeal.nD Cert.ReferenceApproxIdeal.τ).loc Cert.ReferenceApproxIdeal.main_arg1) = m ((c.tc : Thread Cert.KernelIdeal.nD Cert.KernelIdeal.τ).loc Cert.KernelIdeal.main_arg1)
      ∧ m' ((c.tc : Thread Cert.ReferenceApproxIdeal.nD Cert.ReferenceApproxIdeal.τ).loc Cert.ReferenceApproxIdeal.main_arg2) = m ((c.tc : Thread Cert.KernelIdeal.nD Cert.KernelIdeal.τ).loc Cert.KernelIdeal.main_arg2)
      ∧ m' ((c.tc : Thread Cert.ReferenceApproxIdeal.nD Cert.ReferenceApproxIdeal.τ).loc Cert.ReferenceApproxIdeal.main_arg3) = m ((c.tc : Thread Cert.KernelIdeal.nD Cert.KernelIdeal.τ).loc Cert.KernelIdeal.main_arg3)
      ∧ m' ((c.tc : Thread Cert.ReferenceApproxIdeal.nD Cert.ReferenceApproxIdeal.τ).loc Cert.ReferenceApproxIdeal.main_arg4) = m ((c.tc : Thread Cert.KernelIdeal.nD Cert.KernelIdeal.τ).loc Cert.KernelIdeal.main_arg4)
      ∧ m' ((c.tc : Thread Cert.ReferenceApproxIdeal.nD Cert.ReferenceApproxIdeal.τ).loc Cert.ReferenceApproxIdeal.main_arg5) = m ((c.tc : Thread Cert.KernelIdeal.nD Cert.KernelIdeal.τ).loc Cert.KernelIdeal.main_arg5)
      ∧ m' ((c.tc : Thread Cert.ReferenceApproxIdeal.nD Cert.ReferenceApproxIdeal.τ).loc Cert.ReferenceApproxIdeal.main_arg6) = m ((c.tc : Thread Cert.KernelIdeal.nD Cert.KernelIdeal.τ).loc Cert.KernelIdeal.main_arg6)
      ∧ m' ((c.tc : Thread Cert.ReferenceApproxIdeal.nD Cert.ReferenceApproxIdeal.τ).loc Cert.ReferenceApproxIdeal.main_arg7) = m ((c.tc : Thread Cert.KernelIdeal.nD Cert.KernelIdeal.τ).loc Cert.KernelIdeal.main_arg7)
      ∧ m' ((c.tc : Thread Cert.ReferenceApproxIdeal.nD Cert.ReferenceApproxIdeal.τ).loc Cert.ReferenceApproxIdeal.main_arg8) = m ((c.tc : Thread Cert.KernelIdeal.nD Cert.KernelIdeal.τ).loc Cert.KernelIdeal.main_arg8)
      ∧ m' ((c.tc : Thread Cert.ReferenceApproxIdeal.nD Cert.ReferenceApproxIdeal.τ).loc Cert.ReferenceApproxIdeal.main_arg9) = m ((c.tc : Thread Cert.KernelIdeal.nD Cert.KernelIdeal.τ).loc Cert.KernelIdeal.main_arg9)
      ∧ m' ((c.tc : Thread Cert.ReferenceApproxIdeal.nD Cert.ReferenceApproxIdeal.τ).loc Cert.ReferenceApproxIdeal.main_arg10) = m ((c.tc : Thread Cert.KernelIdeal.nD Cert.KernelIdeal.τ).loc Cert.KernelIdeal.main_arg10)
      ∧ m' ((c.tc : Thread Cert.ReferenceApproxIdeal.nD Cert.ReferenceApproxIdeal.τ).loc Cert.ReferenceApproxIdeal.main_arg11) = m ((c.tc : Thread Cert.KernelIdeal.nD Cert.KernelIdeal.τ).loc Cert.KernelIdeal.main_arg11)
      ∧ m' ((c.tc : Thread Cert.ReferenceApproxIdeal.nD Cert.ReferenceApproxIdeal.τ).loc Cert.ReferenceApproxIdeal.main_arg12) = m ((c.tc : Thread Cert.KernelIdeal.nD Cert.KernelIdeal.τ).loc Cert.KernelIdeal.main_arg12)
      ∧ m' ((c.tc : Thread Cert.ReferenceApproxIdeal.nD Cert.ReferenceApproxIdeal.τ).loc Cert.ReferenceApproxIdeal.main_arg13) = m ((c.tc : Thread Cert.KernelIdeal.nD Cert.KernelIdeal.τ).loc Cert.KernelIdeal.main_arg13)
      ∧ m' ((c.tc : Thread Cert.ReferenceApproxIdeal.nD Cert.ReferenceApproxIdeal.τ).loc Cert.ReferenceApproxIdeal.main_arg14) = m ((c.tc : Thread Cert.KernelIdeal.nD Cert.KernelIdeal.τ).loc Cert.KernelIdeal.main_arg14)
      ∧ m' ((c.tc : Thread Cert.ReferenceApproxIdeal.nD Cert.ReferenceApproxIdeal.τ).loc Cert.ReferenceApproxIdeal.main_arg15) = m ((c.tc : Thread Cert.KernelIdeal.nD Cert.KernelIdeal.τ).loc Cert.KernelIdeal.main_arg15)
      ∧ m' ((c.tc : Thread Cert.ReferenceApproxIdeal.nD Cert.ReferenceApproxIdeal.τ).loc Cert.ReferenceApproxIdeal.main_arg16) = m ((c.tc : Thread Cert.KernelIdeal.nD Cert.KernelIdeal.τ).loc Cert.KernelIdeal.main_arg16)
      ∧ m' ((c.tc : Thread Cert.ReferenceApproxIdeal.nD Cert.ReferenceApproxIdeal.τ).loc Cert.ReferenceApproxIdeal.main_arg17) = m ((c.tc : Thread Cert.KernelIdeal.nD Cert.KernelIdeal.τ).loc Cert.KernelIdeal.main_arg17)
      ∧ m' ((c.tc : Thread Cert.ReferenceApproxIdeal.nD Cert.ReferenceApproxIdeal.τ).loc Cert.ReferenceApproxIdeal.main_arg18) = m ((c.tc : Thread Cert.KernelIdeal.nD Cert.KernelIdeal.τ).loc Cert.KernelIdeal.main_arg18)
      ∧ m' ((c.tc : Thread Cert.ReferenceApproxIdeal.nD Cert.ReferenceApproxIdeal.τ).loc Cert.ReferenceApproxIdeal.main_arg19) = m ((c.tc : Thread Cert.KernelIdeal.nD Cert.KernelIdeal.τ).loc Cert.KernelIdeal.main_arg19)
      ∧ m' ((c.tc : Thread Cert.ReferenceApproxIdeal.nD Cert.ReferenceApproxIdeal.τ).loc Cert.ReferenceApproxIdeal.main_arg20) = m ((c.tc : Thread Cert.KernelIdeal.nD Cert.KernelIdeal.τ).loc Cert.KernelIdeal.main_arg20)
      ∧ m' ((c.tc : Thread Cert.ReferenceApproxIdeal.nD Cert.ReferenceApproxIdeal.τ).loc Cert.ReferenceApproxIdeal.main_arg21) = m ((c.tc : Thread Cert.KernelIdeal.nD Cert.KernelIdeal.τ).loc Cert.KernelIdeal.main_arg21)
      ∧ m' ((c.tc : Thread Cert.ReferenceApproxIdeal.nD Cert.ReferenceApproxIdeal.τ).loc Cert.ReferenceApproxIdeal.main_arg22) = m ((c.tc : Thread Cert.KernelIdeal.nD Cert.KernelIdeal.τ).loc Cert.KernelIdeal.main_arg22)
      ∧ m' ((c.tc : Thread Cert.ReferenceApproxIdeal.nD Cert.ReferenceApproxIdeal.τ).loc Cert.ReferenceApproxIdeal.main_arg23) = m ((c.tc : Thread Cert.KernelIdeal.nD Cert.KernelIdeal.τ).loc Cert.KernelIdeal.main_arg23)
      ∧ m' ((c.tc : Thread Cert.ReferenceApproxIdeal.nD Cert.ReferenceApproxIdeal.τ).loc Cert.ReferenceApproxIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceApproxIdeal.defs (F := Ideal)) (onTc (τ := Cert.ReferenceApproxIdeal.τ) (Cert.ReferenceApproxIdeal.main (F := Ideal))) ⟨m', fun _ => 0, g'⟩ (fun r => ∀ c : Dev Cert.ReferenceApproxIdeal.nD,
          r.2.mem ((c.tc : Thread Cert.ReferenceApproxIdeal.nD Cert.ReferenceApproxIdeal.τ).loc Cert.ReferenceApproxIdeal.main_v220) = v0 c
          ∧ r.2.mem ((c.tc : Thread Cert.ReferenceApproxIdeal.nD Cert.ReferenceApproxIdeal.τ).loc Cert.ReferenceApproxIdeal.main_arg0) = m' ((c.tc : Thread Cert.ReferenceApproxIdeal.nD Cert.ReferenceApproxIdeal.τ).loc Cert.ReferenceApproxIdeal.main_arg0)
          ∧ r.2.mem ((c.tc : Thread Cert.ReferenceApproxIdeal.nD Cert.ReferenceApproxIdeal.τ).loc Cert.ReferenceApproxIdeal.main_arg1) = m' ((c.tc : Thread Cert.ReferenceApproxIdeal.nD Cert.ReferenceApproxIdeal.τ).loc Cert.ReferenceApproxIdeal.main_arg1)
          ∧ r.2.mem ((c.tc : Thread Cert.ReferenceApproxIdeal.nD Cert.ReferenceApproxIdeal.τ).loc Cert.ReferenceApproxIdeal.main_arg2) = m' ((c.tc : Thread Cert.ReferenceApproxIdeal.nD Cert.ReferenceApproxIdeal.τ).loc Cert.ReferenceApproxIdeal.main_arg2)
          ∧ r.2.mem ((c.tc : Thread Cert.ReferenceApproxIdeal.nD Cert.ReferenceApproxIdeal.τ).loc Cert.ReferenceApproxIdeal.main_arg3) = m' ((c.tc : Thread Cert.ReferenceApproxIdeal.nD Cert.ReferenceApproxIdeal.τ).loc Cert.ReferenceApproxIdeal.main_arg3)
          ∧ r.2.mem ((c.tc : Thread Cert.ReferenceApproxIdeal.nD Cert.ReferenceApproxIdeal.τ).loc Cert.ReferenceApproxIdeal.main_arg4) = m' ((c.tc : Thread Cert.ReferenceApproxIdeal.nD Cert.ReferenceApproxIdeal.τ).loc Cert.ReferenceApproxIdeal.main_arg4)
          ∧ r.2.mem ((c.tc : Thread Cert.ReferenceApproxIdeal.nD Cert.ReferenceApproxIdeal.τ).loc Cert.ReferenceApproxIdeal.main_arg5) = m' ((c.tc : Thread Cert.ReferenceApproxIdeal.nD Cert.ReferenceApproxIdeal.τ).loc Cert.ReferenceApproxIdeal.main_arg5)
          ∧ r.2.mem ((c.tc : Thread Cert.ReferenceApproxIdeal.nD Cert.ReferenceApproxIdeal.τ).loc Cert.ReferenceApproxIdeal.main_arg6) = m' ((c.tc : Thread Cert.ReferenceApproxIdeal.nD Cert.ReferenceApproxIdeal.τ).loc Cert.ReferenceApproxIdeal.main_arg6)
          ∧ r.2.mem ((c.tc : Thread Cert.ReferenceApproxIdeal.nD Cert.ReferenceApproxIdeal.τ).loc Cert.ReferenceApproxIdeal.main_arg7) = m' ((c.tc : Thread Cert.ReferenceApproxIdeal.nD Cert.ReferenceApproxIdeal.τ).loc Cert.ReferenceApproxIdeal.main_arg7)
          ∧ r.2.mem ((c.tc : Thread Cert.ReferenceApproxIdeal.nD Cert.ReferenceApproxIdeal.τ).loc Cert.ReferenceApproxIdeal.main_arg8) = m' ((c.tc : Thread Cert.ReferenceApproxIdeal.nD Cert.ReferenceApproxIdeal.τ).loc Cert.ReferenceApproxIdeal.main_arg8)
          ∧ r.2.mem ((c.tc : Thread Cert.ReferenceApproxIdeal.nD Cert.ReferenceApproxIdeal.τ).loc Cert.ReferenceApproxIdeal.main_arg9) = m' ((c.tc : Thread Cert.ReferenceApproxIdeal.nD Cert.ReferenceApproxIdeal.τ).loc Cert.ReferenceApproxIdeal.main_arg9)
          ∧ r.2.mem ((c.tc : Thread Cert.ReferenceApproxIdeal.nD Cert.ReferenceApproxIdeal.τ).loc Cert.ReferenceApproxIdeal.main_arg10) = m' ((c.tc : Thread Cert.ReferenceApproxIdeal.nD Cert.ReferenceApproxIdeal.τ).loc Cert.ReferenceApproxIdeal.main_arg10)
          ∧ r.2.mem ((c.tc : Thread Cert.ReferenceApproxIdeal.nD Cert.ReferenceApproxIdeal.τ).loc Cert.ReferenceApproxIdeal.main_arg11) = m' ((c.tc : Thread Cert.ReferenceApproxIdeal.nD Cert.ReferenceApproxIdeal.τ).loc Cert.ReferenceApproxIdeal.main_arg11)
          ∧ r.2.mem ((c.tc : Thread Cert.ReferenceApproxIdeal.nD Cert.ReferenceApproxIdeal.τ).loc Cert.ReferenceApproxIdeal.main_arg12) = m' ((c.tc : Thread Cert.ReferenceApproxIdeal.nD Cert.ReferenceApproxIdeal.τ).loc Cert.ReferenceApproxIdeal.main_arg12)
          ∧ r.2.mem ((c.tc : Thread Cert.ReferenceApproxIdeal.nD Cert.ReferenceApproxIdeal.τ).loc Cert.ReferenceApproxIdeal.main_arg13) = m' ((c.tc : Thread Cert.ReferenceApproxIdeal.nD Cert.ReferenceApproxIdeal.τ).loc Cert.ReferenceApproxIdeal.main_arg13)
          ∧ r.2.mem ((c.tc : Thread Cert.ReferenceApproxIdeal.nD Cert.ReferenceApproxIdeal.τ).loc Cert.ReferenceApproxIdeal.main_arg14) = m' ((c.tc : Thread Cert.ReferenceApproxIdeal.nD Cert.ReferenceApproxIdeal.τ).loc Cert.ReferenceApproxIdeal.main_arg14)
          ∧ r.2.mem ((c.tc : Thread Cert.ReferenceApproxIdeal.nD Cert.ReferenceApproxIdeal.τ).loc Cert.ReferenceApproxIdeal.main_arg15) = m' ((c.tc : Thread Cert.ReferenceApproxIdeal.nD Cert.ReferenceApproxIdeal.τ).loc Cert.ReferenceApproxIdeal.main_arg15)
          ∧ r.2.mem ((c.tc : Thread Cert.ReferenceApproxIdeal.nD Cert.ReferenceApproxIdeal.τ).loc Cert.ReferenceApproxIdeal.main_arg16) = m' ((c.tc : Thread Cert.ReferenceApproxIdeal.nD Cert.ReferenceApproxIdeal.τ).loc Cert.ReferenceApproxIdeal.main_arg16)
          ∧ r.2.mem ((c.tc : Thread Cert.ReferenceApproxIdeal.nD Cert.ReferenceApproxIdeal.τ).loc Cert.ReferenceApproxIdeal.main_arg17) = m' ((c.tc : Thread Cert.ReferenceApproxIdeal.nD Cert.ReferenceApproxIdeal.τ).loc Cert.ReferenceApproxIdeal.main_arg17)
          ∧ r.2.mem ((c.tc : Thread Cert.ReferenceApproxIdeal.nD Cert.ReferenceApproxIdeal.τ).loc Cert.ReferenceApproxIdeal.main_arg18) = m' ((c.tc : Thread Cert.ReferenceApproxIdeal.nD Cert.ReferenceApproxIdeal.τ).loc Cert.ReferenceApproxIdeal.main_arg18)
          ∧ r.2.mem ((c.tc : Thread Cert.ReferenceApproxIdeal.nD Cert.ReferenceApproxIdeal.τ).loc Cert.ReferenceApproxIdeal.main_arg19) = m' ((c.tc : Thread Cert.ReferenceApproxIdeal.nD Cert.ReferenceApproxIdeal.τ).loc Cert.ReferenceApproxIdeal.main_arg19)
          ∧ r.2.mem ((c.tc : Thread Cert.ReferenceApproxIdeal.nD Cert.ReferenceApproxIdeal.τ).loc Cert.ReferenceApproxIdeal.main_arg20) = m' ((c.tc : Thread Cert.ReferenceApproxIdeal.nD Cert.ReferenceApproxIdeal.τ).loc Cert.ReferenceApproxIdeal.main_arg20)
          ∧ r.2.mem ((c.tc : Thread Cert.ReferenceApproxIdeal.nD Cert.ReferenceApproxIdeal.τ).loc Cert.ReferenceApproxIdeal.main_arg21) = m' ((c.tc : Thread Cert.ReferenceApproxIdeal.nD Cert.ReferenceApproxIdeal.τ).loc Cert.ReferenceApproxIdeal.main_arg21)
          ∧ r.2.mem ((c.tc : Thread Cert.ReferenceApproxIdeal.nD Cert.ReferenceApproxIdeal.τ).loc Cert.ReferenceApproxIdeal.main_arg22) = m' ((c.tc : Thread Cert.ReferenceApproxIdeal.nD Cert.ReferenceApproxIdeal.τ).loc Cert.ReferenceApproxIdeal.main_arg22)
          ∧ r.2.mem ((c.tc : Thread Cert.ReferenceApproxIdeal.nD Cert.ReferenceApproxIdeal.τ).loc Cert.ReferenceApproxIdeal.main_arg23) = m' ((c.tc : Thread Cert.ReferenceApproxIdeal.nD Cert.ReferenceApproxIdeal.τ).loc Cert.ReferenceApproxIdeal.main_arg23)
          ∧ r.2.mem ((c.tc : Thread Cert.ReferenceApproxIdeal.nD Cert.ReferenceApproxIdeal.τ).loc Cert.ReferenceApproxIdeal.main_arg24) = m' ((c.tc : Thread Cert.ReferenceApproxIdeal.nD Cert.ReferenceApproxIdeal.τ).loc Cert.ReferenceApproxIdeal.main_arg24))

def preserves_KernelSine_KernelSineIdeal : Prop :=
  True

def algebraic_KernelSineIdeal_ReferenceIdeal [hKernelSineIdeal : Cert.KernelSineIdeal.Facts] [hReferenceIdeal : Cert.ReferenceIdeal.Facts] : Prop :=
  ∀ (m : (ℓ : Loc Cert.KernelSineIdeal.nD Cert.KernelSineIdeal.τ Cert.KernelSineIdeal.sig) → Buf (Elt Ideal) ℓ) (g : Dev Cert.KernelSineIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelSineIdeal m →
    (∀ c : Dev Cert.KernelSineIdeal.nD,
      m' ((c.tc : Thread Cert.ReferenceIdeal.nD Cert.ReferenceIdeal.τ).loc Cert.ReferenceIdeal.main_arg0) = m ((c.tc : Thread Cert.KernelSineIdeal.nD Cert.KernelSineIdeal.τ).loc Cert.KernelSineIdeal.main_arg0)
      ∧ m' ((c.tc : Thread Cert.ReferenceIdeal.nD Cert.ReferenceIdeal.τ).loc Cert.ReferenceIdeal.main_arg1) = m ((c.tc : Thread Cert.KernelSineIdeal.nD Cert.KernelSineIdeal.τ).loc Cert.KernelSineIdeal.main_arg1)
      ∧ m' ((c.tc : Thread Cert.ReferenceIdeal.nD Cert.ReferenceIdeal.τ).loc Cert.ReferenceIdeal.main_arg2) = m ((c.tc : Thread Cert.KernelSineIdeal.nD Cert.KernelSineIdeal.τ).loc Cert.KernelSineIdeal.main_arg2)
      ∧ m' ((c.tc : Thread Cert.ReferenceIdeal.nD Cert.ReferenceIdeal.τ).loc Cert.ReferenceIdeal.main_arg3) = m ((c.tc : Thread Cert.KernelSineIdeal.nD Cert.KernelSineIdeal.τ).loc Cert.KernelSineIdeal.main_arg3)
      ∧ m' ((c.tc : Thread Cert.ReferenceIdeal.nD Cert.ReferenceIdeal.τ).loc Cert.ReferenceIdeal.main_arg4) = m ((c.tc : Thread Cert.KernelSineIdeal.nD Cert.KernelSineIdeal.τ).loc Cert.KernelSineIdeal.main_arg4)
      ∧ m' ((c.tc : Thread Cert.ReferenceIdeal.nD Cert.ReferenceIdeal.τ).loc Cert.ReferenceIdeal.main_arg5) = m ((c.tc : Thread Cert.KernelSineIdeal.nD Cert.KernelSineIdeal.τ).loc Cert.KernelSineIdeal.main_arg5)
      ∧ m' ((c.tc : Thread Cert.ReferenceIdeal.nD Cert.ReferenceIdeal.τ).loc Cert.ReferenceIdeal.main_arg6) = m ((c.tc : Thread Cert.KernelSineIdeal.nD Cert.KernelSineIdeal.τ).loc Cert.KernelSineIdeal.main_arg6)
      ∧ m' ((c.tc : Thread Cert.ReferenceIdeal.nD Cert.ReferenceIdeal.τ).loc Cert.ReferenceIdeal.main_arg7) = m ((c.tc : Thread Cert.KernelSineIdeal.nD Cert.KernelSineIdeal.τ).loc Cert.KernelSineIdeal.main_arg7)
      ∧ m' ((c.tc : Thread Cert.ReferenceIdeal.nD Cert.ReferenceIdeal.τ).loc Cert.ReferenceIdeal.main_arg8) = m ((c.tc : Thread Cert.KernelSineIdeal.nD Cert.KernelSineIdeal.τ).loc Cert.KernelSineIdeal.main_arg8)
      ∧ m' ((c.tc : Thread Cert.ReferenceIdeal.nD Cert.ReferenceIdeal.τ).loc Cert.ReferenceIdeal.main_arg9) = m ((c.tc : Thread Cert.KernelSineIdeal.nD Cert.KernelSineIdeal.τ).loc Cert.KernelSineIdeal.main_arg9)
      ∧ m' ((c.tc : Thread Cert.ReferenceIdeal.nD Cert.ReferenceIdeal.τ).loc Cert.ReferenceIdeal.main_arg10) = m ((c.tc : Thread Cert.KernelSineIdeal.nD Cert.KernelSineIdeal.τ).loc Cert.KernelSineIdeal.main_arg10)
      ∧ m' ((c.tc : Thread Cert.ReferenceIdeal.nD Cert.ReferenceIdeal.τ).loc Cert.ReferenceIdeal.main_arg11) = m ((c.tc : Thread Cert.KernelSineIdeal.nD Cert.KernelSineIdeal.τ).loc Cert.KernelSineIdeal.main_arg11)
      ∧ m' ((c.tc : Thread Cert.ReferenceIdeal.nD Cert.ReferenceIdeal.τ).loc Cert.ReferenceIdeal.main_arg12) = m ((c.tc : Thread Cert.KernelSineIdeal.nD Cert.KernelSineIdeal.τ).loc Cert.KernelSineIdeal.main_arg12)
      ∧ m' ((c.tc : Thread Cert.ReferenceIdeal.nD Cert.ReferenceIdeal.τ).loc Cert.ReferenceIdeal.main_arg13) = m ((c.tc : Thread Cert.KernelSineIdeal.nD Cert.KernelSineIdeal.τ).loc Cert.KernelSineIdeal.main_arg13)
      ∧ m' ((c.tc : Thread Cert.ReferenceIdeal.nD Cert.ReferenceIdeal.τ).loc Cert.ReferenceIdeal.main_arg14) = m ((c.tc : Thread Cert.KernelSineIdeal.nD Cert.KernelSineIdeal.τ).loc Cert.KernelSineIdeal.main_arg14)
      ∧ m' ((c.tc : Thread Cert.ReferenceIdeal.nD Cert.ReferenceIdeal.τ).loc Cert.ReferenceIdeal.main_arg15) = m ((c.tc : Thread Cert.KernelSineIdeal.nD Cert.KernelSineIdeal.τ).loc Cert.KernelSineIdeal.main_arg15)
      ∧ m' ((c.tc : Thread Cert.ReferenceIdeal.nD Cert.ReferenceIdeal.τ).loc Cert.ReferenceIdeal.main_arg16) = m ((c.tc : Thread Cert.KernelSineIdeal.nD Cert.KernelSineIdeal.τ).loc Cert.KernelSineIdeal.main_arg16)
      ∧ m' ((c.tc : Thread Cert.ReferenceIdeal.nD Cert.ReferenceIdeal.τ).loc Cert.ReferenceIdeal.main_arg17) = m ((c.tc : Thread Cert.KernelSineIdeal.nD Cert.KernelSineIdeal.τ).loc Cert.KernelSineIdeal.main_arg17)
      ∧ m' ((c.tc : Thread Cert.ReferenceIdeal.nD Cert.ReferenceIdeal.τ).loc Cert.ReferenceIdeal.main_arg18) = m ((c.tc : Thread Cert.KernelSineIdeal.nD Cert.KernelSineIdeal.τ).loc Cert.KernelSineIdeal.main_arg18)
      ∧ m' ((c.tc : Thread Cert.ReferenceIdeal.nD Cert.ReferenceIdeal.τ).loc Cert.ReferenceIdeal.main_arg19) = m ((c.tc : Thread Cert.KernelSineIdeal.nD Cert.KernelSineIdeal.τ).loc Cert.KernelSineIdeal.main_arg19)
      ∧ m' ((c.tc : Thread Cert.ReferenceIdeal.nD Cert.ReferenceIdeal.τ).loc Cert.ReferenceIdeal.main_arg20) = m ((c.tc : Thread Cert.KernelSineIdeal.nD Cert.KernelSineIdeal.τ).loc Cert.KernelSineIdeal.main_arg20)
      ∧ m' ((c.tc : Thread Cert.ReferenceIdeal.nD Cert.ReferenceIdeal.τ).loc Cert.ReferenceIdeal.main_arg21) = m ((c.tc : Thread Cert.KernelSineIdeal.nD Cert.KernelSineIdeal.τ).loc Cert.KernelSineIdeal.main_arg21)
      ∧ m' ((c.tc : Thread Cert.ReferenceIdeal.nD Cert.ReferenceIdeal.τ).loc Cert.ReferenceIdeal.main_arg22) = m ((c.tc : Thread Cert.KernelSineIdeal.nD Cert.KernelSineIdeal.τ).loc Cert.KernelSineIdeal.main_arg22)
      ∧ m' ((c.tc : Thread Cert.ReferenceIdeal.nD Cert.ReferenceIdeal.τ).loc Cert.ReferenceIdeal.main_arg23) = m ((c.tc : Thread Cert.KernelSineIdeal.nD Cert.KernelSineIdeal.τ).loc Cert.KernelSineIdeal.main_arg23)
      ∧ m' ((c.tc : Thread Cert.ReferenceIdeal.nD Cert.ReferenceIdeal.τ).loc Cert.ReferenceIdeal.main_arg24) = m ((c.tc : Thread Cert.KernelSineIdeal.nD Cert.KernelSineIdeal.τ).loc Cert.KernelSineIdeal.main_arg24)) →
    ∃ (v0 : (c : Dev Cert.KernelSineIdeal.nD) → Buf (Elt Ideal) ((c.tc : Thread Cert.KernelSineIdeal.nD Cert.KernelSineIdeal.τ).loc Cert.KernelSineIdeal.main_v85)),
      θ_run (Cert.KernelSineIdeal.defs (F := Ideal)) (onTc (τ := Cert.KernelSineIdeal.τ) (Cert.KernelSineIdeal.main (F := Ideal))) ⟨m, fun _ => 0, g⟩ (fun r => ∀ c : Dev Cert.KernelSineIdeal.nD,
          r.2.mem ((c.tc : Thread Cert.KernelSineIdeal.nD Cert.KernelSineIdeal.τ).loc Cert.KernelSineIdeal.main_v85) = v0 c
          ∧ r.2.mem ((c.tc : Thread Cert.KernelSineIdeal.nD Cert.KernelSineIdeal.τ).loc Cert.KernelSineIdeal.main_arg0) = m ((c.tc : Thread Cert.KernelSineIdeal.nD Cert.KernelSineIdeal.τ).loc Cert.KernelSineIdeal.main_arg0)
          ∧ r.2.mem ((c.tc : Thread Cert.KernelSineIdeal.nD Cert.KernelSineIdeal.τ).loc Cert.KernelSineIdeal.main_arg1) = m ((c.tc : Thread Cert.KernelSineIdeal.nD Cert.KernelSineIdeal.τ).loc Cert.KernelSineIdeal.main_arg1)
          ∧ r.2.mem ((c.tc : Thread Cert.KernelSineIdeal.nD Cert.KernelSineIdeal.τ).loc Cert.KernelSineIdeal.main_arg2) = m ((c.tc : Thread Cert.KernelSineIdeal.nD Cert.KernelSineIdeal.τ).loc Cert.KernelSineIdeal.main_arg2)
          ∧ r.2.mem ((c.tc : Thread Cert.KernelSineIdeal.nD Cert.KernelSineIdeal.τ).loc Cert.KernelSineIdeal.main_arg3) = m ((c.tc : Thread Cert.KernelSineIdeal.nD Cert.KernelSineIdeal.τ).loc Cert.KernelSineIdeal.main_arg3)
          ∧ r.2.mem ((c.tc : Thread Cert.KernelSineIdeal.nD Cert.KernelSineIdeal.τ).loc Cert.KernelSineIdeal.main_arg4) = m ((c.tc : Thread Cert.KernelSineIdeal.nD Cert.KernelSineIdeal.τ).loc Cert.KernelSineIdeal.main_arg4)
          ∧ r.2.mem ((c.tc : Thread Cert.KernelSineIdeal.nD Cert.KernelSineIdeal.τ).loc Cert.KernelSineIdeal.main_arg5) = m ((c.tc : Thread Cert.KernelSineIdeal.nD Cert.KernelSineIdeal.τ).loc Cert.KernelSineIdeal.main_arg5)
          ∧ r.2.mem ((c.tc : Thread Cert.KernelSineIdeal.nD Cert.KernelSineIdeal.τ).loc Cert.KernelSineIdeal.main_arg6) = m ((c.tc : Thread Cert.KernelSineIdeal.nD Cert.KernelSineIdeal.τ).loc Cert.KernelSineIdeal.main_arg6)
          ∧ r.2.mem ((c.tc : Thread Cert.KernelSineIdeal.nD Cert.KernelSineIdeal.τ).loc Cert.KernelSineIdeal.main_arg7) = m ((c.tc : Thread Cert.KernelSineIdeal.nD Cert.KernelSineIdeal.τ).loc Cert.KernelSineIdeal.main_arg7)
          ∧ r.2.mem ((c.tc : Thread Cert.KernelSineIdeal.nD Cert.KernelSineIdeal.τ).loc Cert.KernelSineIdeal.main_arg8) = m ((c.tc : Thread Cert.KernelSineIdeal.nD Cert.KernelSineIdeal.τ).loc Cert.KernelSineIdeal.main_arg8)
          ∧ r.2.mem ((c.tc : Thread Cert.KernelSineIdeal.nD Cert.KernelSineIdeal.τ).loc Cert.KernelSineIdeal.main_arg9) = m ((c.tc : Thread Cert.KernelSineIdeal.nD Cert.KernelSineIdeal.τ).loc Cert.KernelSineIdeal.main_arg9)
          ∧ r.2.mem ((c.tc : Thread Cert.KernelSineIdeal.nD Cert.KernelSineIdeal.τ).loc Cert.KernelSineIdeal.main_arg10) = m ((c.tc : Thread Cert.KernelSineIdeal.nD Cert.KernelSineIdeal.τ).loc Cert.KernelSineIdeal.main_arg10)
          ∧ r.2.mem ((c.tc : Thread Cert.KernelSineIdeal.nD Cert.KernelSineIdeal.τ).loc Cert.KernelSineIdeal.main_arg11) = m ((c.tc : Thread Cert.KernelSineIdeal.nD Cert.KernelSineIdeal.τ).loc Cert.KernelSineIdeal.main_arg11)
          ∧ r.2.mem ((c.tc : Thread Cert.KernelSineIdeal.nD Cert.KernelSineIdeal.τ).loc Cert.KernelSineIdeal.main_arg12) = m ((c.tc : Thread Cert.KernelSineIdeal.nD Cert.KernelSineIdeal.τ).loc Cert.KernelSineIdeal.main_arg12)
          ∧ r.2.mem ((c.tc : Thread Cert.KernelSineIdeal.nD Cert.KernelSineIdeal.τ).loc Cert.KernelSineIdeal.main_arg13) = m ((c.tc : Thread Cert.KernelSineIdeal.nD Cert.KernelSineIdeal.τ).loc Cert.KernelSineIdeal.main_arg13)
          ∧ r.2.mem ((c.tc : Thread Cert.KernelSineIdeal.nD Cert.KernelSineIdeal.τ).loc Cert.KernelSineIdeal.main_arg14) = m ((c.tc : Thread Cert.KernelSineIdeal.nD Cert.KernelSineIdeal.τ).loc Cert.KernelSineIdeal.main_arg14)
          ∧ r.2.mem ((c.tc : Thread Cert.KernelSineIdeal.nD Cert.KernelSineIdeal.τ).loc Cert.KernelSineIdeal.main_arg15) = m ((c.tc : Thread Cert.KernelSineIdeal.nD Cert.KernelSineIdeal.τ).loc Cert.KernelSineIdeal.main_arg15)
          ∧ r.2.mem ((c.tc : Thread Cert.KernelSineIdeal.nD Cert.KernelSineIdeal.τ).loc Cert.KernelSineIdeal.main_arg16) = m ((c.tc : Thread Cert.KernelSineIdeal.nD Cert.KernelSineIdeal.τ).loc Cert.KernelSineIdeal.main_arg16)
          ∧ r.2.mem ((c.tc : Thread Cert.KernelSineIdeal.nD Cert.KernelSineIdeal.τ).loc Cert.KernelSineIdeal.main_arg17) = m ((c.tc : Thread Cert.KernelSineIdeal.nD Cert.KernelSineIdeal.τ).loc Cert.KernelSineIdeal.main_arg17)
          ∧ r.2.mem ((c.tc : Thread Cert.KernelSineIdeal.nD Cert.KernelSineIdeal.τ).loc Cert.KernelSineIdeal.main_arg18) = m ((c.tc : Thread Cert.KernelSineIdeal.nD Cert.KernelSineIdeal.τ).loc Cert.KernelSineIdeal.main_arg18)
          ∧ r.2.mem ((c.tc : Thread Cert.KernelSineIdeal.nD Cert.KernelSineIdeal.τ).loc Cert.KernelSineIdeal.main_arg19) = m ((c.tc : Thread Cert.KernelSineIdeal.nD Cert.KernelSineIdeal.τ).loc Cert.KernelSineIdeal.main_arg19)
          ∧ r.2.mem ((c.tc : Thread Cert.KernelSineIdeal.nD Cert.KernelSineIdeal.τ).loc Cert.KernelSineIdeal.main_arg20) = m ((c.tc : Thread Cert.KernelSineIdeal.nD Cert.KernelSineIdeal.τ).loc Cert.KernelSineIdeal.main_arg20)
          ∧ r.2.mem ((c.tc : Thread Cert.KernelSineIdeal.nD Cert.KernelSineIdeal.τ).loc Cert.KernelSineIdeal.main_arg21) = m ((c.tc : Thread Cert.KernelSineIdeal.nD Cert.KernelSineIdeal.τ).loc Cert.KernelSineIdeal.main_arg21)
          ∧ r.2.mem ((c.tc : Thread Cert.KernelSineIdeal.nD Cert.KernelSineIdeal.τ).loc Cert.KernelSineIdeal.main_arg22) = m ((c.tc : Thread Cert.KernelSineIdeal.nD Cert.KernelSineIdeal.τ).loc Cert.KernelSineIdeal.main_arg22)
          ∧ r.2.mem ((c.tc : Thread Cert.KernelSineIdeal.nD Cert.KernelSineIdeal.τ).loc Cert.KernelSineIdeal.main_arg23) = m ((c.tc : Thread Cert.KernelSineIdeal.nD Cert.KernelSineIdeal.τ).loc Cert.KernelSineIdeal.main_arg23)
          ∧ r.2.mem ((c.tc : Thread Cert.KernelSineIdeal.nD Cert.KernelSineIdeal.τ).loc Cert.KernelSineIdeal.main_arg24) = m ((c.tc : Thread Cert.KernelSineIdeal.nD Cert.KernelSineIdeal.τ).loc Cert.KernelSineIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceApproxIdeal : Cert.ReferenceApproxIdeal.Facts) (hKernelSine : Cert.KernelSine.Facts) (hKernelSineIdeal : Cert.KernelSineIdeal.Facts) (hReferenceIdeal : Cert.ReferenceIdeal.Facts),
    quiescent_Kernel (hKernel := hKernel)
    ∧ quiescent_KernelIdeal (hKernelIdeal := hKernelIdeal)
    ∧ quiescent_ReferenceApproxIdeal (hReferenceApproxIdeal := hReferenceApproxIdeal)
    ∧ quiescent_KernelSine (hKernelSine := hKernelSine)
    ∧ quiescent_KernelSineIdeal (hKernelSineIdeal := hKernelSineIdeal)
    ∧ quiescent_ReferenceIdeal (hReferenceIdeal := hReferenceIdeal)
    ∧ preserves_Kernel_KernelIdeal
    ∧ algebraic_KernelIdeal_ReferenceApproxIdeal (hKernelIdeal := hKernelIdeal) (hReferenceApproxIdeal := hReferenceApproxIdeal)
    ∧ preserves_KernelSine_KernelSineIdeal
    ∧ algebraic_KernelSineIdeal_ReferenceIdeal (hKernelSineIdeal := hKernelSineIdeal) (hReferenceIdeal := hReferenceIdeal)
-- ==== Kernel.lean ====
abbrev S32768x1 : Shape := ⟨2, ![32768, 1]⟩
abbrev S32768x32 : Shape := ⟨2, ![32768, 32]⟩
abbrev S32768 : Shape := ⟨1, ![32768]⟩
abbrev S8x1 : Shape := ⟨2, ![8, 1]⟩
abbrev S8 : Shape := ⟨1, ![8]⟩
abbrev S64x40 : Shape := ⟨2, ![64, 40]⟩
abbrev S64 : Shape := ⟨1, ![64]⟩
abbrev S64x64 : Shape := ⟨2, ![64, 64]⟩
abbrev S128x192 : Shape := ⟨2, ![128, 192]⟩
abbrev S128 : Shape := ⟨1, ![128]⟩
abbrev S1x32768 : Shape := ⟨2, ![1, 32768]⟩
abbrev S_ : Shape := ⟨0, ![]⟩
abbrev S8x32768 : Shape := ⟨2, ![8, 32768]⟩
abbrev S24 : Shape := ⟨1, ![24]⟩
abbrev S24x1 : Shape := ⟨2, ![24, 1]⟩
abbrev S24x4 : Shape := ⟨2, ![24, 4]⟩
abbrev S16 : Shape := ⟨1, ![16]⟩
abbrev S48 : Shape := ⟨1, ![48]⟩
abbrev S1x48 : Shape := ⟨2, ![1, 48]⟩
abbrev S3x48 : Shape := ⟨2, ![3, 48]⟩
abbrev S1x16 : Shape := ⟨2, ![1, 16]⟩
abbrev S3x16 : Shape := ⟨2, ![3, 16]⟩
abbrev S8x64 : Shape := ⟨2, ![8, 64]⟩
abbrev S64x8 : Shape := ⟨2, ![64, 8]⟩
abbrev S8x128 : Shape := ⟨2, ![8, 128]⟩
abbrev S24x128 : Shape := ⟨2, ![24, 128]⟩
abbrev S32x64 : Shape := ⟨2, ![32, 64]⟩
abbrev S64x32 : Shape := ⟨2, ![64, 32]⟩
abbrev S32x128 : Shape := ⟨2, ![32, 128]⟩
abbrev S1x128 : Shape := ⟨2, ![1, 128]⟩
abbrev S64x128 : Shape := ⟨2, ![64, 128]⟩
abbrev S128x128 : Shape := ⟨2, ![128, 128]⟩
abbrev S16x64 : Shape := ⟨2, ![16, 64]⟩
abbrev S24x64 : Shape := ⟨2, ![24, 64]⟩
abbrev S1x64 : Shape := ⟨2, ![1, 64]⟩
abbrev S128x64 : Shape := ⟨2, ![128, 64]⟩
abbrev S16x128 : Shape := ⟨2, ![16, 128]⟩
abbrev S8x4096 : Shape := ⟨2, ![8, 4096]⟩
abbrev S4096x32 : Shape := ⟨2, ![4096, 32]⟩
abbrev S48x193 : Shape := ⟨2, ![48, 193]⟩
abbrev S4x4096 : Shape := ⟨2, ![4, 4096]⟩
abbrev S24x4096 : Shape := ⟨2, ![24, 4096]⟩
abbrev S4096x128 : Shape := ⟨2, ![4096, 128]⟩
abbrev S4096x64 : Shape := ⟨2, ![4096, 64]⟩
abbrev S3x4096 : Shape := ⟨2, ![3, 4096]⟩
abbrev S4096x48 : Shape := ⟨2, ![4096, 48]⟩
abbrev S4096x1 : Shape := ⟨2, ![4096, 1]⟩
abbrev S48x128 : Shape := ⟨2, ![48, 128]⟩
abbrev S48x64 : Shape := ⟨2, ![48, 64]⟩
abbrev S48x1 : Shape := ⟨2, ![48, 1]⟩
abbrev S16x1 : Shape := ⟨2, ![16, 1]⟩

abbrev nBuf : Space → Nat
  | .hbm => 121
  | .vmem => 28
  | .smem => 0
  | _ => 0

abbrev bufTy : (tb : Table) → Fin (tcTables nBuf tb) → BufTy
  | .hbm, ⟨0, _⟩ => ⟨S32768x1, .f32⟩
  | .hbm, ⟨1, _⟩ => ⟨S32768x32, .f32⟩
  | .hbm, ⟨2, _⟩ => ⟨S32768, .i32⟩
  | .hbm, ⟨3, _⟩ => ⟨S32768x1, .f32⟩
  | .hbm, ⟨4, _⟩ => ⟨S32768x32, .f32⟩
  | .hbm, ⟨5, _⟩ => ⟨S32768, .i32⟩
  | .hbm, ⟨6, _⟩ => ⟨S32768x1, .f32⟩
  | .hbm, ⟨7, _⟩ => ⟨S32768x32, .f32⟩
  | .hbm, ⟨8, _⟩ => ⟨S32768, .i32⟩
  | .hbm, ⟨9, _⟩ => ⟨S8x1, .f32⟩
  | .hbm, ⟨10, _⟩ => ⟨S8, .f32⟩
  | .hbm, ⟨11, _⟩ => ⟨S64x40, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64x40, .f32⟩
  | .hbm, ⟨16, _⟩ => ⟨S64, .f32⟩
  | .hbm, ⟨17, _⟩ => ⟨S64x64, .f32⟩
  | .hbm, ⟨18, _⟩ => ⟨S64, .f32⟩
  | .hbm, ⟨19, _⟩ => ⟨S64x40, .f32⟩
  | .hbm, ⟨20, _⟩ => ⟨S64, .f32⟩
  | .hbm, ⟨21, _⟩ => ⟨S64x64, .f32⟩
  | .hbm, ⟨22, _⟩ => ⟨S64, .f32⟩
  | .hbm, ⟨23, _⟩ => ⟨S128x192, .f32⟩
  | .hbm, ⟨24, _⟩ => ⟨S128, .f32⟩
  | .hbm, ⟨25, _⟩ => ⟨S1x32768, .f32⟩
  | .hbm, ⟨26, _⟩ => ⟨S1x32768, .f32⟩
  | .hbm, ⟨27, _⟩ => ⟨S1x32768, .f32⟩
  | .hbm, ⟨28, _⟩ => ⟨S_, .f32⟩
  | .hbm, ⟨29, _⟩ => ⟨S1x32768, .f32⟩
  | .hbm, ⟨30, _⟩ => ⟨S32768, .f32⟩
  | .hbm, ⟨31, _⟩ => ⟨S1x32768, .f32⟩
  | .hbm, ⟨32, _⟩ => ⟨S32768, .f32⟩
  | .hbm, ⟨33, _⟩ => ⟨S1x32768, .f32⟩
  | .hbm, ⟨34, _⟩ => ⟨S32768, .f32⟩
  | .hbm, ⟨35, _⟩ => ⟨S1x32768, .f32⟩
  | .hbm, ⟨36, _⟩ => ⟨S_, .f32⟩
  | .hbm, ⟨37, _⟩ => ⟨S1x32768, .f32⟩
  | .hbm, ⟨38, _⟩ => ⟨S8x32768, .f32⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S24, .f32⟩
  | .hbm, ⟨43, _⟩ => ⟨S24, .f32⟩
  | .hbm, ⟨44, _⟩ => ⟨S24, .f32⟩
  | .hbm, ⟨45, _⟩ => ⟨S24, .f32⟩
  | .hbm, ⟨46, _⟩ => ⟨S24x1, .f32⟩
  | .hbm, ⟨47, _⟩ => ⟨S24x1, .f32⟩
  | .hbm, ⟨48, _⟩ => ⟨S24x1, .f32⟩
  | .hbm, ⟨49, _⟩ => ⟨S24x1, .f32⟩
  | .hbm, ⟨50, _⟩ => ⟨S24x4, .f32⟩
  | .hbm, ⟨51, _⟩ => ⟨S_, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S48, .f32⟩
  | .hbm, ⟨56, _⟩ => ⟨S48, .f32⟩
  | .hbm, ⟨57, _⟩ => ⟨S48, .f32⟩
  | .hbm, ⟨58, _⟩ => ⟨S1x48, .f32⟩
  | .hbm, ⟨59, _⟩ => ⟨S1x48, .f32⟩
  | .hbm, ⟨60, _⟩ => ⟨S1x48, .f32⟩
  | .hbm, ⟨61, _⟩ => ⟨S3x48, .f32⟩
  | .hbm, ⟨62, _⟩ => ⟨S16, .f32⟩
  | .hbm, ⟨63, _⟩ => ⟨S1x16, .f32⟩
  | .hbm, ⟨64, _⟩ => ⟨S3x16, .f32⟩
  | .hbm, ⟨65, _⟩ => ⟨S48, .f32⟩
  | .hbm, ⟨66, _⟩ => ⟨S1x48, .f32⟩
  | .hbm, ⟨67, _⟩ => ⟨S_, .f32⟩
  | .hbm, ⟨68, _⟩ => ⟨S8x64, .f32⟩
  | .hbm, ⟨69, _⟩ => ⟨S64x8, .f32⟩
  | .hbm, ⟨70, _⟩ => ⟨S8x64, .f32⟩
  | .hbm, ⟨71, _⟩ => ⟨S8x128, .f32⟩
  | .hbm, ⟨72, _⟩ => ⟨S64x8, .f32⟩
  | .hbm, ⟨73, _⟩ => ⟨S8x64, .f32⟩
  | .hbm, ⟨74, _⟩ => ⟨S8x128, .f32⟩
  | .hbm, ⟨75, _⟩ => ⟨S_, .f32⟩
  | .hbm, ⟨76, _⟩ => ⟨S8x128, .f32⟩
  | .hbm, ⟨77, _⟩ => ⟨S24x128, .f32⟩
  | .hbm, ⟨78, _⟩ => ⟨S_, .f32⟩
  | .hbm, ⟨79, _⟩ => ⟨S32x64, .f32⟩
  | .hbm, ⟨80, _⟩ => ⟨S64x32, .f32⟩
  | .hbm, ⟨81, _⟩ => ⟨S32x64, .f32⟩
  | .hbm, ⟨82, _⟩ => ⟨S32x128, .f32⟩
  | .hbm, ⟨83, _⟩ => ⟨S32x128, .bf16⟩
  | .hbm, ⟨84, _⟩ => ⟨S64x32, .f32⟩
  | .hbm, ⟨85, _⟩ => ⟨S32x64, .f32⟩
  | .hbm, ⟨86, _⟩ => ⟨S32x128, .f32⟩
  | .hbm, ⟨87, _⟩ => ⟨S32x128, .bf16⟩
  | .hbm, ⟨88, _⟩ => ⟨S128, .f32⟩
  | .hbm, ⟨89, _⟩ => ⟨S1x128, .f32⟩
  | .hbm, ⟨90, _⟩ => ⟨S_, .f32⟩
  | .hbm, ⟨91, _⟩ => ⟨S64x64, .f32⟩
  | .hbm, ⟨92, _⟩ => ⟨S64x64, .f32⟩
  | .hbm, ⟨93, _⟩ => ⟨S64x128, .f32⟩
  | .hbm, ⟨94, _⟩ => ⟨S64x64, .f32⟩
  | .hbm, ⟨95, _⟩ => ⟨S64x128, .f32⟩
  | .hbm, ⟨96, _⟩ => ⟨S128x128, .f32⟩
  | .hbm, ⟨97, _⟩ => ⟨S128, .f32⟩
  | .hbm, ⟨98, _⟩ => ⟨S1x128, .f32⟩
  | .hbm, ⟨99, _⟩ => ⟨S_, .f32⟩
  | .hbm, ⟨100, _⟩ => ⟨S16x64, .f32⟩
  | .hbm, ⟨101, _⟩ => ⟨S64x8, .f32⟩
  | .hbm, ⟨102, _⟩ => ⟨S8x64, .f32⟩
  | .hbm, ⟨103, _⟩ => ⟨S24x64, .f32⟩
  | .hbm, ⟨104, _⟩ => ⟨S64x32, .f32⟩
  | .hbm, ⟨105, _⟩ => ⟨S32x64, .f32⟩
  | .hbm, ⟨106, _⟩ => ⟨S32x64, .bf16⟩
  | .hbm, ⟨107, _⟩ => ⟨S1x64, .f32⟩
  | .hbm, ⟨108, _⟩ => ⟨S64x64, .f32⟩
  | .hbm, ⟨109, _⟩ => ⟨S1x64, .f32⟩
  | .hbm, ⟨110, _⟩ => ⟨S128x64, .f32⟩
  | .hbm, ⟨111, _⟩ => ⟨S64x128, .f32⟩
  | .hbm, ⟨112, _⟩ => ⟨S128x64, .f32⟩
  | .hbm, ⟨113, _⟩ => ⟨S64x128, .f32⟩
  | .hbm, ⟨114, _⟩ => ⟨S128x64, .f32⟩
  | .hbm, ⟨115, _⟩ => ⟨S64x128, .f32⟩
  | .hbm, ⟨116, _⟩ => ⟨S1x128, .f32⟩
  | .hbm, ⟨117, _⟩ => ⟨S32768x32, .bf16⟩
  | .hbm, ⟨118, _⟩ => ⟨S32768x32, .bf16⟩
  | .hbm, ⟨119, _⟩ => ⟨S32768x32, .bf16⟩
  | .hbm, ⟨120, _⟩ => ⟨S16x128, .f32⟩
  | .local _ .vmem, ⟨0, _⟩ => ⟨S8x4096, .f32⟩
  | .local _ .vmem, ⟨1, _⟩ => ⟨S8x4096, .f32⟩
  | .local _ .vmem, ⟨2, _⟩ => ⟨S4096x32, .bf16⟩
  | .local _ .vmem, ⟨3, _⟩ => ⟨S4096x32, .bf16⟩
  | .local _ .vmem, ⟨4, _⟩ => ⟨S4096x32, .bf16⟩
  | .local _ .vmem, ⟨5, _⟩ => ⟨S4096x32, .bf16⟩
  | .local _ .vmem, ⟨6, _⟩ => ⟨S4096x32, .bf16⟩
  | .local _ .vmem, ⟨7, _⟩ => ⟨S4096x32, .bf16⟩
  | .local _ .vmem, ⟨8, _⟩ => ⟨S24x4, .f32⟩
  | .local _ .vmem, ⟨9, _⟩ => ⟨S1x48, .f32⟩
  | .local _ .vmem, ⟨10, _⟩ => ⟨S3x48, .f32⟩
  | .local _ .vmem, ⟨11, _⟩ => ⟨S24x128, .f32⟩
  | .local _ .vmem, ⟨12, _⟩ => ⟨S32x128, .bf16⟩
  | .local _ .vmem, ⟨13, _⟩ => ⟨S32x128, .bf16⟩
  | .local _ .vmem, ⟨14, _⟩ => ⟨S1x128, .f32⟩
  | .local _ .vmem, ⟨15, _⟩ => ⟨S128x128, .f32⟩
  | .local _ .vmem, ⟨16, _⟩ => ⟨S1x128, .f32⟩
  | .local _ .vmem, ⟨17, _⟩ => ⟨S24x64, .f32⟩
  | .local _ .vmem, ⟨18, _⟩ => ⟨S32x64, .bf16⟩
  | .local _ .vmem, ⟨19, _⟩ => ⟨S1x64, .f32⟩
  | .local _ .vmem, ⟨20, _⟩ => ⟨S64x64, .f32⟩
  | .local _ .vmem, ⟨21, _⟩ => ⟨S1x64, .f32⟩
  | .local _ .vmem, ⟨22, _⟩ => ⟨S64x128, .f32⟩
  | .local _ .vmem, ⟨23, _⟩ => ⟨S64x128, .f32⟩
  | .local _ .vmem, ⟨24, _⟩ => ⟨S64x128, .f32⟩
  | .local _ .vmem, ⟨25, _⟩ => ⟨S1x128, .f32⟩
  | .local _ .vmem, ⟨26, _⟩ => ⟨S16x128, .f32⟩
  | .local _ .vmem, ⟨27, _⟩ => ⟨S48x193, .f32⟩
  | _, _ => ⟨S32768x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_cst : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_cst_0 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_cst_1 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_2 : Ref sig .tc := ⟨.hbm, 51, rfl⟩
abbrev main_v23 : Ref sig .tc := ⟨.hbm, 52, rfl⟩
abbrev main_cst_3 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_4 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_5 : Ref sig .tc := ⟨.hbm, 75, rfl⟩
abbrev main_v44 : Ref sig .tc := ⟨.hbm, 76, rfl⟩
abbrev main_v45 : Ref sig .tc := ⟨.hbm, 77, rfl⟩
abbrev main_cst_6 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_7 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_8 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg21_0 : Ref sig .tc := ⟨.vmem, 25, rfl⟩
abbrev cc0_stg22_0 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem21_0 : DmaSem sig := 25
abbrev cc0_sem22_0 : DmaSem sig := 26

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v156 : BitVec 1 := Scalar.cmpi .eq arg0 c7_i32
  let v157 : BitVec 32 := Scalar.extui v156
  let c0_i32_82 : BitVec 32 := 0#32
  let v158 : BitVec 1 := Scalar.cmpi .ne v157 c0_i32_82
  v158

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x32 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S24x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S24x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S24x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32x64 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S64x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S64x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S64x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S64x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S16x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== ReferenceApproxIdeal.lean ====
abbrev S32768x1 : Shape := ⟨2, ![32768, 1]⟩
abbrev S32768x32 : Shape := ⟨2, ![32768, 32]⟩
abbrev S32768 : Shape := ⟨1, ![32768]⟩
abbrev S8x1 : Shape := ⟨2, ![8, 1]⟩
abbrev S8 : Shape := ⟨1, ![8]⟩
abbrev S64x40 : Shape := ⟨2, ![64, 40]⟩
abbrev S64 : Shape := ⟨1, ![64]⟩
abbrev S64x64 : Shape := ⟨2, ![64, 64]⟩
abbrev S128x192 : Shape := ⟨2, ![128, 192]⟩
abbrev S128 : Shape := ⟨1, ![128]⟩
abbrev S1x8 : Shape := ⟨2, ![1, 8]⟩
abbrev S32768x8 : Shape := ⟨2, ![32768, 8]⟩
abbrev S32768x7 : Shape := ⟨2, ![32768, 7]⟩
abbrev S_ : Shape := ⟨0, ![]⟩
abbrev S32768x40 : Shape := ⟨2, ![32768, 40]⟩
abbrev S40x64 : Shape := ⟨2, ![40, 64]⟩
abbrev S32768x64 : Shape := ⟨2, ![32768, 64]⟩
abbrev S1x64 : Shape := ⟨2, ![1, 64]⟩
abbrev S16x64 : Shape := ⟨2, ![16, 64]⟩
abbrev S16x1 : Shape := ⟨2, ![16, 1]⟩
abbrev S16x192 : Shape := ⟨2, ![16, 192]⟩
abbrev S192x128 : Shape := ⟨2, ![192, 128]⟩
abbrev S16x128 : Shape := ⟨2, ![16, 128]⟩
abbrev S1x128 : Shape := ⟨2, ![1, 128]⟩

abbrev nBuf : Space → Nat
  | .hbm => 308
  | .vmem => 0
  | .smem => 0
  | _ => 0

abbrev hbmTy0_0 (i : Nat) : BufTy := match i % 128 with
  | 0 => ⟨S32768x1, .f32⟩
  | 1 => ⟨S32768x32, .f32⟩
  | 2 => ⟨S32768, .i32⟩
  | 3 => ⟨S32768x1, .f32⟩
  | 4 => ⟨S32768x32, .f32⟩
  | 5 => ⟨S32768, .i32⟩
  | 6 => ⟨S32768x1, .f32⟩
  | 7 => ⟨S32768x32, .f32⟩
  | 8 => ⟨S32768, .i32⟩
  | 9 => ⟨S8x1, .f32⟩
  | 10 => ⟨S8, .f32⟩
  | 11 => ⟨S64x40, .f32⟩
  | 12 => ⟨S64, .f32⟩
  | 13 => ⟨S64x64, .f32⟩
  | 14 => ⟨S64, .f32⟩
  | 15 => ⟨S64x40, .f32⟩
  | 16 => ⟨S64, .f32⟩
  | 17 => ⟨S64x64, .f32⟩
  | 18 => ⟨S64, .f32⟩
  | 19 => ⟨S64x40, .f32⟩
  | 20 => ⟨S64, .f32⟩
  | 21 => ⟨S64x64, .f32⟩
  | 22 => ⟨S64, .f32⟩
  | 23 => ⟨S128x192, .f32⟩
  | 24 => ⟨S128, .f32⟩
  | 25 => ⟨S1x8, .f32⟩
  | 26 => ⟨S32768x8, .f32⟩
  | 27 => ⟨S1x8, .f32⟩
  | 28 => ⟨S32768x8, .f32⟩
  | 29 => ⟨S32768x8, .f32⟩
  | 30 => ⟨S32768x1, .f32⟩
  | 31 => ⟨S32768x7, .f32⟩
  | 32 => ⟨S_, .f32⟩
  | 33 => ⟨S32768x7, .f32⟩
  | 34 => ⟨S32768x7, .f32⟩
  | 35 => ⟨S32768x7, .f32⟩
  | 36 => ⟨S_, .f32⟩
  | 37 => ⟨S32768x7, .f32⟩
  | 38 => ⟨S32768x7, .f32⟩
  | 39 => ⟨S32768x7, .f32⟩
  | 40 => ⟨S_, .f32⟩
  | 41 => ⟨S32768x7, .f32⟩
  | 42 => ⟨S32768x7, .f32⟩
  | 43 => ⟨S32768x7, .f32⟩
  | 44 => ⟨S32768x7, .f32⟩
  | 45 => ⟨S_, .f32⟩
  | 46 => ⟨S32768x7, .f32⟩
  | 47 => ⟨S32768x7, .f32⟩
  | 48 => ⟨S_, .f32⟩
  | 49 => ⟨S32768x7, .f32⟩
  | 50 => ⟨S32768x7, .f32⟩
  | 51 => ⟨S32768x7, .f32⟩
  | 52 => ⟨S_, .f32⟩
  | 53 => ⟨S32768x7, .f32⟩
  | 54 => ⟨S32768x7, .f32⟩
  | 55 => ⟨S32768x7, .f32⟩
  | 56 => ⟨S_, .f32⟩
  | 57 => ⟨S32768x7, .f32⟩
  | 58 => ⟨S32768x7, .f32⟩
  | 59 => ⟨S32768x7, .f32⟩
  | 60 => ⟨S_, .f32⟩
  | 61 => ⟨S32768x7, .f32⟩
  | 62 => ⟨S32768x7, .f32⟩
  | 63 => ⟨S32768x7, .f32⟩
  | 64 => ⟨S32768x7, .i32⟩
  | 65 => ⟨S_, .i32⟩
  | 66 => ⟨S32768x7, .i32⟩
  | 67 => ⟨S32768x7, .i32⟩
  | 68 => ⟨S_, .i32⟩
  | 69 => ⟨S32768x7, .i32⟩
  | 70 => ⟨S32768x7, .i1⟩
  | 71 => ⟨S32768x7, .f32⟩
  | 72 => ⟨S32768x7, .f32⟩
  | 73 => ⟨S32768x8, .f32⟩
  | 74 => ⟨S32768x40, .f32⟩
  | 75 => ⟨S40x64, .f32⟩
  | 76 => ⟨S32768x64, .f32⟩
  | 77 => ⟨S1x64, .f32⟩
  | 78 => ⟨S32768x64, .f32⟩
  | 79 => ⟨S32768x64, .f32⟩
  | 80 => ⟨S_, .f32⟩
  | 81 => ⟨S32768x64, .f32⟩
  | 82 => ⟨S32768x64, .i1⟩
  | 83 => ⟨S_, .f32⟩
  | 84 => ⟨S32768x64, .f32⟩
  | 85 => ⟨S32768x64, .f32⟩
  | 86 => ⟨S32768x64, .f32⟩
  | 87 => ⟨S64x64, .f32⟩
  | 88 => ⟨S32768x64, .f32⟩
  | 89 => ⟨S1x64, .f32⟩
  | 90 => ⟨S32768x64, .f32⟩
  | 91 => ⟨S32768x64, .f32⟩
  | 92 => ⟨S_, .f32⟩
  | 93 => ⟨S32768x64, .f32⟩
  | 94 => ⟨S32768x64, .i1⟩
  | 95 => ⟨S_, .f32⟩
  | 96 => ⟨S32768x64, .f32⟩
  | 97 => ⟨S32768x64, .f32⟩
  | 98 => ⟨S32768x64, .f32⟩
  | 99 => ⟨S_, .f32⟩
  | 100 => ⟨S16x64, .f32⟩
  | 101 => ⟨S32768x1, .i32⟩
  | 102 => ⟨S16x64, .f32⟩
  | 103 => ⟨S_, .f32⟩
  | 104 => ⟨S32768x1, .f32⟩
  | 105 => ⟨S_, .f32⟩
  | 106 => ⟨S16x1, .f32⟩
  | 107 => ⟨S32768x1, .i32⟩
  | 108 => ⟨S16x1, .f32⟩
  | 109 => ⟨S_, .f32⟩
  | 110 => ⟨S_, .f32⟩
  | 111 => ⟨S16x1, .f32⟩
  | 112 => ⟨S16x1, .f32⟩
  | 113 => ⟨S16x64, .f32⟩
  | 114 => ⟨S16x64, .f32⟩
  | 115 => ⟨S1x8, .f32⟩
  | 116 => ⟨S32768x8, .f32⟩
  | 117 => ⟨S1x8, .f32⟩
  | 118 => ⟨S32768x8, .f32⟩
  | 119 => ⟨S32768x8, .f32⟩
  | 120 => ⟨S32768x1, .f32⟩
  | 121 => ⟨S32768x7, .f32⟩
  | 122 => ⟨S_, .f32⟩
  | 123 => ⟨S32768x7, .f32⟩
  | 124 => ⟨S32768x7, .f32⟩
  | 125 => ⟨S32768x7, .f32⟩
  | 126 => ⟨S_, .f32⟩
  | 127 => ⟨S32768x7, .f32⟩
  | _ => ⟨S32768x1, .f32⟩

abbrev hbmTy0_1 (i : Nat) : BufTy := match i % 128 with
  | 0 => ⟨S32768x7, .f32⟩
  | 1 => ⟨S32768x7, .f32⟩
  | 2 => ⟨S_, .f32⟩
  | 3 => ⟨S32768x7, .f32⟩
  | 4 => ⟨S32768x7, .f32⟩
  | 5 => ⟨S32768x7, .f32⟩
  | 6 => ⟨S32768x7, .f32⟩
  | 7 => ⟨S_, .f32⟩
  | 8 => ⟨S32768x7, .f32⟩
  | 9 => ⟨S32768x7, .f32⟩
  | 10 => ⟨S_, .f32⟩
  | 11 => ⟨S32768x7, .f32⟩
  | 12 => ⟨S32768x7, .f32⟩
  | 13 => ⟨S32768x7, .f32⟩
  | 14 => ⟨S_, .f32⟩
  | 15 => ⟨S32768x7, .f32⟩
  | 16 => ⟨S32768x7, .f32⟩
  | 17 => ⟨S32768x7, .f32⟩
  | 18 => ⟨S_, .f32⟩
  | 19 => ⟨S32768x7, .f32⟩
  | 20 => ⟨S32768x7, .f32⟩
  | 21 => ⟨S32768x7, .f32⟩
  | 22 => ⟨S_, .f32⟩
  | 23 => ⟨S32768x7, .f32⟩
  | 24 => ⟨S32768x7, .f32⟩
  | 25 => ⟨S32768x7, .f32⟩
  | 26 => ⟨S32768x7, .i32⟩
  | 27 => ⟨S_, .i32⟩
  | 28 => ⟨S32768x7, .i32⟩
  | 29 => ⟨S32768x7, .i32⟩
  | 30 => ⟨S_, .i32⟩
  | 31 => ⟨S32768x7, .i32⟩
  | 32 => ⟨S32768x7, .i1⟩
  | 33 => ⟨S32768x7, .f32⟩
  | 34 => ⟨S32768x7, .f32⟩
  | 35 => ⟨S32768x8, .f32⟩
  | 36 => ⟨S32768x40, .f32⟩
  | 37 => ⟨S40x64, .f32⟩
  | 38 => ⟨S32768x64, .f32⟩
  | 39 => ⟨S1x64, .f32⟩
  | 40 => ⟨S32768x64, .f32⟩
  | 41 => ⟨S32768x64, .f32⟩
  | 42 => ⟨S_, .f32⟩
  | 43 => ⟨S32768x64, .f32⟩
  | 44 => ⟨S32768x64, .i1⟩
  | 45 => ⟨S_, .f32⟩
  | 46 => ⟨S32768x64, .f32⟩
  | 47 => ⟨S32768x64, .f32⟩
  | 48 => ⟨S32768x64, .f32⟩
  | 49 => ⟨S64x64, .f32⟩
  | 50 => ⟨S32768x64, .f32⟩
  | 51 => ⟨S1x64, .f32⟩
  | 52 => ⟨S32768x64, .f32⟩
  | 53 => ⟨S32768x64, .f32⟩
  | 54 => ⟨S_, .f32⟩
  | 55 => ⟨S32768x64, .f32⟩
  | 56 => ⟨S32768x64, .i1⟩
  | 57 => ⟨S_, .f32⟩
  | 58 => ⟨S32768x64, .f32⟩
  | 59 => ⟨S32768x64, .f32⟩
  | 60 => ⟨S32768x64, .f32⟩
  | 61 => ⟨S_, .f32⟩
  | 62 => ⟨S16x64, .f32⟩
  | 63 => ⟨S32768x1, .i32⟩
  | 64 => ⟨S16x64, .f32⟩
  | 65 => ⟨S_, .f32⟩
  | 66 => ⟨S32768x1, .f32⟩
  | 67 => ⟨S_, .f32⟩
  | 68 => ⟨S16x1, .f32⟩
  | 69 => ⟨S32768x1, .i32⟩
  | 70 => ⟨S16x1, .f32⟩
  | 71 => ⟨S_, .f32⟩
  | 72 => ⟨S_, .f32⟩
  | 73 => ⟨S16x1, .f32⟩
  | 74 => ⟨S16x1, .f32⟩
  | 75 => ⟨S16x64, .f32⟩
  | 76 => ⟨S16x64, .f32⟩
  | 77 => ⟨S1x8, .f32⟩
  | 78 => ⟨S32768x8, .f32⟩
  | 79 => ⟨S1x8, .f32⟩
  | 80 => ⟨S32768x8, .f32⟩
  | 81 => ⟨S32768x8, .f32⟩
  | 82 => ⟨S32768x1, .f32⟩
  | 83 => ⟨S32768x7, .f32⟩
  | 84 => ⟨S_, .f32⟩
  | 85 => ⟨S32768x7, .f32⟩
  | 86 => ⟨S32768x7, .f32⟩
  | 87 => ⟨S32768x7, .f32⟩
  | 88 => ⟨S_, .f32⟩
  | 89 => ⟨S32768x7, .f32⟩
  | 90 => ⟨S32768x7, .f32⟩
  | 91 => ⟨S32768x7, .f32⟩
  | 92 => ⟨S_, .f32⟩
  | 93 => ⟨S32768x7, .f32⟩
  | 94 => ⟨S32768x7, .f32⟩
  | 95 => ⟨S32768x7, .f32⟩
  | 96 => ⟨S32768x7, .f32⟩
  | 97 => ⟨S_, .f32⟩
  | 98 => ⟨S32768x7, .f32⟩
  | 99 => ⟨S32768x7, .f32⟩
  | 100 => ⟨S_, .f32⟩
  | 101 => ⟨S32768x7, .f32⟩
  | 102 => ⟨S32768x7, .f32⟩
  | 103 => ⟨S32768x7, .f32⟩
  | 104 => ⟨S_, .f32⟩
  | 105 => ⟨S32768x7, .f32⟩
  | 106 => ⟨S32768x7, .f32⟩
  | 107 => ⟨S32768x7, .f32⟩
  | 108 => ⟨S_, .f32⟩
  | 109 => ⟨S32768x7, .f32⟩
  | 110 => ⟨S32768x7, .f32⟩
  | 111 => ⟨S32768x7, .f32⟩
  | 112 => ⟨S_, .f32⟩
  | 113 => ⟨S32768x7, .f32⟩
  | 114 => ⟨S32768x7, .f32⟩
  | 115 => ⟨S32768x7, .f32⟩
  | 116 => ⟨S32768x7, .i32⟩
  | 117 => ⟨S_, .i32⟩
  | 118 => ⟨S32768x7, .i32⟩
  | 119 => ⟨S32768x7, .i32⟩
  | 120 => ⟨S_, .i32⟩
  | 121 => ⟨S32768x7, .i32⟩
  | 122 => ⟨S32768x7, .i1⟩
  | 123 => ⟨S32768x7, .f32⟩
  | 124 => ⟨S32768x7, .f32⟩
  | 125 => ⟨S32768x8, .f32⟩
  | 126 => ⟨S32768x40, .f32⟩
  | 127 => ⟨S40x64, .f32⟩
  | _ => ⟨S32768x1, .f32⟩

abbrev hbmTy0_2 (i : Nat) : BufTy := match i % 128 with
  | 0 => ⟨S32768x64, .f32⟩
  | 1 => ⟨S1x64, .f32⟩
  | 2 => ⟨S32768x64, .f32⟩
  | 3 => ⟨S32768x64, .f32⟩
  | 4 => ⟨S_, .f32⟩
  | 5 => ⟨S32768x64, .f32⟩
  | 6 => ⟨S32768x64, .i1⟩
  | 7 => ⟨S_, .f32⟩
  | 8 => ⟨S32768x64, .f32⟩
  | 9 => ⟨S32768x64, .f32⟩
  | 10 => ⟨S32768x64, .f32⟩
  | 11 => ⟨S64x64, .f32⟩
  | 12 => ⟨S32768x64, .f32⟩
  | 13 => ⟨S1x64, .f32⟩
  | 14 => ⟨S32768x64, .f32⟩
  | 15 => ⟨S32768x64, .f32⟩
  | 16 => ⟨S_, .f32⟩
  | 17 => ⟨S32768x64, .f32⟩
  | 18 => ⟨S32768x64, .i1⟩
  | 19 => ⟨S_, .f32⟩
  | 20 => ⟨S32768x64, .f32⟩
  | 21 => ⟨S32768x64, .f32⟩
  | 22 => ⟨S32768x64, .f32⟩
  | 23 => ⟨S_, .f32⟩
  | 24 => ⟨S16x64, .f32⟩
  | 25 => ⟨S32768x1, .i32⟩
  | 26 => ⟨S16x64, .f32⟩
  | 27 => ⟨S_, .f32⟩
  | 28 => ⟨S32768x1, .f32⟩
  | 29 => ⟨S_, .f32⟩
  | 30 => ⟨S16x1, .f32⟩
  | 31 => ⟨S32768x1, .i32⟩
  | 32 => ⟨S16x1, .f32⟩
  | 33 => ⟨S_, .f32⟩
  | 34 => ⟨S_, .f32⟩
  | 35 => ⟨S16x1, .f32⟩
  | 36 => ⟨S16x1, .f32⟩
  | 37 => ⟨S16x64, .f32⟩
  | 38 => ⟨S16x64, .f32⟩
  | 39 => ⟨S16x192, .f32⟩
  | 40 => ⟨S192x128, .f32⟩
  | 41 => ⟨S16x128, .f32⟩
  | 42 => ⟨S1x128, .f32⟩
  | 43 => ⟨S16x128, .f32⟩
  | 44 => ⟨S16x128, .f32⟩
  | 45 => ⟨S_, .f32⟩
  | 46 => ⟨S16x128, .f32⟩
  | 47 => ⟨S16x128, .i1⟩
  | 48 => ⟨S_, .f32⟩
  | 49 => ⟨S16x128, .f32⟩
  | 50 => ⟨S16x128, .f32⟩
  | 51 => ⟨S16x128, .f32⟩
  | _ => ⟨S32768x1, .f32⟩

abbrev hbmTy (i : Nat) : BufTy := match i / 128 with
  | 0 => hbmTy0_0 i
  | 1 => hbmTy0_1 i
  | 2 => hbmTy0_2 i
  | _ => ⟨S32768x1, .f32⟩

abbrev bufTy : (tb : Table) → Fin (tcTables nBuf tb) → BufTy
  | .hbm, ⟨i, _⟩ => hbmTy i
  | _, _ => ⟨S32768x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_cst_0 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_cst_1 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_cst_2 : Ref sig .tc := ⟨.hbm, 45, rfl⟩
abbrev main_v17 : Ref sig .tc := ⟨.hbm, 46, rfl⟩
abbrev main_v18 : Ref sig .tc := ⟨.hbm, 47, rfl⟩
abbrev main_cst_3 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_cst_4 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_cst_5 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_6 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_c : Ref sig .tc := ⟨.hbm, 65, rfl⟩
abbrev main_v32 : Ref sig .tc := ⟨.hbm, 66, rfl⟩
abbrev main_v33 : Ref sig .tc := ⟨.hbm, 67, rfl⟩
abbrev main_c_7 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_cst_8 : Ref sig .tc := ⟨.hbm, 80, rfl⟩
abbrev main_v45 : Ref sig .tc := ⟨.hbm, 81, rfl⟩
abbrev main_v46 : Ref sig .tc := ⟨.hbm, 82, rfl⟩
abbrev main_cst_9 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_10 : Ref sig .tc := ⟨.hbm, 92, rfl⟩
abbrev main_v55 : Ref sig .tc := ⟨.hbm, 93, rfl⟩
abbrev main_v56 : Ref sig .tc := ⟨.hbm, 94, rfl⟩
abbrev main_cst_11 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_12 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_13 : Ref sig .tc := ⟨.hbm, 103, rfl⟩
abbrev main_v63 : Ref sig .tc := ⟨.hbm, 104, rfl⟩
abbrev main_cst_14 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_cst_15 : Ref sig .tc := ⟨.hbm, 109, rfl⟩
abbrev main_call4_v0 : Ref sig .tc := ⟨.hbm, 110, rfl⟩
abbrev main_call4_v1 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_16 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_17 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_18 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_cst_19 : Ref sig .tc := ⟨.hbm, 135, rfl⟩
abbrev main_v87 : Ref sig .tc := ⟨.hbm, 136, rfl⟩
abbrev main_v88 : Ref sig .tc := ⟨.hbm, 137, rfl⟩
abbrev main_cst_20 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_cst_21 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_cst_22 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_cst_23 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_c_24 : Ref sig .tc := ⟨.hbm, 155, rfl⟩
abbrev main_v102 : Ref sig .tc := ⟨.hbm, 156, rfl⟩
abbrev main_v103 : Ref sig .tc := ⟨.hbm, 157, rfl⟩
abbrev main_c_25 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_cst_26 : Ref sig .tc := ⟨.hbm, 170, rfl⟩
abbrev main_v115 : Ref sig .tc := ⟨.hbm, 171, rfl⟩
abbrev main_v116 : Ref sig .tc := ⟨.hbm, 172, rfl⟩
abbrev main_cst_27 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_cst_28 : Ref sig .tc := ⟨.hbm, 182, rfl⟩
abbrev main_v125 : Ref sig .tc := ⟨.hbm, 183, rfl⟩
abbrev main_v126 : Ref sig .tc := ⟨.hbm, 184, rfl⟩
abbrev main_cst_29 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_cst_30 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_cst_31 : Ref sig .tc := ⟨.hbm, 193, rfl⟩
abbrev main_v133 : Ref sig .tc := ⟨.hbm, 194, rfl⟩
abbrev main_cst_32 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_cst_33 : Ref sig .tc := ⟨.hbm, 199, rfl⟩
abbrev main_call9_v0 : Ref sig .tc := ⟨.hbm, 200, rfl⟩
abbrev main_call9_v1 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_cst_34 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_cst_35 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_cst_36 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_cst_37 : Ref sig .tc := ⟨.hbm, 225, rfl⟩
abbrev main_v157 : Ref sig .tc := ⟨.hbm, 226, rfl⟩
abbrev main_v158 : Ref sig .tc := ⟨.hbm, 227, rfl⟩
abbrev main_cst_38 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_cst_39 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_cst_40 : Ref sig .tc := ⟨.hbm, 236, rfl⟩
abbrev main_v165 : Ref sig .tc := ⟨.hbm, 237, rfl⟩
abbrev main_v166 : Ref sig .tc := ⟨.hbm, 238, rfl⟩
abbrev main_v167 : Ref sig .tc := ⟨.hbm, 239, rfl⟩
abbrev main_cst_41 : Ref sig .tc := ⟨.hbm, 240, rfl⟩
abbrev main_v168 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_c_42 : Ref sig .tc := ⟨.hbm, 245, rfl⟩
abbrev main_v172 : Ref sig .tc := ⟨.hbm, 246, rfl⟩
abbrev main_v173 : Ref sig .tc := ⟨.hbm, 247, rfl⟩
abbrev main_c_43 : Ref sig .tc := ⟨.hbm, 248, rfl⟩
abbrev main_v174 : Ref sig .tc := ⟨.hbm, 249, rfl⟩
abbrev main_v175 : Ref sig .tc := ⟨.hbm, 250, rfl⟩
abbrev main_v176 : Ref sig .tc := ⟨.hbm, 251, rfl⟩
abbrev main_v177 : Ref sig .tc := ⟨.hbm, 252, rfl⟩
abbrev main_v178 : Ref sig .tc := ⟨.hbm, 253, rfl⟩
abbrev main_v179 : Ref sig .tc := ⟨.hbm, 254, rfl⟩
abbrev main_v180 : Ref sig .tc := ⟨.hbm, 255, rfl⟩
abbrev main_v181 : Ref sig .tc := ⟨.hbm, 256, rfl⟩
abbrev main_v182 : Ref sig .tc := ⟨.hbm, 257, rfl⟩
abbrev main_v183 : Ref sig .tc := ⟨.hbm, 258, rfl⟩
abbrev main_v184 : Ref sig .tc := ⟨.hbm, 259, rfl⟩
abbrev main_cst_44 : Ref sig .tc := ⟨.hbm, 260, rfl⟩
abbrev main_v185 : Ref sig .tc := ⟨.hbm, 261, rfl⟩
abbrev main_v186 : Ref sig .tc := ⟨.hbm, 262, rfl⟩
abbrev main_cst_45 : Ref sig .tc := ⟨.hbm, 263, rfl⟩
abbrev main_v187 : Ref sig .tc := ⟨.hbm, 264, rfl⟩
abbrev main_v188 : Ref sig .tc := ⟨.hbm, 265, rfl⟩
abbrev main_v189 : Ref sig .tc := ⟨.hbm, 266, rfl⟩
abbrev main_v190 : Ref sig .tc := ⟨.hbm, 267, rfl⟩
abbrev main_v191 : Ref sig .tc := ⟨.hbm, 268, rfl⟩
abbrev main_v192 : Ref sig .tc := ⟨.hbm, 269, rfl⟩
abbrev main_v193 : Ref sig .tc := ⟨.hbm, 270, rfl⟩
abbrev main_v194 : Ref sig .tc := ⟨.hbm, 271, rfl⟩
abbrev main_cst_46 : Ref sig .tc := ⟨.hbm, 272, rfl⟩
abbrev main_v195 : Ref sig .tc := ⟨.hbm, 273, rfl⟩
abbrev main_v196 : Ref sig .tc := ⟨.hbm, 274, rfl⟩
abbrev main_cst_47 : Ref sig .tc := ⟨.hbm, 275, rfl⟩
abbrev main_v197 : Ref sig .tc := ⟨.hbm, 276, rfl⟩
abbrev main_v198 : Ref sig .tc := ⟨.hbm, 277, rfl⟩
abbrev main_v199 : Ref sig .tc := ⟨.hbm, 278, rfl⟩
abbrev main_cst_48 : Ref sig .tc := ⟨.hbm, 279, rfl⟩
abbrev main_v200 : Ref sig .tc := ⟨.hbm, 280, rfl⟩
abbrev main_v201 : Ref sig .tc := ⟨.hbm, 281, rfl⟩
abbrev main_v202 : Ref sig .tc := ⟨.hbm, 282, rfl⟩
abbrev main_cst_49 : Ref sig .tc := ⟨.hbm, 283, rfl⟩
abbrev main_v203 : Ref sig .tc := ⟨.hbm, 284, rfl⟩
abbrev main_cst_50 : Ref sig .tc := ⟨.hbm, 285, rfl⟩
abbrev main_v204 : Ref sig .tc := ⟨.hbm, 286, rfl⟩
abbrev main_v205 : Ref sig .tc := ⟨.hbm, 287, rfl⟩
abbrev main_v206 : Ref sig .tc := ⟨.hbm, 288, rfl⟩
abbrev main_cst_51 : Ref sig .tc := ⟨.hbm, 289, rfl⟩
abbrev main_call14_v0 : Ref sig .tc := ⟨.hbm, 290, rfl⟩
abbrev main_call14_v1 : Ref sig .tc := ⟨.hbm, 291, rfl⟩
abbrev main_v207 : Ref sig .tc := ⟨.hbm, 292, rfl⟩
abbrev main_v208 : Ref sig .tc := ⟨.hbm, 293, rfl⟩
abbrev main_v209 : Ref sig .tc := ⟨.hbm, 294, rfl⟩
abbrev main_v210 : Ref sig .tc := ⟨.hbm, 295, rfl⟩
abbrev main_v211 : Ref sig .tc := ⟨.hbm, 296, rfl⟩
abbrev main_v212 : Ref sig .tc := ⟨.hbm, 297, rfl⟩
abbrev main_v213 : Ref sig .tc := ⟨.hbm, 298, rfl⟩
abbrev main_v214 : Ref sig .tc := ⟨.hbm, 299, rfl⟩
abbrev main_v215 : Ref sig .tc := ⟨.hbm, 300, rfl⟩
abbrev main_cst_52 : Ref sig .tc := ⟨.hbm, 301, rfl⟩
abbrev main_v216 : Ref sig .tc := ⟨.hbm, 302, rfl⟩
abbrev main_v217 : Ref sig .tc := ⟨.hbm, 303, rfl⟩
abbrev main_cst_53 : Ref sig .tc := ⟨.hbm, 304, rfl⟩
abbrev main_v218 : Ref sig .tc := ⟨.hbm, 305, rfl⟩
abbrev main_v219 : Ref sig .tc := ⟨.hbm, 306, rfl⟩
abbrev main_v220 : Ref sig .tc := ⟨.hbm, 307, rfl⟩

abbrev nD : Nat := 1
abbrev τ : Topo := Topo.v7x

variable {F : FTy → Type} [FloatOps F]
-- ==== KernelSine.lean ====
abbrev S32768x1 : Shape := ⟨2, ![32768, 1]⟩
abbrev S32768x32 : Shape := ⟨2, ![32768, 32]⟩
abbrev S32768 : Shape := ⟨1, ![32768]⟩
abbrev S8x1 : Shape := ⟨2, ![8, 1]⟩
abbrev S8 : Shape := ⟨1, ![8]⟩
abbrev S64x40 : Shape := ⟨2, ![64, 40]⟩
abbrev S64 : Shape := ⟨1, ![64]⟩
abbrev S64x64 : Shape := ⟨2, ![64, 64]⟩
abbrev S128x192 : Shape := ⟨2, ![128, 192]⟩
abbrev S128 : Shape := ⟨1, ![128]⟩
abbrev S1x32768 : Shape := ⟨2, ![1, 32768]⟩
abbrev S_ : Shape := ⟨0, ![]⟩
abbrev S8x32768 : Shape := ⟨2, ![8, 32768]⟩
abbrev S24 : Shape := ⟨1, ![24]⟩
abbrev S24x1 : Shape := ⟨2, ![24, 1]⟩
abbrev S24x4 : Shape := ⟨2, ![24, 4]⟩
abbrev S16 : Shape := ⟨1, ![16]⟩
abbrev S48 : Shape := ⟨1, ![48]⟩
abbrev S1x48 : Shape := ⟨2, ![1, 48]⟩
abbrev S3x48 : Shape := ⟨2, ![3, 48]⟩
abbrev S1x16 : Shape := ⟨2, ![1, 16]⟩
abbrev S3x16 : Shape := ⟨2, ![3, 16]⟩
abbrev S8x64 : Shape := ⟨2, ![8, 64]⟩
abbrev S64x8 : Shape := ⟨2, ![64, 8]⟩
abbrev S8x128 : Shape := ⟨2, ![8, 128]⟩
abbrev S24x128 : Shape := ⟨2, ![24, 128]⟩
abbrev S32x64 : Shape := ⟨2, ![32, 64]⟩
abbrev S64x32 : Shape := ⟨2, ![64, 32]⟩
abbrev S32x128 : Shape := ⟨2, ![32, 128]⟩
abbrev S1x128 : Shape := ⟨2, ![1, 128]⟩
abbrev S64x128 : Shape := ⟨2, ![64, 128]⟩
abbrev S128x128 : Shape := ⟨2, ![128, 128]⟩
abbrev S16x64 : Shape := ⟨2, ![16, 64]⟩
abbrev S24x64 : Shape := ⟨2, ![24, 64]⟩
abbrev S1x64 : Shape := ⟨2, ![1, 64]⟩
abbrev S128x64 : Shape := ⟨2, ![128, 64]⟩
abbrev S16x128 : Shape := ⟨2, ![16, 128]⟩
abbrev S8x4096 : Shape := ⟨2, ![8, 4096]⟩
abbrev S4096x32 : Shape := ⟨2, ![4096, 32]⟩
abbrev S48x193 : Shape := ⟨2, ![48, 193]⟩
abbrev S4x4096 : Shape := ⟨2, ![4, 4096]⟩
abbrev S24x4096 : Shape := ⟨2, ![24, 4096]⟩
abbrev S4096x128 : Shape := ⟨2, ![4096, 128]⟩
abbrev S4096x64 : Shape := ⟨2, ![4096, 64]⟩
abbrev S3x4096 : Shape := ⟨2, ![3, 4096]⟩
abbrev S4096x48 : Shape := ⟨2, ![4096, 48]⟩
abbrev S4096x1 : Shape := ⟨2, ![4096, 1]⟩
abbrev S48x128 : Shape := ⟨2, ![48, 128]⟩
abbrev S48x64 : Shape := ⟨2, ![48, 64]⟩
abbrev S48x1 : Shape := ⟨2, ![48, 1]⟩
abbrev S16x1 : Shape := ⟨2, ![16, 1]⟩

abbrev nBuf : Space → Nat
  | .hbm => 121
  | .vmem => 28
  | .smem => 0
  | _ => 0

abbrev bufTy : (tb : Table) → Fin (tcTables nBuf tb) → BufTy
  | .hbm, ⟨0, _⟩ => ⟨S32768x1, .f32⟩
  | .hbm, ⟨1, _⟩ => ⟨S32768x32, .f32⟩
  | .hbm, ⟨2, _⟩ => ⟨S32768, .i32⟩
  | .hbm, ⟨3, _⟩ => ⟨S32768x1, .f32⟩
  | .hbm, ⟨4, _⟩ => ⟨S32768x32, .f32⟩
  | .hbm, ⟨5, _⟩ => ⟨S32768, .i32⟩
  | .hbm, ⟨6, _⟩ => ⟨S32768x1, .f32⟩
  | .hbm, ⟨7, _⟩ => ⟨S32768x32, .f32⟩
  | .hbm, ⟨8, _⟩ => ⟨S32768, .i32⟩
  | .hbm, ⟨9, _⟩ => ⟨S8x1, .f32⟩
  | .hbm, ⟨10, _⟩ => ⟨S8, .f32⟩
  | .hbm, ⟨11, _⟩ => ⟨S64x40, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64x40, .f32⟩
  | .hbm, ⟨16, _⟩ => ⟨S64, .f32⟩
  | .hbm, ⟨17, _⟩ => ⟨S64x64, .f32⟩
  | .hbm, ⟨18, _⟩ => ⟨S64, .f32⟩
  | .hbm, ⟨19, _⟩ => ⟨S64x40, .f32⟩
  | .hbm, ⟨20, _⟩ => ⟨S64, .f32⟩
  | .hbm, ⟨21, _⟩ => ⟨S64x64, .f32⟩
  | .hbm, ⟨22, _⟩ => ⟨S64, .f32⟩
  | .hbm, ⟨23, _⟩ => ⟨S128x192, .f32⟩
  | .hbm, ⟨24, _⟩ => ⟨S128, .f32⟩
  | .hbm, ⟨25, _⟩ => ⟨S1x32768, .f32⟩
  | .hbm, ⟨26, _⟩ => ⟨S1x32768, .f32⟩
  | .hbm, ⟨27, _⟩ => ⟨S1x32768, .f32⟩
  | .hbm, ⟨28, _⟩ => ⟨S_, .f32⟩
  | .hbm, ⟨29, _⟩ => ⟨S1x32768, .f32⟩
  | .hbm, ⟨30, _⟩ => ⟨S32768, .f32⟩
  | .hbm, ⟨31, _⟩ => ⟨S1x32768, .f32⟩
  | .hbm, ⟨32, _⟩ => ⟨S32768, .f32⟩
  | .hbm, ⟨33, _⟩ => ⟨S1x32768, .f32⟩
  | .hbm, ⟨34, _⟩ => ⟨S32768, .f32⟩
  | .hbm, ⟨35, _⟩ => ⟨S1x32768, .f32⟩
  | .hbm, ⟨36, _⟩ => ⟨S_, .f32⟩
  | .hbm, ⟨37, _⟩ => ⟨S1x32768, .f32⟩
  | .hbm, ⟨38, _⟩ => ⟨S8x32768, .f32⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S24, .f32⟩
  | .hbm, ⟨43, _⟩ => ⟨S24, .f32⟩
  | .hbm, ⟨44, _⟩ => ⟨S24, .f32⟩
  | .hbm, ⟨45, _⟩ => ⟨S24, .f32⟩
  | .hbm, ⟨46, _⟩ => ⟨S24x1, .f32⟩
  | .hbm, ⟨47, _⟩ => ⟨S24x1, .f32⟩
  | .hbm, ⟨48, _⟩ => ⟨S24x1, .f32⟩
  | .hbm, ⟨49, _⟩ => ⟨S24x1, .f32⟩
  | .hbm, ⟨50, _⟩ => ⟨S24x4, .f32⟩
  | .hbm, ⟨51, _⟩ => ⟨S_, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S48, .f32⟩
  | .hbm, ⟨56, _⟩ => ⟨S48, .f32⟩
  | .hbm, ⟨57, _⟩ => ⟨S48, .f32⟩
  | .hbm, ⟨58, _⟩ => ⟨S1x48, .f32⟩
  | .hbm, ⟨59, _⟩ => ⟨S1x48, .f32⟩
  | .hbm, ⟨60, _⟩ => ⟨S1x48, .f32⟩
  | .hbm, ⟨61, _⟩ => ⟨S3x48, .f32⟩
  | .hbm, ⟨62, _⟩ => ⟨S16, .f32⟩
  | .hbm, ⟨63, _⟩ => ⟨S1x16, .f32⟩
  | .hbm, ⟨64, _⟩ => ⟨S3x16, .f32⟩
  | .hbm, ⟨65, _⟩ => ⟨S48, .f32⟩
  | .hbm, ⟨66, _⟩ => ⟨S1x48, .f32⟩
  | .hbm, ⟨67, _⟩ => ⟨S_, .f32⟩
  | .hbm, ⟨68, _⟩ => ⟨S8x64, .f32⟩
  | .hbm, ⟨69, _⟩ => ⟨S64x8, .f32⟩
  | .hbm, ⟨70, _⟩ => ⟨S8x64, .f32⟩
  | .hbm, ⟨71, _⟩ => ⟨S8x128, .f32⟩
  | .hbm, ⟨72, _⟩ => ⟨S64x8, .f32⟩
  | .hbm, ⟨73, _⟩ => ⟨S8x64, .f32⟩
  | .hbm, ⟨74, _⟩ => ⟨S8x128, .f32⟩
  | .hbm, ⟨75, _⟩ => ⟨S_, .f32⟩
  | .hbm, ⟨76, _⟩ => ⟨S8x128, .f32⟩
  | .hbm, ⟨77, _⟩ => ⟨S24x128, .f32⟩
  | .hbm, ⟨78, _⟩ => ⟨S_, .f32⟩
  | .hbm, ⟨79, _⟩ => ⟨S32x64, .f32⟩
  | .hbm, ⟨80, _⟩ => ⟨S64x32, .f32⟩
  | .hbm, ⟨81, _⟩ => ⟨S32x64, .f32⟩
  | .hbm, ⟨82, _⟩ => ⟨S32x128, .f32⟩
  | .hbm, ⟨83, _⟩ => ⟨S32x128, .bf16⟩
  | .hbm, ⟨84, _⟩ => ⟨S64x32, .f32⟩
  | .hbm, ⟨85, _⟩ => ⟨S32x64, .f32⟩
  | .hbm, ⟨86, _⟩ => ⟨S32x128, .f32⟩
  | .hbm, ⟨87, _⟩ => ⟨S32x128, .bf16⟩
  | .hbm, ⟨88, _⟩ => ⟨S128, .f32⟩
  | .hbm, ⟨89, _⟩ => ⟨S1x128, .f32⟩
  | .hbm, ⟨90, _⟩ => ⟨S_, .f32⟩
  | .hbm, ⟨91, _⟩ => ⟨S64x64, .f32⟩
  | .hbm, ⟨92, _⟩ => ⟨S64x64, .f32⟩
  | .hbm, ⟨93, _⟩ => ⟨S64x128, .f32⟩
  | .hbm, ⟨94, _⟩ => ⟨S64x64, .f32⟩
  | .hbm, ⟨95, _⟩ => ⟨S64x128, .f32⟩
  | .hbm, ⟨96, _⟩ => ⟨S128x128, .f32⟩
  | .hbm, ⟨97, _⟩ => ⟨S128, .f32⟩
  | .hbm, ⟨98, _⟩ => ⟨S1x128, .f32⟩
  | .hbm, ⟨99, _⟩ => ⟨S_, .f32⟩
  | .hbm, ⟨100, _⟩ => ⟨S16x64, .f32⟩
  | .hbm, ⟨101, _⟩ => ⟨S64x8, .f32⟩
  | .hbm, ⟨102, _⟩ => ⟨S8x64, .f32⟩
  | .hbm, ⟨103, _⟩ => ⟨S24x64, .f32⟩
  | .hbm, ⟨104, _⟩ => ⟨S64x32, .f32⟩
  | .hbm, ⟨105, _⟩ => ⟨S32x64, .f32⟩
  | .hbm, ⟨106, _⟩ => ⟨S32x64, .bf16⟩
  | .hbm, ⟨107, _⟩ => ⟨S1x64, .f32⟩
  | .hbm, ⟨108, _⟩ => ⟨S64x64, .f32⟩
  | .hbm, ⟨109, _⟩ => ⟨S1x64, .f32⟩
  | .hbm, ⟨110, _⟩ => ⟨S128x64, .f32⟩
  | .hbm, ⟨111, _⟩ => ⟨S64x128, .f32⟩
  | .hbm, ⟨112, _⟩ => ⟨S128x64, .f32⟩
  | .hbm, ⟨113, _⟩ => ⟨S64x128, .f32⟩
  | .hbm, ⟨114, _⟩ => ⟨S128x64, .f32⟩
  | .hbm, ⟨115, _⟩ => ⟨S64x128, .f32⟩
  | .hbm, ⟨116, _⟩ => ⟨S1x128, .f32⟩
  | .hbm, ⟨117, _⟩ => ⟨S32768x32, .bf16⟩
  | .hbm, ⟨118, _⟩ => ⟨S32768x32, .bf16⟩
  | .hbm, ⟨119, _⟩ => ⟨S32768x32, .bf16⟩
  | .hbm, ⟨120, _⟩ => ⟨S16x128, .f32⟩
  | .local _ .vmem, ⟨0, _⟩ => ⟨S8x4096, .f32⟩
  | .local _ .vmem, ⟨1, _⟩ => ⟨S8x4096, .f32⟩
  | .local _ .vmem, ⟨2, _⟩ => ⟨S4096x32, .bf16⟩
  | .local _ .vmem, ⟨3, _⟩ => ⟨S4096x32, .bf16⟩
  | .local _ .vmem, ⟨4, _⟩ => ⟨S4096x32, .bf16⟩
  | .local _ .vmem, ⟨5, _⟩ => ⟨S4096x32, .bf16⟩
  | .local _ .vmem, ⟨6, _⟩ => ⟨S4096x32, .bf16⟩
  | .local _ .vmem, ⟨7, _⟩ => ⟨S4096x32, .bf16⟩
  | .local _ .vmem, ⟨8, _⟩ => ⟨S24x4, .f32⟩
  | .local _ .vmem, ⟨9, _⟩ => ⟨S1x48, .f32⟩
  | .local _ .vmem, ⟨10, _⟩ => ⟨S3x48, .f32⟩
  | .local _ .vmem, ⟨11, _⟩ => ⟨S24x128, .f32⟩
  | .local _ .vmem, ⟨12, _⟩ => ⟨S32x128, .bf16⟩
  | .local _ .vmem, ⟨13, _⟩ => ⟨S32x128, .bf16⟩
  | .local _ .vmem, ⟨14, _⟩ => ⟨S1x128, .f32⟩
  | .local _ .vmem, ⟨15, _⟩ => ⟨S128x128, .f32⟩
  | .local _ .vmem, ⟨16, _⟩ => ⟨S1x128, .f32⟩
  | .local _ .vmem, ⟨17, _⟩ => ⟨S24x64, .f32⟩
  | .local _ .vmem, ⟨18, _⟩ => ⟨S32x64, .bf16⟩
  | .local _ .vmem, ⟨19, _⟩ => ⟨S1x64, .f32⟩
  | .local _ .vmem, ⟨20, _⟩ => ⟨S64x64, .f32⟩
  | .local _ .vmem, ⟨21, _⟩ => ⟨S1x64, .f32⟩
  | .local _ .vmem, ⟨22, _⟩ => ⟨S64x128, .f32⟩
  | .local _ .vmem, ⟨23, _⟩ => ⟨S64x128, .f32⟩
  | .local _ .vmem, ⟨24, _⟩ => ⟨S64x128, .f32⟩
  | .local _ .vmem, ⟨25, _⟩ => ⟨S1x128, .f32⟩
  | .local _ .vmem, ⟨26, _⟩ => ⟨S16x128, .f32⟩
  | .local _ .vmem, ⟨27, _⟩ => ⟨S48x193, .f32⟩
  | _, _ => ⟨S32768x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_cst : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_cst_0 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_cst_1 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_2 : Ref sig .tc := ⟨.hbm, 51, rfl⟩
abbrev main_v23 : Ref sig .tc := ⟨.hbm, 52, rfl⟩
abbrev main_cst_3 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_4 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_5 : Ref sig .tc := ⟨.hbm, 75, rfl⟩
abbrev main_v44 : Ref sig .tc := ⟨.hbm, 76, rfl⟩
abbrev main_v45 : Ref sig .tc := ⟨.hbm, 77, rfl⟩
abbrev main_cst_6 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_7 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_8 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg21_0 : Ref sig .tc := ⟨.vmem, 25, rfl⟩
abbrev cc0_stg22_0 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem21_0 : DmaSem sig := 25
abbrev cc0_sem22_0 : DmaSem sig := 26

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v125 : BitVec 1 := Scalar.cmpi .eq arg0 c7_i32
  let v126 : BitVec 32 := Scalar.extui v125
  let c0_i32_71 : BitVec 32 := 0#32
  let v127 : BitVec 1 := Scalar.cmpi .ne v126 c0_i32_71
  v127

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x32 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S24x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S24x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S24x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32x64 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S64x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S64x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S64x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S64x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S16x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== ReferenceIdeal.lean ====
abbrev S32768x1 : Shape := ⟨2, ![32768, 1]⟩
abbrev S32768x32 : Shape := ⟨2, ![32768, 32]⟩
abbrev S32768 : Shape := ⟨1, ![32768]⟩
abbrev S8x1 : Shape := ⟨2, ![8, 1]⟩
abbrev S8 : Shape := ⟨1, ![8]⟩
abbrev S64x40 : Shape := ⟨2, ![64, 40]⟩
abbrev S64 : Shape := ⟨1, ![64]⟩
abbrev S64x64 : Shape := ⟨2, ![64, 64]⟩
abbrev S128x192 : Shape := ⟨2, ![128, 192]⟩
abbrev S128 : Shape := ⟨1, ![128]⟩
abbrev S1x8 : Shape := ⟨2, ![1, 8]⟩
abbrev S32768x8 : Shape := ⟨2, ![32768, 8]⟩
abbrev S32768x7 : Shape := ⟨2, ![32768, 7]⟩
abbrev S32768x40 : Shape := ⟨2, ![32768, 40]⟩
abbrev S40x64 : Shape := ⟨2, ![40, 64]⟩
abbrev S32768x64 : Shape := ⟨2, ![32768, 64]⟩
abbrev S1x64 : Shape := ⟨2, ![1, 64]⟩
abbrev S_ : Shape := ⟨0, ![]⟩
abbrev S16x64 : Shape := ⟨2, ![16, 64]⟩
abbrev S16x1 : Shape := ⟨2, ![16, 1]⟩
abbrev S16x192 : Shape := ⟨2, ![16, 192]⟩
abbrev S192x128 : Shape := ⟨2, ![192, 128]⟩
abbrev S16x128 : Shape := ⟨2, ![16, 128]⟩
abbrev S1x128 : Shape := ⟨2, ![1, 128]⟩

abbrev nBuf : Space → Nat
  | .hbm => 188
  | .vmem => 0
  | .smem => 0
  | _ => 0

abbrev hbmTy0_0 (i : Nat) : BufTy := match i % 128 with
  | 0 => ⟨S32768x1, .f32⟩
  | 1 => ⟨S32768x32, .f32⟩
  | 2 => ⟨S32768, .i32⟩
  | 3 => ⟨S32768x1, .f32⟩
  | 4 => ⟨S32768x32, .f32⟩
  | 5 => ⟨S32768, .i32⟩
  | 6 => ⟨S32768x1, .f32⟩
  | 7 => ⟨S32768x32, .f32⟩
  | 8 => ⟨S32768, .i32⟩
  | 9 => ⟨S8x1, .f32⟩
  | 10 => ⟨S8, .f32⟩
  | 11 => ⟨S64x40, .f32⟩
  | 12 => ⟨S64, .f32⟩
  | 13 => ⟨S64x64, .f32⟩
  | 14 => ⟨S64, .f32⟩
  | 15 => ⟨S64x40, .f32⟩
  | 16 => ⟨S64, .f32⟩
  | 17 => ⟨S64x64, .f32⟩
  | 18 => ⟨S64, .f32⟩
  | 19 => ⟨S64x40, .f32⟩
  | 20 => ⟨S64, .f32⟩
  | 21 => ⟨S64x64, .f32⟩
  | 22 => ⟨S64, .f32⟩
  | 23 => ⟨S128x192, .f32⟩
  | 24 => ⟨S128, .f32⟩
  | 25 => ⟨S1x8, .f32⟩
  | 26 => ⟨S32768x8, .f32⟩
  | 27 => ⟨S1x8, .f32⟩
  | 28 => ⟨S32768x8, .f32⟩
  | 29 => ⟨S32768x8, .f32⟩
  | 30 => ⟨S32768x1, .f32⟩
  | 31 => ⟨S32768x7, .f32⟩
  | 32 => ⟨S32768x7, .f32⟩
  | 33 => ⟨S32768x8, .f32⟩
  | 34 => ⟨S32768x40, .f32⟩
  | 35 => ⟨S40x64, .f32⟩
  | 36 => ⟨S32768x64, .f32⟩
  | 37 => ⟨S1x64, .f32⟩
  | 38 => ⟨S32768x64, .f32⟩
  | 39 => ⟨S32768x64, .f32⟩
  | 40 => ⟨S_, .f32⟩
  | 41 => ⟨S32768x64, .f32⟩
  | 42 => ⟨S32768x64, .i1⟩
  | 43 => ⟨S_, .f32⟩
  | 44 => ⟨S32768x64, .f32⟩
  | 45 => ⟨S32768x64, .f32⟩
  | 46 => ⟨S32768x64, .f32⟩
  | 47 => ⟨S64x64, .f32⟩
  | 48 => ⟨S32768x64, .f32⟩
  | 49 => ⟨S1x64, .f32⟩
  | 50 => ⟨S32768x64, .f32⟩
  | 51 => ⟨S32768x64, .f32⟩
  | 52 => ⟨S_, .f32⟩
  | 53 => ⟨S32768x64, .f32⟩
  | 54 => ⟨S32768x64, .i1⟩
  | 55 => ⟨S_, .f32⟩
  | 56 => ⟨S32768x64, .f32⟩
  | 57 => ⟨S32768x64, .f32⟩
  | 58 => ⟨S32768x64, .f32⟩
  | 59 => ⟨S_, .f32⟩
  | 60 => ⟨S16x64, .f32⟩
  | 61 => ⟨S32768x1, .i32⟩
  | 62 => ⟨S16x64, .f32⟩
  | 63 => ⟨S_, .f32⟩
  | 64 => ⟨S32768x1, .f32⟩
  | 65 => ⟨S_, .f32⟩
  | 66 => ⟨S16x1, .f32⟩
  | 67 => ⟨S32768x1, .i32⟩
  | 68 => ⟨S16x1, .f32⟩
  | 69 => ⟨S_, .f32⟩
  | 70 => ⟨S_, .f32⟩
  | 71 => ⟨S16x1, .f32⟩
  | 72 => ⟨S16x1, .f32⟩
  | 73 => ⟨S16x64, .f32⟩
  | 74 => ⟨S16x64, .f32⟩
  | 75 => ⟨S1x8, .f32⟩
  | 76 => ⟨S32768x8, .f32⟩
  | 77 => ⟨S1x8, .f32⟩
  | 78 => ⟨S32768x8, .f32⟩
  | 79 => ⟨S32768x8, .f32⟩
  | 80 => ⟨S32768x1, .f32⟩
  | 81 => ⟨S32768x7, .f32⟩
  | 82 => ⟨S32768x7, .f32⟩
  | 83 => ⟨S32768x8, .f32⟩
  | 84 => ⟨S32768x40, .f32⟩
  | 85 => ⟨S40x64, .f32⟩
  | 86 => ⟨S32768x64, .f32⟩
  | 87 => ⟨S1x64, .f32⟩
  | 88 => ⟨S32768x64, .f32⟩
  | 89 => ⟨S32768x64, .f32⟩
  | 90 => ⟨S_, .f32⟩
  | 91 => ⟨S32768x64, .f32⟩
  | 92 => ⟨S32768x64, .i1⟩
  | 93 => ⟨S_, .f32⟩
  | 94 => ⟨S32768x64, .f32⟩
  | 95 => ⟨S32768x64, .f32⟩
  | 96 => ⟨S32768x64, .f32⟩
  | 97 => ⟨S64x64, .f32⟩
  | 98 => ⟨S32768x64, .f32⟩
  | 99 => ⟨S1x64, .f32⟩
  | 100 => ⟨S32768x64, .f32⟩
  | 101 => ⟨S32768x64, .f32⟩
  | 102 => ⟨S_, .f32⟩
  | 103 => ⟨S32768x64, .f32⟩
  | 104 => ⟨S32768x64, .i1⟩
  | 105 => ⟨S_, .f32⟩
  | 106 => ⟨S32768x64, .f32⟩
  | 107 => ⟨S32768x64, .f32⟩
  | 108 => ⟨S32768x64, .f32⟩
  | 109 => ⟨S_, .f32⟩
  | 110 => ⟨S16x64, .f32⟩
  | 111 => ⟨S32768x1, .i32⟩
  | 112 => ⟨S16x64, .f32⟩
  | 113 => ⟨S_, .f32⟩
  | 114 => ⟨S32768x1, .f32⟩
  | 115 => ⟨S_, .f32⟩
  | 116 => ⟨S16x1, .f32⟩
  | 117 => ⟨S32768x1, .i32⟩
  | 118 => ⟨S16x1, .f32⟩
  | 119 => ⟨S_, .f32⟩
  | 120 => ⟨S_, .f32⟩
  | 121 => ⟨S16x1, .f32⟩
  | 122 => ⟨S16x1, .f32⟩
  | 123 => ⟨S16x64, .f32⟩
  | 124 => ⟨S16x64, .f32⟩
  | 125 => ⟨S1x8, .f32⟩
  | 126 => ⟨S32768x8, .f32⟩
  | 127 => ⟨S1x8, .f32⟩
  | _ => ⟨S32768x1, .f32⟩

abbrev hbmTy0_1 (i : Nat) : BufTy := match i % 128 with
  | 0 => ⟨S32768x8, .f32⟩
  | 1 => ⟨S32768x8, .f32⟩
  | 2 => ⟨S32768x1, .f32⟩
  | 3 => ⟨S32768x7, .f32⟩
  | 4 => ⟨S32768x7, .f32⟩
  | 5 => ⟨S32768x8, .f32⟩
  | 6 => ⟨S32768x40, .f32⟩
  | 7 => ⟨S40x64, .f32⟩
  | 8 => ⟨S32768x64, .f32⟩
  | 9 => ⟨S1x64, .f32⟩
  | 10 => ⟨S32768x64, .f32⟩
  | 11 => ⟨S32768x64, .f32⟩
  | 12 => ⟨S_, .f32⟩
  | 13 => ⟨S32768x64, .f32⟩
  | 14 => ⟨S32768x64, .i1⟩
  | 15 => ⟨S_, .f32⟩
  | 16 => ⟨S32768x64, .f32⟩
  | 17 => ⟨S32768x64, .f32⟩
  | 18 => ⟨S32768x64, .f32⟩
  | 19 => ⟨S64x64, .f32⟩
  | 20 => ⟨S32768x64, .f32⟩
  | 21 => ⟨S1x64, .f32⟩
  | 22 => ⟨S32768x64, .f32⟩
  | 23 => ⟨S32768x64, .f32⟩
  | 24 => ⟨S_, .f32⟩
  | 25 => ⟨S32768x64, .f32⟩
  | 26 => ⟨S32768x64, .i1⟩
  | 27 => ⟨S_, .f32⟩
  | 28 => ⟨S32768x64, .f32⟩
  | 29 => ⟨S32768x64, .f32⟩
  | 30 => ⟨S32768x64, .f32⟩
  | 31 => ⟨S_, .f32⟩
  | 32 => ⟨S16x64, .f32⟩
  | 33 => ⟨S32768x1, .i32⟩
  | 34 => ⟨S16x64, .f32⟩
  | 35 => ⟨S_, .f32⟩
  | 36 => ⟨S32768x1, .f32⟩
  | 37 => ⟨S_, .f32⟩
  | 38 => ⟨S16x1, .f32⟩
  | 39 => ⟨S32768x1, .i32⟩
  | 40 => ⟨S16x1, .f32⟩
  | 41 => ⟨S_, .f32⟩
  | 42 => ⟨S_, .f32⟩
  | 43 => ⟨S16x1, .f32⟩
  | 44 => ⟨S16x1, .f32⟩
  | 45 => ⟨S16x64, .f32⟩
  | 46 => ⟨S16x64, .f32⟩
  | 47 => ⟨S16x192, .f32⟩
  | 48 => ⟨S192x128, .f32⟩
  | 49 => ⟨S16x128, .f32⟩
  | 50 => ⟨S1x128, .f32⟩
  | 51 => ⟨S16x128, .f32⟩
  | 52 => ⟨S16x128, .f32⟩
  | 53 => ⟨S_, .f32⟩
  | 54 => ⟨S16x128, .f32⟩
  | 55 => ⟨S16x128, .i1⟩
  | 56 => ⟨S_, .f32⟩
  | 57 => ⟨S16x128, .f32⟩
  | 58 => ⟨S16x128, .f32⟩
  | 59 => ⟨S16x128, .f32⟩
  | _ => ⟨S32768x1, .f32⟩

abbrev hbmTy (i : Nat) : BufTy := match i / 128 with
  | 0 => hbmTy0_0 i
  | 1 => hbmTy0_1 i
  | _ => ⟨S32768x1, .f32⟩

abbrev bufTy : (tb : Table) → Fin (tcTables nBuf tb) → BufTy
  | .hbm, ⟨i, _⟩ => hbmTy i
  | _, _ => ⟨S32768x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst : Ref sig .tc := ⟨.hbm, 40, rfl⟩
abbrev main_v15 : Ref sig .tc := ⟨.hbm, 41, rfl⟩
abbrev main_v16 : Ref sig .tc := ⟨.hbm, 42, rfl⟩
abbrev main_cst_0 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_1 : Ref sig .tc := ⟨.hbm, 52, rfl⟩
abbrev main_v25 : Ref sig .tc := ⟨.hbm, 53, rfl⟩
abbrev main_v26 : Ref sig .tc := ⟨.hbm, 54, rfl⟩
abbrev main_cst_2 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_3 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_4 : Ref sig .tc := ⟨.hbm, 63, rfl⟩
abbrev main_v33 : Ref sig .tc := ⟨.hbm, 64, rfl⟩
abbrev main_cst_5 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_cst_6 : Ref sig .tc := ⟨.hbm, 69, rfl⟩
abbrev main_call2_v0 : Ref sig .tc := ⟨.hbm, 70, rfl⟩
abbrev main_call2_v1 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_7 : Ref sig .tc := ⟨.hbm, 90, rfl⟩
abbrev main_v55 : Ref sig .tc := ⟨.hbm, 91, rfl⟩
abbrev main_v56 : Ref sig .tc := ⟨.hbm, 92, rfl⟩
abbrev main_cst_8 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_9 : Ref sig .tc := ⟨.hbm, 102, rfl⟩
abbrev main_v65 : Ref sig .tc := ⟨.hbm, 103, rfl⟩
abbrev main_v66 : Ref sig .tc := ⟨.hbm, 104, rfl⟩
abbrev main_cst_10 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_11 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_12 : Ref sig .tc := ⟨.hbm, 113, rfl⟩
abbrev main_v73 : Ref sig .tc := ⟨.hbm, 114, rfl⟩
abbrev main_cst_13 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_cst_14 : Ref sig .tc := ⟨.hbm, 119, rfl⟩
abbrev main_call5_v0 : Ref sig .tc := ⟨.hbm, 120, rfl⟩
abbrev main_call5_v1 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_cst_15 : Ref sig .tc := ⟨.hbm, 140, rfl⟩
abbrev main_v95 : Ref sig .tc := ⟨.hbm, 141, rfl⟩
abbrev main_v96 : Ref sig .tc := ⟨.hbm, 142, rfl⟩
abbrev main_cst_16 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_cst_17 : Ref sig .tc := ⟨.hbm, 152, rfl⟩
abbrev main_v105 : Ref sig .tc := ⟨.hbm, 153, rfl⟩
abbrev main_v106 : Ref sig .tc := ⟨.hbm, 154, rfl⟩
abbrev main_cst_18 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_cst_19 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_cst_20 : Ref sig .tc := ⟨.hbm, 163, rfl⟩
abbrev main_v113 : Ref sig .tc := ⟨.hbm, 164, rfl⟩
abbrev main_cst_21 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_cst_22 : Ref sig .tc := ⟨.hbm, 169, rfl⟩
abbrev main_call8_v0 : Ref sig .tc := ⟨.hbm, 170, rfl⟩
abbrev main_call8_v1 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_cst_23 : Ref sig .tc := ⟨.hbm, 181, rfl⟩
abbrev main_v126 : Ref sig .tc := ⟨.hbm, 182, rfl⟩
abbrev main_v127 : Ref sig .tc := ⟨.hbm, 183, rfl⟩
abbrev main_cst_24 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩

abbrev nD : Nat := 1
abbrev τ : Topo := Topo.v7x

variable {F : FTy → Type} [FloatOps F]
-- ==== Proof.Mathematics.lean ====
/-
  The mathematics of the problem over the extended reals, as functions of plain indices, in an arbitrary function `σ` for
  the sine: the time embedding, the two-layer perceptron of a branch, the mean of a segment, the combining layer.
-/
module

public import Idealize.ShloMosaic.Lib.Pointwise

@[expose] public section

noncomputable section

namespace Cert.DeepSet

open Idealize.ShloMosaic

/-- The slope of the rectifier left of zero: the rational that its float32 word is. -/
def slope : EReal := Ideal.ofBits .f32 0x3E6AAAAB#32

/-- The leaky rectifier. -/
def rect (x : EReal) : EReal := if 0 ≤ x then x else x * slope

/-- What one branch reads: a time, 32 features and a segment id per token, and the weights of its two layers. -/
structure Branch where
  time : Fin 32768 → EReal
  feat : Fin 32768 → Fin 32 → EReal
  seg : Fin 32768 → BitVec 32
  W1 : Fin 64 → Fin 40 → EReal
  b1 : Fin 64 → EReal
  W2 : Fin 64 → Fin 64 → EReal
  b2 : Fin 64 → EReal

/-- What all branches share: the time embedding's weights and the combining layer's. -/
structure Shared where
  w : Fin 8 → EReal
  b : Fin 8 → EReal
  Wc : Fin 128 → Fin 192 → EReal
  bc : Fin 128 → EReal

variable (σ : EReal → EReal)

/-- The time embedding of time `s`: entry 0 linear, the seven others through `σ`. -/
def embed (w b : Fin 8 → EReal) (s : EReal) (k : Fin 8) : EReal :=
  if k.val = 0 then s * w k + b k else σ (s * w k + b k)

/-- The first layer of branch `B` at token `n`: the embedding on the first eight weights, the features on the rest. -/
def layer1 (S : Shared) (B : Branch) (n : Fin 32768) (j : Fin 64) : EReal :=
  rect ((∑ k : Fin 8, embed σ S.w S.b (B.time n) k * B.W1 j ⟨k.val, by omega⟩)
    + (∑ k : Fin 32, B.feat n k * B.W1 j ⟨8 + k.val, by omega⟩) + B.b1 j)

/-- The second layer. -/
def layer2 (S : Shared) (B : Branch) (n : Fin 32768) (o : Fin 64) : EReal :=
  rect ((∑ j : Fin 64, layer1 σ S B n j * B.W2 o j) + B.b2 o)

/-- The sum over the tokens of segment `r`. -/
def total (S : Shared) (B : Branch) (r : Fin 16) (o : Fin 64) : EReal :=
  ∑ n : Fin 32768, if (B.seg n).toInt = (r.val : Int) then layer2 σ S B n o else 0

/-- How many tokens segment `r` has. -/
def count (B : Branch) (r : Fin 16) : EReal :=
  ∑ n : Fin 32768, if (B.seg n).toInt = (r.val : Int) then 1 else 0

/-- The mean over segment `r`, an empty segment counted as one token. -/
def mean (S : Shared) (B : Branch) (r : Fin 16) (o : Fin 64) : EReal :=
  Ideal.div (total σ S B r o) (max (count B r) 1)

/-- The result: the three branches' means through the combining layer. -/
def result (S : Shared) (Bf Br Bm : Branch) (r : Fin 16) (c : Fin 128) : EReal :=
  rect ((∑ o : Fin 64, mean σ S Bf r o * S.Wc c ⟨o.val, by omega⟩) + (∑ o : Fin 64, mean σ S Br r o * S.Wc c ⟨64 + o.val, by omega⟩)
    + (∑ o : Fin 64, mean σ S Bm r o * S.Wc c ⟨128 + o.val, by omega⟩) + S.bc c)

end Cert.DeepSet

end
-- ==== Proof.Block.lean ====
/-
  One block of 4096 tokens as the fused kernel computes it, as functions of plain indices: the embedding of the three
  branches in 24 rows, the two layers of branches f and r side by side in 128 columns, the layers of branch m, the
  indicator of the 48 segment rows and the block's part of the accumulator. When the operands are what the host
  prepares, the columns are the branches' second layers and the parts add up to the branches' totals and counts.
-/
module

public import proofs.«01_k».proof.Proof.Mathematics
public import Idealize.ShloMosaic.Lib.Pipeline.ValueKit

@[expose] public section

noncomputable section

namespace Cert.DeepSet

open Idealize.ShloMosaic

/-- What a block computes from: the auxiliary rows `a` (three times, ones, three segment ids, zeros), the features, the
    embedding's weights `s`, the segment rows' ids `ids` and their branches `q`, the fused weights, the combining layer. -/
structure Operands where
  a : Fin 8 → Fin 4096 → EReal
  xf : Fin 4096 → Fin 32 → EReal
  xr : Fin 4096 → Fin 32 → EReal
  xm : Fin 4096 → Fin 32 → EReal
  s : Fin 24 → Fin 4 → EReal
  ids : Fin 48 → EReal
  q : Fin 3 → Fin 48 → EReal
  w1t : Fin 24 → Fin 128 → EReal
  w1f : Fin 32 → Fin 128 → EReal
  w1r : Fin 32 → Fin 128 → EReal
  b1 : Fin 128 → EReal
  w2 : Fin 128 → Fin 128 → EReal
  b2 : Fin 128 → EReal
  w1tm : Fin 24 → Fin 64 → EReal
  w1m : Fin 32 → Fin 64 → EReal
  b1m : Fin 64 → EReal
  w2m : Fin 64 → Fin 64 → EReal
  b2m : Fin 64 → EReal
  wcf : Fin 64 → Fin 128 → EReal
  wcr : Fin 64 → Fin 128 → EReal
  wcm : Fin 64 → Fin 128 → EReal
  bc : Fin 128 → EReal

variable (σ : EReal → EReal)

namespace Operands

variable (P : Operands)

/-- Row `r` of the 24 linear forms at token `n`. -/
def angle (r : Fin 24) (n : Fin 4096) : EReal := ∑ k : Fin 4, P.s r k * P.a ⟨k.val, by omega⟩ n

/-- Row `r` of the embedding: every eighth row linear, the others through `σ`. -/
def embedded (r : Fin 24) (n : Fin 4096) : EReal := if r.val % 8 = 0 then P.angle r n else σ (P.angle r n)

/-- The first layer of branches f and r, side by side. -/
def first (n : Fin 4096) (c : Fin 128) : EReal :=
  rect ((∑ r : Fin 24, P.embedded σ r n * P.w1t r c) + (∑ k : Fin 32, P.xf n k * P.w1f k c)
    + (∑ k : Fin 32, P.xr n k * P.w1r k c) + P.b1 c)

/-- The second layer of branches f and r, side by side. -/
def second (n : Fin 4096) (c : Fin 128) : EReal := rect ((∑ j : Fin 128, P.first σ n j * P.w2 j c) + P.b2 c)

/-- The first layer of branch m. -/
def firstM (n : Fin 4096) (c : Fin 64) : EReal :=
  rect ((∑ r : Fin 24, P.embedded σ r n * P.w1tm r c) + (∑ k : Fin 32, P.xm n k * P.w1m k c) + P.b1m c)

/-- The second layer of branch m. -/
def secondM (n : Fin 4096) (c : Fin 64) : EReal := rect ((∑ j : Fin 64, P.firstM σ n j * P.w2m j c) + P.b2m c)

/-- Whether token `n` belongs to segment row `r`. -/
def member (n : Fin 4096) (r : Fin 48) : EReal := if (∑ k : Fin 3, P.a ⟨4 + k.val, by omega⟩ n * P.q k r) = P.ids r then 1 else 0

/-- The block's part of the accumulator's columns of branches f and r. -/
def partFR (r : Fin 48) (c : Fin 128) : EReal := ∑ n : Fin 4096, P.member n r * P.second σ n c
/-- The block's part of the accumulator's columns of branch m. -/
def partM (r : Fin 48) (c : Fin 64) : EReal := ∑ n : Fin 4096, P.member n r * P.secondM σ n c
/-- The block's part of the accumulator's last column, the counts. -/
def partC (r : Fin 48) : EReal := ∑ n : Fin 4096, P.member n r * 1

/-- The block's part of the accumulator, all 193 columns. -/
def part (r : Fin 48) (c : Fin 193) : EReal :=
  if h : c.val < 128 then P.partFR σ r ⟨c.val, h⟩ else if h : c.val < 192 then P.partM σ r ⟨c.val - 128, by omega⟩ else P.partC r

/-- The result from a filled accumulator `A`. -/
def finish (A : Fin 48 → Fin 193 → EReal) (r : Fin 16) (c : Fin 128) : EReal :=
  rect ((∑ o : Fin 64, Ideal.div (A ⟨r.val, by omega⟩ ⟨o.val, by omega⟩) (max (A ⟨r.val, by omega⟩ 192) 1) * P.wcf o c)
    + (∑ o : Fin 64, Ideal.div (A ⟨16 + r.val, by omega⟩ ⟨64 + o.val, by omega⟩) (max (A ⟨16 + r.val, by omega⟩ 192) 1) * P.wcr o c)
    + (∑ o : Fin 64, Ideal.div (A ⟨32 + r.val, by omega⟩ ⟨128 + o.val, by omega⟩) (max (A ⟨32 + r.val, by omega⟩ 192) 1) * P.wcm o c)
    + P.bc c)

end Operands

/-- The token at place `n` of block `t`. -/
def token (t : Fin 8) (n : Fin 4096) : Fin 32768 := ⟨t.val * 4096 + n.val, by omega⟩

/-- The operands of block `t` are what the host prepares from the shared weights `S` and the branches `Bf`, `Br`, `Bm`. -/
structure Operands.Prepared (P : Operands) (S : Shared) (Bf Br Bm : Branch) (t : Fin 8) : Prop where
  a0 : ∀ n, P.a 0 n = Bf.time (token t n)
  a1 : ∀ n, P.a 1 n = Br.time (token t n)
  a2 : ∀ n, P.a 2 n = Bm.time (token t n)
  a3 : ∀ n, P.a 3 n = 1
  a4 : ∀ n, P.a 4 n = (((Bf.seg (token t n)).toInt : ℝ) : EReal)
  a5 : ∀ n, P.a 5 n = (((Br.seg (token t n)).toInt : ℝ) : EReal)
  a6 : ∀ n, P.a 6 n = (((Bm.seg (token t n)).toInt : ℝ) : EReal)
  xf : ∀ n k, P.xf n k = Bf.feat (token t n) k
  xr : ∀ n k, P.xr n k = Br.feat (token t n) k
  xm : ∀ n k, P.xm n k = Bm.feat (token t n) k
  s0 : ∀ r : Fin 24, P.s r 0 = if h : r.val < 8 then S.w ⟨r.val, h⟩ else 0
  s1 : ∀ r : Fin 24, P.s r 1 = if r.val < 8 then 0 else if h : r.val < 16 then S.w ⟨r.val - 8, by omega⟩ else 0
  s2 : ∀ r : Fin 24, P.s r 2 = if r.val < 16 then 0 else S.w ⟨r.val - 16, by omega⟩
  s3 : ∀ r : Fin 24, P.s r 3 = S.b ⟨r.val % 8, by omega⟩
  ids : ∀ r : Fin 48, P.ids r = (((r.val % 16 : ℕ) : ℝ) : EReal)
  q : ∀ (k : Fin 3) (r : Fin 48), P.q k r = if r.val / 16 = k.val then 1 else 0
  w1t : ∀ (r : Fin 24) (c : Fin 128), P.w1t r c
    = if h : r.val < 8 ∧ c.val < 64 then Bf.W1 ⟨c.val, h.2⟩ ⟨r.val, by omega⟩
      else if h : (8 ≤ r.val ∧ r.val < 16) ∧ 64 ≤ c.val then Br.W1 ⟨c.val - 64, by omega⟩ ⟨r.val - 8, by omega⟩ else 0
  w1f : ∀ (k : Fin 32) (c : Fin 128), P.w1f k c = if h : c.val < 64 then Bf.W1 ⟨c.val, h⟩ ⟨8 + k.val, by omega⟩ else 0
  w1r : ∀ (k : Fin 32) (c : Fin 128), P.w1r k c = if c.val < 64 then 0 else Br.W1 ⟨c.val - 64, by omega⟩ ⟨8 + k.val, by omega⟩
  b1 : ∀ c : Fin 128, P.b1 c = if h : c.val < 64 then Bf.b1 ⟨c.val, h⟩ else Br.b1 ⟨c.val - 64, by omega⟩
  w2 : ∀ j c : Fin 128, P.w2 j c
    = if h : j.val < 64 ∧ c.val < 64 then Bf.W2 ⟨c.val, h.2⟩ ⟨j.val, h.1⟩
      else if 64 ≤ j.val ∧ 64 ≤ c.val then Br.W2 ⟨c.val - 64, by omega⟩ ⟨j.val - 64, by omega⟩ else 0
  b2 : ∀ c : Fin 128, P.b2 c = if h : c.val < 64 then Bf.b2 ⟨c.val, h⟩ else Br.b2 ⟨c.val - 64, by omega⟩
  w1tm : ∀ (r : Fin 24) (c : Fin 64), P.w1tm r c = if r.val < 16 then 0 else Bm.W1 c ⟨r.val - 16, by omega⟩
  w1m : ∀ (k : Fin 32) (c : Fin 64), P.w1m k c = Bm.W1 c ⟨8 + k.val, by omega⟩
  b1m : ∀ c, P.b1m c = Bm.b1 c
  w2m : ∀ j c, P.w2m j c = Bm.W2 c j
  b2m : ∀ c, P.b2m c = Bm.b2 c
  wcf : ∀ (o : Fin 64) (c : Fin 128), P.wcf o c = S.Wc c ⟨o.val, by omega⟩
  wcr : ∀ (o : Fin 64) (c : Fin 128), P.wcr o c = S.Wc c ⟨64 + o.val, by omega⟩
  wcm : ∀ (o : Fin 64) (c : Fin 128), P.wcm o c = S.Wc c ⟨128 + o.val, by omega⟩
  bc : ∀ c, P.bc c = S.bc c

end Cert.DeepSet

end
-- ==== Proof.BlockFacts.lean ====
/-
  The fused block against the branches: column by column the second layers, row by row the segments.
-/
module

public import proofs.«01_k».proof.Proof.Block

@[expose] public section

noncomputable section

namespace Cert.DeepSet

open Idealize.ShloMosaic

/-- A sum over 24 places is three sums over eight. -/
theorem sum24 (f : Fin 24 → EReal) : ∑ r, f r = (∑ k : Fin 8, f ⟨k.val, by omega⟩) + (∑ k : Fin 8, f ⟨8 + k.val, by omega⟩)
    + ∑ k : Fin 8, f ⟨16 + k.val, by omega⟩ := by
  rw [Fin.sum_univ_two_halves 16 8 rfl f, Fin.sum_univ_two_halves 8 8 rfl]

/-- A sum over 128 places is two sums over 64. -/
theorem sum128 (f : Fin 128 → EReal) : ∑ r, f r = (∑ k : Fin 64, f ⟨k.val, by omega⟩) + ∑ k : Fin 64, f ⟨64 + k.val, by omega⟩ :=
  Fin.sum_univ_two_halves 64 64 rfl f

variable {σ : EReal → EReal} {P : Operands} {S : Shared} {Bf Br Bm : Branch} {t : Fin 8}

/-- Rows 0–7 of the embedding are branch f's. -/
theorem embedded_f (h : P.Prepared S Bf Br Bm t) (k : Fin 8) (n : Fin 4096) :
    P.embedded σ ⟨k.val, by omega⟩ n = embed σ S.w S.b (Bf.time (token t n)) k := by
  have e : P.angle ⟨k.val, by omega⟩ n = Bf.time (token t n) * S.w k + S.b k := by
    have h8 : (⟨k.val % 8, by omega⟩ : Fin 8) = k := Fin.ext (by simp)
    have e0 : P.s ⟨k.val, by omega⟩ 0 = S.w k := by rw [h.s0]; exact dif_pos k.isLt
    have e1 : P.s ⟨k.val, by omega⟩ 1 = 0 := by rw [h.s1]; exact if_pos k.isLt
    have e2 : P.s ⟨k.val, by omega⟩ 2 = 0 := by rw [h.s2]; exact if_pos (show k.val < 16 by omega)
    have e3 : P.s ⟨k.val, by omega⟩ 3 = S.b k := by rw [h.s3]; exact congrArg S.b h8
    unfold Operands.angle
    rw [Fin.sum_univ_four, e0, e1, e2, e3]
    show S.w k * P.a 0 n + 0 * P.a 1 n + 0 * P.a 2 n + S.b k * P.a 3 n = _
    rw [h.a0, h.a3, zero_mul, zero_mul, add_zero, add_zero, mul_one, mul_comm]
  unfold Operands.embedded embed
  rw [e]
  simp only [show k.val % 8 = k.val from Nat.mod_eq_of_lt k.isLt]

/-- Rows 8–15 of the embedding are branch r's. -/
theorem embedded_r (h : P.Prepared S Bf Br Bm t) (k : Fin 8) (n : Fin 4096) :
    P.embedded σ ⟨8 + k.val, by omega⟩ n = embed σ S.w S.b (Br.time (token t n)) k := by
  have e : P.angle ⟨8 + k.val, by omega⟩ n = Br.time (token t n) * S.w k + S.b k := by
    have h8 : (⟨(8 + k.val) % 8, by omega⟩ : Fin 8) = k := Fin.ext (by simp)
    have h9 : (⟨8 + k.val - 8, by omega⟩ : Fin 8) = k := Fin.ext (by simp)
    have e0 : P.s ⟨8 + k.val, by omega⟩ 0 = 0 := by rw [h.s0]; exact dif_neg (show ¬ 8 + k.val < 8 by omega)
    have e1 : P.s ⟨8 + k.val, by omega⟩ 1 = S.w k := by
      rw [h.s1]
      exact (if_neg (show ¬ 8 + k.val < 8 by omega)).trans ((dif_pos (show 8 + k.val < 16 by omega)).trans (congrArg S.w h9))
    have e2 : P.s ⟨8 + k.val, by omega⟩ 2 = 0 := by rw [h.s2]; exact if_pos (show 8 + k.val < 16 by omega)
    have e3 : P.s ⟨8 + k.val, by omega⟩ 3 = S.b k := by rw [h.s3]; exact congrArg S.b h8
    unfold Operands.angle
    rw [Fin.sum_univ_four, e0, e1, e2, e3]
    show 0 * P.a 0 n + S.w k * P.a 1 n + 0 * P.a 2 n + S.b k * P.a 3 n = _
    rw [h.a1, h.a3, zero_mul, zero_mul, add_zero, zero_add, mul_one, mul_comm]
  unfold Operands.embedded embed
  rw [e]
  simp only [show (8 + k.val) % 8 = k.val by omega]

/-- Rows 16–23 of the embedding are branch m's. -/
theorem embedded_m (h : P.Prepared S Bf Br Bm t) (k : Fin 8) (n : Fin 4096) :
    P.embedded σ ⟨16 + k.val, by omega⟩ n = embed σ S.w S.b (Bm.time (token t n)) k := by
  have e : P.angle ⟨16 + k.val, by omega⟩ n = Bm.time (token t n) * S.w k + S.b k := by
    have h8 : (⟨(16 + k.val) % 8, by omega⟩ : Fin 8) = k := Fin.ext (by simp; omega)
    have h9 : (⟨16 + k.val - 16, by omega⟩ : Fin 8) = k := Fin.ext (by simp)
    have e0 : P.s ⟨16 + k.val, by omega⟩ 0 = 0 := by rw [h.s0]; exact dif_neg (show ¬ 16 + k.val < 8 by omega)
    have e1 : P.s ⟨16 + k.val, by omega⟩ 1 = 0 := by
      rw [h.s1]
      exact (if_neg (show ¬ 16 + k.val < 8 by omega)).trans (dif_neg (show ¬ 16 + k.val < 16 by omega))
    have e2 : P.s ⟨16 + k.val, by omega⟩ 2 = S.w k := by
      rw [h.s2]
      exact (if_neg (show ¬ 16 + k.val < 16 by omega)).trans (congrArg S.w h9)
    have e3 : P.s ⟨16 + k.val, by omega⟩ 3 = S.b k := by rw [h.s3]; exact congrArg S.b h8
    unfold Operands.angle
    rw [Fin.sum_univ_four, e0, e1, e2, e3]
    show 0 * P.a 0 n + 0 * P.a 1 n + S.w k * P.a 2 n + S.b k * P.a 3 n = _
    rw [h.a2, h.a3, zero_mul, zero_mul, add_zero, zero_add, mul_one, mul_comm]
  unfold Operands.embedded embed
  rw [e]
  simp only [show (16 + k.val) % 8 = k.val by omega]

/-- Columns 0–63 of the first fused layer are branch f's first layer. -/
theorem first_f (h : P.Prepared S Bf Br Bm t) (n : Fin 4096) (j : Fin 64) :
    P.first σ n ⟨j.val, by omega⟩ = layer1 σ S Bf (token t n) j := by
  have hj := j.isLt
  have w0 : ∀ k : Fin 8, P.w1t ⟨k.val, by omega⟩ ⟨j.val, by omega⟩ = Bf.W1 j ⟨k.val, by omega⟩ := fun k => by
    rw [h.w1t]; exact dif_pos ⟨k.isLt, hj⟩
  have w1 : ∀ k : Fin 8, P.w1t ⟨8 + k.val, by omega⟩ ⟨j.val, by omega⟩ = 0 := fun k => by
    rw [h.w1t]
    exact (dif_neg (show ¬(8 + k.val < 8 ∧ j.val < 64) by omega)).trans (dif_neg (show ¬((8 ≤ 8 + k.val ∧ 8 + k.val < 16) ∧ 64 ≤ j.val) by omega))
  have w2 : ∀ k : Fin 8, P.w1t ⟨16 + k.val, by omega⟩ ⟨j.val, by omega⟩ = 0 := fun k => by
    rw [h.w1t]
    exact (dif_neg (show ¬(16 + k.val < 8 ∧ j.val < 64) by omega)).trans (dif_neg (show ¬((8 ≤ 16 + k.val ∧ 16 + k.val < 16) ∧ 64 ≤ j.val) by omega))
  have wf : ∀ k, P.w1f k ⟨j.val, by omega⟩ = Bf.W1 j ⟨8 + k.val, by omega⟩ := fun k => by rw [h.w1f]; exact dif_pos hj
  have wr : ∀ k, P.w1r k ⟨j.val, by omega⟩ = 0 := fun k => by rw [h.w1r]; exact if_pos hj
  have eb : P.b1 ⟨j.val, by omega⟩ = Bf.b1 j := by rw [h.b1]; exact dif_pos hj
  unfold Operands.first layer1
  simp only [sum24, embedded_f h, w0, w1, w2, wf, wr, eb, h.xf, mul_zero, Finset.sum_const_zero, add_zero]

/-- Columns 64–127 of the first fused layer are branch r's first layer. -/
theorem first_r (h : P.Prepared S Bf Br Bm t) (n : Fin 4096) (j : Fin 64) :
    P.first σ n ⟨64 + j.val, by omega⟩ = layer1 σ S Br (token t n) j := by
  have hj := j.isLt
  have ej : ∀ hlt, (⟨64 + j.val - 64, hlt⟩ : Fin 64) = j := fun _ => Fin.ext (by simp)
  have w0 : ∀ k : Fin 8, P.w1t ⟨k.val, by omega⟩ ⟨64 + j.val, by omega⟩ = 0 := fun k => by
    rw [h.w1t]
    exact (dif_neg (show ¬(k.val < 8 ∧ 64 + j.val < 64) by omega)).trans (dif_neg (show ¬((8 ≤ k.val ∧ k.val < 16) ∧ 64 ≤ 64 + j.val) by omega))
  have w1 : ∀ k : Fin 8, P.w1t ⟨8 + k.val, by omega⟩ ⟨64 + j.val, by omega⟩ = Br.W1 j ⟨k.val, by omega⟩ := fun k => by
    rw [h.w1t]
    exact (dif_neg (show ¬(8 + k.val < 8 ∧ 64 + j.val < 64) by omega)).trans
      ((dif_pos (show (8 ≤ 8 + k.val ∧ 8 + k.val < 16) ∧ 64 ≤ 64 + j.val by omega)).trans
        (congrArg₂ Br.W1 (ej _) (Fin.ext (by simp))))
  have w2 : ∀ k : Fin 8, P.w1t ⟨16 + k.val, by omega⟩ ⟨64 + j.val, by omega⟩ = 0 := fun k => by
    rw [h.w1t]
    exact (dif_neg (show ¬(16 + k.val < 8 ∧ 64 + j.val < 64) by omega)).trans (dif_neg (show ¬((8 ≤ 16 + k.val ∧ 16 + k.val < 16) ∧ 64 ≤ 64 + j.val) by omega))
  have wf : ∀ k, P.w1f k ⟨64 + j.val, by omega⟩ = 0 := fun k => by rw [h.w1f]; exact dif_neg (show ¬64 + j.val < 64 by omega)
  have wr : ∀ k, P.w1r k ⟨64 + j.val, by omega⟩ = Br.W1 j ⟨8 + k.val, by omega⟩ := fun k => by
    rw [h.w1r]; exact (if_neg (show ¬64 + j.val < 64 by omega)).trans (congrArg (Br.W1 · _) (ej _))
  have eb : P.b1 ⟨64 + j.val, by omega⟩ = Br.b1 j := by
    rw [h.b1]; exact (dif_neg (show ¬64 + j.val < 64 by omega)).trans (congrArg Br.b1 (ej _))
  unfold Operands.first layer1
  simp only [sum24, embedded_r h, w0, w1, w2, wf, wr, eb, h.xr, mul_zero, Finset.sum_const_zero, add_zero, zero_add]

/-- Columns 0–63 of the second fused layer are branch f's second layer. -/
theorem second_f (h : P.Prepared S Bf Br Bm t) (n : Fin 4096) (o : Fin 64) :
    P.second σ n ⟨o.val, by omega⟩ = layer2 σ S Bf (token t n) o := by
  have ho := o.isLt
  have w0 : ∀ j : Fin 64, P.w2 ⟨j.val, by omega⟩ ⟨o.val, by omega⟩ = Bf.W2 o j := fun j => by
    rw [h.w2]; exact dif_pos ⟨j.isLt, ho⟩
  have w1 : ∀ j : Fin 64, P.w2 ⟨64 + j.val, by omega⟩ ⟨o.val, by omega⟩ = 0 := fun j => by
    rw [h.w2]
    exact (dif_neg (show ¬(64 + j.val < 64 ∧ o.val < 64) by omega)).trans (if_neg (show ¬(64 ≤ 64 + j.val ∧ 64 ≤ o.val) by omega))
  have eb : P.b2 ⟨o.val, by omega⟩ = Bf.b2 o := by rw [h.b2]; exact dif_pos ho
  unfold Operands.second layer2
  simp only [sum128, first_f h, w0, w1, eb, mul_zero, Finset.sum_const_zero, add_zero]

/-- Columns 64–127 of the second fused layer are branch r's second layer. -/
theorem second_r (h : P.Prepared S Bf Br Bm t) (n : Fin 4096) (o : Fin 64) :
    P.second σ n ⟨64 + o.val, by omega⟩ = layer2 σ S Br (token t n) o := by
  have ho := o.isLt
  have eo : ∀ hlt, (⟨64 + o.val - 64, hlt⟩ : Fin 64) = o := fun _ => Fin.ext (by simp)
  have w0 : ∀ j : Fin 64, P.w2 ⟨j.val, by omega⟩ ⟨64 + o.val, by omega⟩ = 0 := fun j => by
    rw [h.w2]
    exact (dif_neg (show ¬(j.val < 64 ∧ 64 + o.val < 64) by omega)).trans (if_neg (show ¬(64 ≤ j.val ∧ 64 ≤ 64 + o.val) by omega))
  have w1 : ∀ j : Fin 64, P.w2 ⟨64 + j.val, by omega⟩ ⟨64 + o.val, by omega⟩ = Br.W2 o j := fun j => by
    rw [h.w2]
    exact (dif_neg (show ¬(64 + j.val < 64 ∧ 64 + o.val < 64) by omega)).trans
      ((if_pos (show 64 ≤ 64 + j.val ∧ 64 ≤ 64 + o.val by omega)).trans (congrArg₂ Br.W2 (eo _) (Fin.ext (by simp))))
  have eb : P.b2 ⟨64 + o.val, by omega⟩ = Br.b2 o := by
    rw [h.b2]; exact (dif_neg (show ¬64 + o.val < 64 by omega)).trans (congrArg Br.b2 (eo _))
  unfold Operands.second layer2
  simp only [sum128, first_r h, w0, w1, eb, mul_zero, Finset.sum_const_zero, zero_add]

/-- Branch m's two layers. -/
theorem second_m (h : P.Prepared S Bf Br Bm t) (n : Fin 4096) (o : Fin 64) :
    P.secondM σ n o = layer2 σ S Bm (token t n) o := by
  have w0 : ∀ (k : Fin 8) (j : Fin 64), P.w1tm ⟨k.val, by omega⟩ j = 0 := fun k j => by
    rw [h.w1tm]; exact if_pos (show k.val < 16 by omega)
  have w1 : ∀ (k : Fin 8) (j : Fin 64), P.w1tm ⟨8 + k.val, by omega⟩ j = 0 := fun k j => by
    rw [h.w1tm]; exact if_pos (show 8 + k.val < 16 by omega)
  have w2 : ∀ (k : Fin 8) (j : Fin 64), P.w1tm ⟨16 + k.val, by omega⟩ j = Bm.W1 j ⟨k.val, by omega⟩ := fun k j => by
    rw [h.w1tm]; exact (if_neg (show ¬16 + k.val < 16 by omega)).trans (congrArg (Bm.W1 j) (Fin.ext (by simp)))
  have e1 : ∀ j, P.firstM σ n j = layer1 σ S Bm (token t n) j := fun j => by
    unfold Operands.firstM layer1
    simp only [sum24, embedded_m h, w0, w1, w2, h.w1m, h.b1m, h.xm, mul_zero, Finset.sum_const_zero, zero_add]
  unfold Operands.secondM layer2
  simp only [e1, h.w2m, h.b2m]

/-- The segment id of token `n` in branch `q`, as the auxiliary rows hold it, picked by the branch of row `16 q + r`. -/
theorem member_eq (h : P.Prepared S Bf Br Bm t) (n : Fin 4096) (q : Fin 3) (r : Fin 16) (B : Branch)
    (hB : P.a ⟨4 + q.val, by omega⟩ n = (((B.seg (token t n)).toInt : ℝ) : EReal)) (i : Fin 48) (hi : i.val = 16 * q.val + r.val) :
    P.member n i = if (B.seg (token t n)).toInt = (r.val : Int) then 1 else 0 := by
  have e : (∑ k : Fin 3, P.a ⟨4 + k.val, by omega⟩ n * P.q k i) = (((B.seg (token t n)).toInt : ℝ) : EReal) := by
    rw [Finset.sum_eq_single q]
    · rw [h.q, if_pos (by omega), mul_one, hB]
    · intro k _ hk
      rw [h.q, if_neg (fun x => hk (Fin.ext (by omega))), mul_zero]
    · exact fun x => absurd (Finset.mem_univ q) x
  unfold Operands.member
  rw [e, h.ids, show i.val % 16 = r.val by omega]
  refine if_congr ?_ rfl rfl
  rw [EReal.coe_eq_coe_iff]
  exact_mod_cast Iff.rfl

end Cert.DeepSet

end
-- ==== Proof.Accumulated.lean ====
/-
  The eight blocks together: the filled accumulator's rows hold the branches' totals and counts, and what the kernel
  makes of it is the result.
-/
module

public import proofs.«01_k».proof.Proof.BlockFacts

@[expose] public section

noncomputable section

namespace Cert.DeepSet

open Idealize.ShloMosaic

/-- A sum over all tokens, block by block. -/
theorem sum_tokens (f : Fin 32768 → EReal) : (∑ t : Fin 8, ∑ n : Fin 4096, f (token t n)) = ∑ n, f n :=
  (Fin.sum_univ_tiles 8 4096 rfl f).symm

/-- An indicator times a value. -/
theorem indicator_mul (p : Prop) [Decidable p] (x : EReal) : (if p then (1 : EReal) else 0) * x = if p then x else 0 := by
  split <;> simp

variable {σ : EReal → EReal} {P : Fin 8 → Operands} {S : Shared} {Bf Br Bm : Branch}

/-- The accumulator after all blocks. -/
def accumulated (σ : EReal → EReal) (P : Fin 8 → Operands) (r : Fin 48) (c : Fin 193) : EReal := ∑ t, (P t).part σ r c

/-- Rows 0–15, columns 0–63: branch f's totals. -/
theorem accumulated_f (h : ∀ t, (P t).Prepared S Bf Br Bm t) (r : Fin 16) (o : Fin 64) :
    accumulated σ P ⟨r.val, by omega⟩ ⟨o.val, by omega⟩ = total σ S Bf r o := by
  unfold accumulated total
  rw [← sum_tokens]
  refine Finset.sum_congr rfl fun t _ => ?_
  refine (dif_pos (show o.val < 128 by omega)).trans ?_
  refine Finset.sum_congr rfl fun n _ => ?_
  rw [second_f (h t), member_eq (h t) n 0 r Bf ((h t).a4 n) _ (by simp), indicator_mul]

/-- Rows 16–31, columns 64–127: branch r's totals. -/
theorem accumulated_r (h : ∀ t, (P t).Prepared S Bf Br Bm t) (r : Fin 16) (o : Fin 64) :
    accumulated σ P ⟨16 + r.val, by omega⟩ ⟨64 + o.val, by omega⟩ = total σ S Br r o := by
  unfold accumulated total
  rw [← sum_tokens]
  refine Finset.sum_congr rfl fun t _ => ?_
  refine (dif_pos (show 64 + o.val < 128 by omega)).trans ?_
  refine Finset.sum_congr rfl fun n _ => ?_
  rw [second_r (h t), member_eq (h t) n 1 r Br ((h t).a5 n) _ (by simp), indicator_mul]

/-- Rows 32–47, columns 128–191: branch m's totals. -/
theorem accumulated_m (h : ∀ t, (P t).Prepared S Bf Br Bm t) (r : Fin 16) (o : Fin 64) :
    accumulated σ P ⟨32 + r.val, by omega⟩ ⟨128 + o.val, by omega⟩ = total σ S Bm r o := by
  unfold accumulated total
  rw [← sum_tokens]
  refine Finset.sum_congr rfl fun t _ => ?_
  refine (dif_neg (show ¬128 + o.val < 128 by omega)).trans ((dif_pos (show 128 + o.val < 192 by omega)).trans ?_)
  refine Finset.sum_congr rfl fun n _ => ?_
  have eo : ∀ hlt, (⟨128 + o.val - 128, hlt⟩ : Fin 64) = o := fun _ => Fin.ext (by simp)
  rw [second_m (h t), member_eq (h t) n 2 r Bm ((h t).a6 n) _ (by simp), indicator_mul, eo]

/-- The last column at a row of a branch: how many tokens of the branch are in the segment. -/
theorem accumulated_count (h : ∀ t, (P t).Prepared S Bf Br Bm t) (q : Fin 3) (r : Fin 16) (B : Branch)
    (hB : ∀ t n, (P t).a ⟨4 + q.val, by omega⟩ n = (((B.seg (token t n)).toInt : ℝ) : EReal)) (i : Fin 48)
    (hi : i.val = 16 * q.val + r.val) : accumulated σ P i 192 = count B r := by
  unfold accumulated count
  rw [← sum_tokens]
  refine Finset.sum_congr rfl fun t _ => ?_
  refine (dif_neg (show ¬192 < 128 by omega)).trans ((dif_neg (show ¬192 < 192 by omega)).trans ?_)
  refine Finset.sum_congr rfl fun n _ => ?_
  rw [member_eq (h t) n q r B (hB t n) i hi, mul_one]

/-- What the kernel makes of the filled accumulator is the result. -/
theorem finish_accumulated (h : ∀ t, (P t).Prepared S Bf Br Bm t) (t : Fin 8) (r : Fin 16) (c : Fin 128) :
    (P t).finish (accumulated σ P) r c = result σ S Bf Br Bm r c := by
  unfold Operands.finish result mean
  simp only [accumulated_f h, accumulated_r h, accumulated_m h, (h t).wcf, (h t).wcr, (h t).wcm, (h t).bc]
  rw [accumulated_count h 0 r Bf (fun t n => (h t).a4 n) _ (by simp),
    accumulated_count h 1 r Br (fun t n => (h t).a5 n) _ (by simp),
    accumulated_count h 2 r Bm (fun t n => (h t).a6 n) _ (by simp)]

/-- The block's part in a column of branches f and r, -/
theorem part_FR (P : Operands) (σ : EReal → EReal) (r : Fin 48) (j : Fin 128) : P.part σ r ⟨j.val, by omega⟩ = P.partFR σ r j :=
  dif_pos j.isLt

/-- of branch m, -/
theorem part_M (P : Operands) (σ : EReal → EReal) (r : Fin 48) (j : Fin 64) : P.part σ r ⟨128 + j.val, by omega⟩ = P.partM σ r j :=
  (dif_neg (show ¬128 + j.val < 128 by omega)).trans
    ((dif_pos (show 128 + j.val < 192 by omega)).trans (congrArg (P.partM σ r) (Fin.ext (Nat.add_sub_cancel_left 128 j.val))))

/-- and in the column of counts. -/
theorem part_C (P : Operands) (σ : EReal → EReal) (r : Fin 48) : P.part σ r 192 = P.partC r := rfl

end Cert.DeepSet

end
-- ==== Proof.Pieces.lean ====
/-
  A buffer filled by stores through rectangles, read at an index: the newest store holding the index decides.
-/
module

public import Idealize.ShloMosaic.Lib.Pipeline.ValueKit

@[expose] public section

noncomputable section

namespace Cert.DeepSet

open Idealize.ShloMosaic Idealize.SL

variable {S : Shape} {e : EltTy} {Val : EltTy → Type} [∀ e, Nonempty (Val e)] {off size : Fin S.rank → ℕ}
  {inb : ∀ a, off a + size a ≤ S.size a} {w : (Rect.unit off size inb).shape.Idx → Val e} {L : List (View.Piece Val S e)} {y : S.Idx}

/-- The newest store holds the index: its own value there. -/
theorem newest_holds (x : (Rect.unit off size inb).shape.Idx) (hx : ∀ a, (y a : ℕ) = off a + x a) :
    View.canon ((⟨Rect.unit off size inb, w⟩ : View.Piece Val S e) :: L) y = w x := by
  have : y = (Rect.unit off size inb).emb x :=
    funext fun a => Fin.ext ((hx a).trans (Rect.idx_unit_val off size inb x a).symm)
  rw [this]
  exact View.canon_cons_emb _ w L x

/-- The newest store misses the index along axis `a`: the earlier stores decide. -/
theorem newest_misses (a : Fin S.rank) (h : (y a : ℕ) < off a ∨ off a + size a ≤ (y a : ℕ)) :
    View.canon ((⟨Rect.unit off size inb, w⟩ : View.Piece Val S e) :: L) y = View.canon L y :=
  View.canon_cons_of_not_mem _ _ fun hm => by
    have := (Rect.mem_set_unit (inb := inb)).mp hm a
    omega

/-- Where a rectangle with unit strides places an index. -/
theorem unit_place {x : (Rect.unit off size inb).shape.Idx} (y : S.Idx) (hy : ∀ a, (y a : ℕ) = off a + x a) :
    (Rect.unit off size inb).toLoadRect.idx x = y :=
  funext fun a => Fin.ext ((Rect.idx_unit_val off size inb x a).trans (hy a).symm)

/-- A column of the accumulator is of branches f and r, of branch m, or the counts. -/
theorem column_cases (k : Fin 193) :
    (∃ j : Fin 128, k = ⟨j.val, by omega⟩) ∨ (∃ j : Fin 64, k = ⟨128 + j.val, by omega⟩) ∨ k = 192 := by
  have := k.isLt
  by_cases h : k.val < 128
  · exact .inl ⟨⟨k.val, h⟩, rfl⟩
  · by_cases h' : k.val < 192
    · exact .inr (.inl ⟨⟨k.val - 128, by omega⟩, Fin.ext (show k.val = 128 + (k.val - 128) by omega)⟩)
    · exact .inr (.inr (Fin.ext (show k.val = 192 by omega)))

end Cert.DeepSet

end
-- ==== Proof.ApproximateSine.lean ====
/-
  The sine as the kernel computes it: the nearest whole number of half turns is taken away, and a polynomial is taken
  of what remains, with the sign of the parity of the half turns.
-/
module

public import proofs.«01_k».proof.Proof.Mathematics

@[expose] public section

noncomputable section

namespace Cert.DeepSet

open Idealize.ShloMosaic

/-- The nearest whole number of half turns. The factor is the float32 nearest to 1/π. -/
def halfTurns (x : EReal) : EReal := Ideal.liftRound Ideal.roundHalfEven (x * Ideal.ofBits .f32 0x3EA2F983#32)

/-- What remains of the angle. The two factors add up to π more closely than one float32 can. -/
def remainder (x : EReal) : EReal := x - halfTurns x * Ideal.ofBits .f32 0x40490FDB#32 - halfTurns x * Ideal.ofBits .f32 0xB3BBBD2E#32

/-- The polynomial of degree nine in the remainder. -/
def oddPolynomial (y : EReal) : EReal :=
  y * (1 + y * y * (Ideal.ofBits .f32 0xBE2AAAAB#32 + y * y * (Ideal.ofBits .f32 0x3C088889#32
    + y * y * (Ideal.ofBits .f32 0xB9500D01#32 + y * y * Ideal.ofBits .f32 0x3638EF1D#32))))

/-- Whether the number of half turns is odd, by its last bit as an integer. -/
def oddTurns (q : EReal) : Prop := Ideal.fptosi 32 q &&& 1#32 = 1#32

instance (q : EReal) : Decidable (oddTurns q) := inferInstanceAs (Decidable (_ = _))

/-- The approximation of the sine. -/
def approximateSine (x : EReal) : EReal :=
  if oddTurns (halfTurns x) then -oddPolynomial (remainder x) else oddPolynomial (remainder x)

/-- A choice by the parity of the half turns, as the programs write it. -/
theorem select_odd (q u v : EReal) :
    (Scalar.select (IntOp.cmpi .eq (IntOp.andi (Ideal.fptosi 32 q) 1#32) 1#32) u v : EReal) = if oddTurns q then u else v := by
  by_cases h : oddTurns q
  · rw [if_pos h, show IntOp.cmpi .eq (IntOp.andi (Ideal.fptosi 32 q) 1#32) 1#32 = 1#1 from congrArg BitVec.ofBool (decide_eq_true h)]
    rfl
  · rw [if_neg h, show IntOp.cmpi .eq (IntOp.andi (Ideal.fptosi 32 q) 1#32) 1#32 = 0#1 from congrArg BitVec.ofBool (decide_eq_false h)]
    rfl

end Cert.DeepSet

end
-- ==== Proof.Operands.lean ====
/-
  The operands of a block, read from the arrays that the kernel's windows hold.
-/
module

public import proofs.«01_k».proof.Proof.Block

@[expose] public section

noncomputable section

namespace Cert.DeepSet

open Idealize.ShloMosaic

/-- The operands of a block from the arrays of the windows 0 to 21, by plain indices. -/
def Operands.ofBlocks (x0 : Vec Ideal ⟨2, ![8, 4096]⟩ .f32) (x1 x2 x3 : Vec Ideal ⟨2, ![4096, 32]⟩ .bf16)
    (x4 : Vec Ideal ⟨2, ![24, 4]⟩ .f32) (x5 : Vec Ideal ⟨2, ![1, 48]⟩ .f32) (x6 : Vec Ideal ⟨2, ![3, 48]⟩ .f32)
    (x7 : Vec Ideal ⟨2, ![24, 128]⟩ .f32) (x8 x9 : Vec Ideal ⟨2, ![32, 128]⟩ .bf16) (x10 : Vec Ideal ⟨2, ![1, 128]⟩ .f32)
    (x11 : Vec Ideal ⟨2, ![128, 128]⟩ .f32) (x12 : Vec Ideal ⟨2, ![1, 128]⟩ .f32) (x13 : Vec Ideal ⟨2, ![24, 64]⟩ .f32)
    (x14 : Vec Ideal ⟨2, ![32, 64]⟩ .bf16) (x15 : Vec Ideal ⟨2, ![1, 64]⟩ .f32) (x16 : Vec Ideal ⟨2, ![64, 64]⟩ .f32)
    (x17 : Vec Ideal ⟨2, ![1, 64]⟩ .f32) (x18 x19 x20 : Vec Ideal ⟨2, ![64, 128]⟩ .f32)
    (x21 : Vec Ideal ⟨2, ![1, 128]⟩ .f32) : Operands where
  a r n := x0 (ix2 r n)
  xf n k := x1 (ix2 n k)
  xr n k := x2 (ix2 n k)
  xm n k := x3 (ix2 n k)
  s r k := x4 (ix2 r k)
  ids r := x5 (ix2 0 r)
  q k r := x6 (ix2 k r)
  w1t r c := x7 (ix2 r c)
  w1f k c := x8 (ix2 k c)
  w1r k c := x9 (ix2 k c)
  b1 c := x10 (ix2 0 c)
  w2 j c := x11 (ix2 j c)
  b2 c := x12 (ix2 0 c)
  w1tm r c := x13 (ix2 r c)
  w1m k c := x14 (ix2 k c)
  b1m c := x15 (ix2 0 c)
  w2m j c := x16 (ix2 j c)
  b2m c := x17 (ix2 0 c)
  wcf o c := x18 (ix2 o c)
  wcr o c := x19 (ix2 o c)
  wcm o c := x20 (ix2 o c)
  bc c := x21 (ix2 0 c)

end Cert.DeepSet

end
-- ==== Proof.SineBlock.lean ====
/-
  What the body of the kernel with the sine computes on one block, each of its terms at an index, and all together as
  the block's part of the accumulator.
-/
module

public import proofs.«01_k».proof.Proof.Operands
public import proofs.«01_k».proof.Proof.Gen.KernelSineIdeal.Skeleton

@[expose] public section

set_option maxRecDepth 16384

noncomputable section

namespace Cert.DeepSet.Sine

open Idealize.ShloMosaic Idealize.ShloMosaic.TcCoe
open Cert.KernelSineIdeal Cert.KernelSineIdeal.Gen

/-- The embedding at row `r` and token `n`: every eighth row a linear form of the auxiliary rows, the others its sine. -/
theorem embedded_at (x0 : Vec Ideal S8x4096 .f32) (x4 : Vec Ideal S24x4 .f32) (r : Fin 24) (n : Fin 4096) :
    (k0_pay7 (F := Ideal) x0 x4 (ix2 r n) : EReal)
      = if r.val % 8 = 0 then ∑ k : Fin 4, x4 (ix2 r k) * x0 (ix2 ⟨k.val, by omega⟩ n)
        else Ideal.sin (∑ k : Fin 4, x4 (ix2 r k) * x0 (ix2 ⟨k.val, by omega⟩ n)) := by
  pointwise [k0_pay7, k0_pay6]
  generalize (∑ k : Fin 4, x4 (ix2 r k) * x0 (ix2 ⟨k.val, _⟩ n) : EReal) = s
  clear x0 x4 n
  revert r
  exact fun r => by fin_cases r <;> rfl

/-- The embedding's product with the first weights of branches f and r. -/
theorem timeProduct_at (x0 : Vec Ideal S8x4096 .f32) (x4 : Vec Ideal S24x4 .f32) (x7 : Vec Ideal S24x128 .f32) (n : Fin 4096) (c : Fin 128) :
    (k0_pay8 (F := Ideal) x0 x4 x7 (ix2 n c) : EReal) = ∑ r : Fin 24, k0_pay7 (F := Ideal) x0 x4 (ix2 r n) * x7 (ix2 r c) := by
  pointwise [k0_pay8]

/-- The embedding's product with the first weights of branch m. -/
theorem timeProductM_at (e : FVec Ideal S24x4096 .f32) (x13 : Vec Ideal S24x64 .f32) (n : Fin 4096) (c : Fin 64) :
    (k0_pay12 (F := Ideal) e x13 (ix2 n c) : EReal) = ∑ r : Fin 24, e (ix2 r n) * x13 (ix2 r c) := by
  pointwise [k0_pay12]

/-- The two layers of branches f and r. -/
theorem layers_at (v : FVec Ideal S4096x128 .f32) (x1 : Vec Ideal S4096x32 .bf16) (x8 : Vec Ideal S32x128 .bf16)
    (x2 : Vec Ideal S4096x32 .bf16) (x9 : Vec Ideal S32x128 .bf16) (x10 : Vec Ideal S1x128 .f32) (x11 : Vec Ideal S128x128 .f32)
    (x12 : Vec Ideal S1x128 .f32) (n : Fin 4096) (c : Fin 128) :
    (k0_pay11 (F := Ideal) v (k0_pay9 x1) (k0_pay10 x8) x2 x9 x10 x11 x12 (ix2 n c) : EReal)
      = rect ((∑ j : Fin 128, rect (v (ix2 n j) + (∑ k : Fin 32, x1 (ix2 n k) * x8 (ix2 k j)) + (∑ k : Fin 32, x2 (ix2 n k) * x9 (ix2 k j))
          + x10 (ix2 0 j)) * x11 (ix2 j c)) + x12 (ix2 0 c)) := by
  unfold rect slope
  pointwise [k0_pay11, k0_pay9, k0_pay10]

/-- The two layers of branch m. -/
theorem layersM_at (v : FVec Ideal S4096x64 .f32) (x3 : Vec Ideal S4096x32 .bf16) (x14 : Vec Ideal S32x64 .bf16)
    (x15 : Vec Ideal S1x64 .f32) (x16 : Vec Ideal S64x64 .f32) (x17 : Vec Ideal S1x64 .f32) (n : Fin 4096) (c : Fin 64) :
    (k0_pay15 (F := Ideal) v (k0_pay13 x3) (k0_pay14 x14) x15 x16 x17 (ix2 n c) : EReal)
      = rect ((∑ j : Fin 64, rect (v (ix2 n j) + (∑ k : Fin 32, x3 (ix2 n k) * x14 (ix2 k j)) + x15 (ix2 0 j)) * x16 (ix2 j c))
          + x17 (ix2 0 c)) := by
  unfold rect slope
  pointwise [k0_pay15, k0_pay13, k0_pay14]

/-- The indicator of the segment rows. -/
theorem member_at (x0 : Vec Ideal S8x4096 .f32) (x6 : Vec Ideal S3x48 .f32) (x5 : Vec Ideal S1x48 .f32) (n : Fin 4096) (r : Fin 48) :
    (k0_pay16 (F := Ideal) (k0_pay6 x0) x6 x5 (ix2 n r) : EReal)
      = if (∑ k : Fin 3, x0 (ix2 ⟨4 + k.val, by omega⟩ n) * x6 (ix2 k r) : EReal) = x5 (ix2 0 r) then 1 else 0 := by
  pointwise [k0_pay16, k0_pay6]
  by_cases h : (∑ k : Fin 3, x0 (ix2 ⟨4 + k.val, by omega⟩ n) * x6 (ix2 k r) : EReal) = x5 (ix2 0 r)
  · rw [if_pos h, decide_eq_true h]
    show (((BitVec.setWidth 32 (BitVec.ofBool true)).toInt : ℝ) : EReal) = 1
    rw [show (BitVec.setWidth 32 (BitVec.ofBool true)).toInt = 1 from by decide]
    norm_num
  · rw [if_neg h, decide_eq_false h]
    show (((BitVec.setWidth 32 (BitVec.ofBool false)).toInt : ℝ) : EReal) = 0
    rw [show (BitVec.setWidth 32 (BitVec.ofBool false)).toInt = 0 from by decide]
    norm_num

/-- The accumulator's columns of branches f and r after a block. -/
theorem columnsFR_at (x0 : Vec Ideal S8x4096 .f32) (h : FVec Ideal S4096x128 .f32) (x6 : Vec Ideal S3x48 .f32) (x5 : Vec Ideal S1x48 .f32)
    (acc : Vec Ideal S48x128 .f32) (r : Fin 48) (c : Fin 128) :
    (k0_pay1 (F := Ideal) (k0_pay18 (k0_pay6 x0) h x6 x5 acc) (ix2 r c) : EReal)
      = acc (ix2 r c) + ∑ n : Fin 4096, k0_pay16 (F := Ideal) (k0_pay6 x0) x6 x5 (ix2 n r) * h (ix2 n c) := by
  pointwise [k0_pay1, k0_pay18]

/-- The accumulator's columns of branch m after a block. -/
theorem columnsM_at (h : FVec Ideal S4096x64 .f32) (o : FVec Ideal S4096x48 .f32) (acc : Vec Ideal S48x64 .f32) (r : Fin 48) (c : Fin 64) :
    (k0_pay2 (F := Ideal) h o acc (ix2 r c) : EReal) = acc (ix2 r c) + ∑ n : Fin 4096, o (ix2 n r) * h (ix2 n c) := by
  pointwise [k0_pay2]

/-- The accumulator's column of counts after a block. -/
theorem columnC_at (o : FVec Ideal S4096x48 .f32) (acc : Vec Ideal S48x1 .f32) (r : Fin 48) (c : Fin 1) :
    (k0_pay3 (F := Ideal) o k0_pay17 acc (ix2 r c) : EReal) = acc (ix2 r c) + ∑ n : Fin 4096, o (ix2 n r) * 1 := by
  pointwise [k0_pay3, k0_pay17]

/-- The result from the accumulator. -/
theorem finish_at (A : Vec Ideal S48x193 .f32) (x18 x19 x20 : Vec Ideal S64x128 .f32) (x21 : Vec Ideal S1x128 .f32) (r : Fin 16) (c : Fin 128) :
    (k0_pay4 (F := Ideal) A x18 x19 x20 x21 (ix2 r c) : EReal)
      = rect ((∑ o : Fin 64, Ideal.div (A (ix2 ⟨r.val, by omega⟩ ⟨o.val, by omega⟩)) (max (A (ix2 ⟨r.val, by omega⟩ 192)) 1) * x18 (ix2 o c))
        + (∑ o : Fin 64, Ideal.div (A (ix2 ⟨16 + r.val, by omega⟩ ⟨64 + o.val, by omega⟩)) (max (A (ix2 ⟨16 + r.val, by omega⟩ 192)) 1) * x19 (ix2 o c))
        + (∑ o : Fin 64, Ideal.div (A (ix2 ⟨32 + r.val, by omega⟩ ⟨128 + o.val, by omega⟩)) (max (A (ix2 ⟨32 + r.val, by omega⟩ 192)) 1) * x20 (ix2 o c))
        + x21 (ix2 0 c)) := by
  unfold rect slope
  pointwise [k0_pay4]

section Block

variable (x0 : Vec Ideal S8x4096 .f32) (x1 x2 x3 : Vec Ideal S4096x32 .bf16) (x4 : Vec Ideal S24x4 .f32) (x5 : Vec Ideal S1x48 .f32)
  (x6 : Vec Ideal S3x48 .f32) (x7 : Vec Ideal S24x128 .f32) (x8 x9 : Vec Ideal S32x128 .bf16) (x10 : Vec Ideal S1x128 .f32)
  (x11 : Vec Ideal S128x128 .f32) (x12 : Vec Ideal S1x128 .f32) (x13 : Vec Ideal S24x64 .f32) (x14 : Vec Ideal S32x64 .bf16)
  (x15 : Vec Ideal S1x64 .f32) (x16 : Vec Ideal S64x64 .f32) (x17 : Vec Ideal S1x64 .f32) (x18 x19 x20 : Vec Ideal S64x128 .f32)
  (x21 : Vec Ideal S1x128 .f32)

/-- A block adds its part to the columns of branches f and r. -/
theorem stepFR_at (acc : Vec Ideal S48x128 .f32) (r : Fin 48) (c : Fin 128) :
    (k0_pay1 (F := Ideal) (k0_pay18 (k0_pay6 x0)
        (k0_pay11 (k0_pay8 x0 x4 x7) (k0_pay9 x1) (k0_pay10 x8) x2 x9 x10 x11 x12) x6 x5 acc) (ix2 r c) : EReal)
      = acc (ix2 r c) + (Operands.ofBlocks x0 x1 x2 x3 x4 x5 x6 x7 x8 x9 x10 x11 x12 x13 x14 x15 x16 x17 x18 x19 x20 x21).partFR Ideal.sin r c := by
  rw [columnsFR_at]
  refine congrArg (acc (ix2 r c) + ·) (Finset.sum_congr rfl fun n _ => ?_)
  rw [member_at, layers_at]
  simp only [timeProduct_at, embedded_at]
  rfl

/-- A block adds its part to the columns of branch m. -/
theorem stepM_at (acc : Vec Ideal S48x64 .f32) (r : Fin 48) (c : Fin 64) :
    (k0_pay2 (F := Ideal) (k0_pay15 (k0_pay12 (k0_pay7 x0 x4) x13) (k0_pay13 x3) (k0_pay14 x14) x15 x16 x17)
        (k0_pay16 (k0_pay6 x0) x6 x5) acc (ix2 r c) : EReal)
      = acc (ix2 r c) + (Operands.ofBlocks x0 x1 x2 x3 x4 x5 x6 x7 x8 x9 x10 x11 x12 x13 x14 x15 x16 x17 x18 x19 x20 x21).partM Ideal.sin r c := by
  rw [columnsM_at]
  refine congrArg (acc (ix2 r c) + ·) (Finset.sum_congr rfl fun n _ => ?_)
  rw [member_at, layersM_at]
  simp only [timeProductM_at, embedded_at]
  rfl

/-- A block adds its part to the column of counts. -/
theorem stepC_at (acc : Vec Ideal S48x1 .f32) (r : Fin 48) (c : Fin 1) :
    (k0_pay3 (F := Ideal) (k0_pay16 (k0_pay6 x0) x6 x5) k0_pay17 acc (ix2 r c) : EReal) = acc (ix2 r c) + (Operands.ofBlocks x0 x1 x2 x3 x4 x5 x6 x7 x8 x9 x10 x11 x12 x13 x14 x15 x16 x17 x18 x19 x20 x21).partC r := by
  rw [columnC_at]
  refine congrArg (acc (ix2 r c) + ·) (Finset.sum_congr rfl fun n _ => ?_)
  rw [member_at]
  rfl

/-- The result from a filled accumulator. -/
theorem finishBlock_at (A : Vec Ideal S48x193 .f32) (r : Fin 16) (c : Fin 128) :
    (k0_pay4 (F := Ideal) A x18 x19 x20 x21 (ix2 r c) : EReal) = (Operands.ofBlocks x0 x1 x2 x3 x4 x5 x6 x7 x8 x9 x10 x11 x12 x13 x14 x15 x16 x17 x18 x19 x20 x21).finish (fun a b => A (ix2 a b)) r c := by
  rw [finish_at]
  rfl

end Block

end Cert.DeepSet.Sine

end
-- ==== Proof.PolynomialBlock.lean ====
/-
  What the body of the kernel with the polynomial computes on one block. It differs from the kernel with the sine in the
  embedding and in where its steps are cut; what is the same is taken from there.
-/
module

public import proofs.«01_k».proof.Proof.ApproximateSine
public import proofs.«01_k».proof.Proof.SineBlock
public import proofs.«01_k».proof.Proof.Gen.KernelIdeal.Skeleton

@[expose] public section

set_option maxRecDepth 16384

noncomputable section

namespace Cert.DeepSet.Polynomial

open Idealize.ShloMosaic Idealize.ShloMosaic.TcCoe
open Cert.KernelIdeal Cert.KernelIdeal.Gen

/-- The angle at row `r` and token `n` is a linear form of the auxiliary rows. -/
theorem angle_at (x0 : Vec Ideal S8x4096 .f32) (x4 : Vec Ideal S24x4 .f32) (r : Fin 24) (n : Fin 4096) :
    (k0_pay5 (F := Ideal) x0 x4 (ix2 r n) : EReal) = ∑ k : Fin 4, x4 (ix2 r k) * x0 (ix2 ⟨k.val, by omega⟩ n) := by
  pointwise [k0_pay5, k0_pay4]

/-- Its half turns. -/
theorem halfTurns_at (x0 : Vec Ideal S8x4096 .f32) (x4 : Vec Ideal S24x4 .f32) (r : Fin 24) (n : Fin 4096) :
    (k0_pay7 (F := Ideal) x0 x4 (ix2 r n) : EReal) = halfTurns (k0_pay5 (F := Ideal) x0 x4 (ix2 r n)) := by
  pointwise [k0_pay7, halfTurns]

/-- What remains of it. -/
theorem remainder_at (x0 : Vec Ideal S8x4096 .f32) (x4 : Vec Ideal S24x4 .f32) (r : Fin 24) (n : Fin 4096) :
    (k0_pay8 (F := Ideal) x0 x4 (ix2 r n) : EReal) = remainder (k0_pay5 (F := Ideal) x0 x4 (ix2 r n)) := by
  unfold remainder
  rw [← halfTurns_at]
  pointwise [k0_pay8]

/-- The rows that keep their angle are every eighth. -/
theorem rows_at (r : Fin 24) (n : Fin 4096) : k0_pay6 (ix2 r n) = BitVec.ofBool (decide (r.val % 8 = 0)) := by
  pointwise [k0_pay6]
  clear n
  revert r
  exact fun r => by fin_cases r <;> rfl

/-- The embedding, from the angle, its half turns and what remains of it. -/
theorem chosen_at (a q y : FVec Ideal S24x4096 .f32) (b : IVec S24x4096 1) (r : Fin 24) (n : Fin 4096)
    (h : b (ix2 r n) = BitVec.ofBool (decide (r.val % 8 = 0))) :
    (k0_pay11 (F := Ideal) a b q y (mulf y y) (mulf (mulf y y) (broadcast S24x4096 (Scalar.ofBits .f32 0x3638EF1D#32))) (ix2 r n) : EReal)
      = if r.val % 8 = 0 then a (ix2 r n)
        else if oddTurns (q (ix2 r n)) then -oddPolynomial (y (ix2 r n)) else oddPolynomial (y (ix2 r n)) := by
  unfold oddPolynomial
  pointwise [k0_pay11]
  rw [h]
  by_cases h0 : r.val % 8 = 0
  · rw [if_pos h0, decide_eq_true h0]
    rfl
  · rw [if_neg h0, decide_eq_false h0, ← select_odd, ← zero_sub]
    rfl

/-- The embedding at row `r` and token `n`: every eighth row the angle, the others its approximate sine. -/
theorem embedded_at (x0 : Vec Ideal S8x4096 .f32) (x4 : Vec Ideal S24x4 .f32) (r : Fin 24) (n : Fin 4096) :
    (k0_pay11 (F := Ideal) (k0_pay5 x0 x4) k0_pay6 (k0_pay7 x0 x4) (k0_pay8 x0 x4) (k0_pay9 x0 x4) (k0_pay10 x0 x4) (ix2 r n) : EReal)
      = if r.val % 8 = 0 then ∑ k : Fin 4, x4 (ix2 r k) * x0 (ix2 ⟨k.val, by omega⟩ n)
        else approximateSine (∑ k : Fin 4, x4 (ix2 r k) * x0 (ix2 ⟨k.val, by omega⟩ n)) := by
  rw [← angle_at]
  unfold approximateSine
  rw [← remainder_at, ← halfTurns_at]
  exact chosen_at _ _ _ _ r n (rows_at r n)

/-- The two layers of branches f and r. -/
theorem layers_at (a : FVec Ideal S24x4096 .f32) (b : IVec S24x4096 1) (q y z w : FVec Ideal S24x4096 .f32) (x7 : Vec Ideal S24x128 .f32)
    (x1 : Vec Ideal S4096x32 .bf16) (x8 : Vec Ideal S32x128 .bf16) (x2 : Vec Ideal S4096x32 .bf16) (x9 : Vec Ideal S32x128 .bf16)
    (x10 : Vec Ideal S1x128 .f32) (x11 : Vec Ideal S128x128 .f32) (x12 : Vec Ideal S1x128 .f32) (n : Fin 4096) (c : Fin 128) :
    (k0_pay14 (F := Ideal) (k0_pay12 a b q y z w x7 x1 x8 x2 x9) (k0_pay13 x10) x11 x12 (ix2 n c) : EReal)
      = rect ((∑ j : Fin 128, rect ((∑ r : Fin 24, k0_pay11 a b q y z w (ix2 r n) * x7 (ix2 r j)) + (∑ k : Fin 32, x1 (ix2 n k) * x8 (ix2 k j))
          + (∑ k : Fin 32, x2 (ix2 n k) * x9 (ix2 k j)) + x10 (ix2 0 j)) * x11 (ix2 j c)) + x12 (ix2 0 c)) := by
  unfold rect slope k0_pay12
  generalize k0_pay11 a b q y z w = e
  pointwise [k0_pay14, k0_pay13]

/-- The first layer of branch m. -/
theorem firstLayerM_at (e : FVec Ideal S24x4096 .f32) (x13 : Vec Ideal S24x64 .f32) (x3 : Vec Ideal S4096x32 .bf16) (x14 : Vec Ideal S32x64 .bf16)
    (x15 : Vec Ideal S1x64 .f32) (n : Fin 4096) (j : Fin 64) :
    (k0_pay15 (F := Ideal) e x13 x3 x14 x15 (ix2 n j) : EReal)
      = rect ((∑ r : Fin 24, e (ix2 r n) * x13 (ix2 r j)) + (∑ k : Fin 32, x3 (ix2 n k) * x14 (ix2 k j)) + x15 (ix2 0 j)) := by
  unfold rect slope
  pointwise [k0_pay15]

/-- The accumulator's columns of branch m after a block. -/
theorem columnsM_at (x0 : Vec Ideal S8x4096 .f32) (h : FVec Ideal S4096x64 .f32) (x16 : Vec Ideal S64x64 .f32) (x17 : Vec Ideal S1x64 .f32)
    (x6 : Vec Ideal S3x48 .f32) (x5 : Vec Ideal S1x48 .f32) (acc : Vec Ideal S48x64 .f32) (r : Fin 48) (c : Fin 64) :
    (k0_pay19 (F := Ideal) (k0_pay4 x0) h x16 x17 x6 x5 acc (ix2 r c) : EReal)
      = acc (ix2 r c) + ∑ n : Fin 4096, k0_pay16 (F := Ideal) (k0_pay4 x0) x6 x5 (ix2 n r)
          * rect ((∑ j : Fin 64, h (ix2 n j) * x16 (ix2 j c)) + x17 (ix2 0 c)) := by
  unfold rect slope k0_pay19
  generalize k0_pay16 (F := Ideal) (k0_pay4 x0) x6 x5 = o
  pointwise

/-- The indicator of the segment rows is that of the kernel with the sine. -/
theorem member_at (x0 : Vec Ideal S8x4096 .f32) (x6 : Vec Ideal S3x48 .f32) (x5 : Vec Ideal S1x48 .f32) (n : Fin 4096) (r : Fin 48) :
    (k0_pay16 (F := Ideal) (k0_pay4 x0) x6 x5 (ix2 n r) : EReal)
      = if (∑ k : Fin 3, x0 (ix2 ⟨4 + k.val, by omega⟩ n) * x6 (ix2 k r) : EReal) = x5 (ix2 0 r) then 1 else 0 :=
  Sine.member_at x0 x6 x5 n r

section Block

variable (x0 : Vec Ideal S8x4096 .f32) (x1 x2 x3 : Vec Ideal S4096x32 .bf16) (x4 : Vec Ideal S24x4 .f32) (x5 : Vec Ideal S1x48 .f32)
  (x6 : Vec Ideal S3x48 .f32) (x7 : Vec Ideal S24x128 .f32) (x8 x9 : Vec Ideal S32x128 .bf16) (x10 : Vec Ideal S1x128 .f32)
  (x11 : Vec Ideal S128x128 .f32) (x12 : Vec Ideal S1x128 .f32) (x13 : Vec Ideal S24x64 .f32) (x14 : Vec Ideal S32x64 .bf16)
  (x15 : Vec Ideal S1x64 .f32) (x16 : Vec Ideal S64x64 .f32) (x17 : Vec Ideal S1x64 .f32) (x18 x19 x20 : Vec Ideal S64x128 .f32)
  (x21 : Vec Ideal S1x128 .f32)

/-- A block adds its part to the columns of branches f and r. -/
theorem stepFR_at (acc : Vec Ideal S48x128 .f32) (r : Fin 48) (c : Fin 128) :
    (k0_pay18 (F := Ideal) (k0_pay4 x0)
        (k0_pay14 (k0_pay12 (k0_pay5 x0 x4) k0_pay6 (k0_pay7 x0 x4) (k0_pay8 x0 x4) (k0_pay9 x0 x4) (k0_pay10 x0 x4) x7 x1 x8 x2 x9)
          (k0_pay13 x10) x11 x12) x6 x5 acc (ix2 r c) : EReal)
      = acc (ix2 r c) + (Operands.ofBlocks x0 x1 x2 x3 x4 x5 x6 x7 x8 x9 x10 x11 x12 x13 x14 x15 x16 x17 x18 x19 x20 x21).partFR approximateSine r c := by
  refine (Sine.columnsFR_at x0 _ x6 x5 acc r c).trans ?_
  refine congrArg (acc (ix2 r c) + ·) (Finset.sum_congr rfl fun n _ => ?_)
  rw [Sine.member_at, layers_at]
  simp only [embedded_at]
  rfl

/-- A block adds its part to the columns of branch m. -/
theorem stepM_at (acc : Vec Ideal S48x64 .f32) (r : Fin 48) (c : Fin 64) :
    (k0_pay19 (F := Ideal) (k0_pay4 x0)
        (k0_pay15 (k0_pay11 (k0_pay5 x0 x4) k0_pay6 (k0_pay7 x0 x4) (k0_pay8 x0 x4) (k0_pay9 x0 x4) (k0_pay10 x0 x4)) x13 x3 x14 x15)
        x16 x17 x6 x5 acc (ix2 r c) : EReal)
      = acc (ix2 r c) + (Operands.ofBlocks x0 x1 x2 x3 x4 x5 x6 x7 x8 x9 x10 x11 x12 x13 x14 x15 x16 x17 x18 x19 x20 x21).partM approximateSine r c := by
  rw [columnsM_at]
  refine congrArg (acc (ix2 r c) + ·) (Finset.sum_congr rfl fun n _ => ?_)
  rw [member_at]
  simp only [firstLayerM_at, embedded_at]
  rfl

/-- A block adds its part to the column of counts. -/
theorem stepC_at (acc : Vec Ideal S48x1 .f32) (r : Fin 48) (c : Fin 1) :
    (k0_pay1 (F := Ideal) (k0_pay16 (k0_pay4 x0) x6 x5) k0_pay17 acc (ix2 r c) : EReal)
      = acc (ix2 r c) + (Operands.ofBlocks x0 x1 x2 x3 x4 x5 x6 x7 x8 x9 x10 x11 x12 x13 x14 x15 x16 x17 x18 x19 x20 x21).partC r :=
  Sine.stepC_at x0 x1 x2 x3 x4 x5 x6 x7 x8 x9 x10 x11 x12 x13 x14 x15 x16 x17 x18 x19 x20 x21 acc r c

/-- The result from a filled accumulator. -/
theorem finishBlock_at (A : Vec Ideal S48x193 .f32) (r : Fin 16) (c : Fin 128) :
    (k0_pay2 (F := Ideal) A x18 x19 x20 x21 (ix2 r c) : EReal)
      = (Operands.ofBlocks x0 x1 x2 x3 x4 x5 x6 x7 x8 x9 x10 x11 x12 x13 x14 x15 x16 x17 x18 x19 x20 x21).finish (fun a b => A (ix2 a b)) r c :=
  Sine.finishBlock_at x0 x1 x2 x3 x4 x5 x6 x7 x8 x9 x10 x11 x12 x13 x14 x15 x16 x17 x18 x19 x20 x21 A r c

end Block

end Cert.DeepSet.Polynomial

end
-- ==== Proof.HostOperands.lean ====
/-
  What the host prepares for the kernel, each array at an index, from the contents `V` of the buffers before.
-/
module

public import proofs.«01_k».proof.Proof.Operands
public import proofs.«01_k».proof.Proof.Gen.KernelSineIdeal.Launch
public import Idealize.ShloMosaic.Lib.Pipeline.ValueKit
public import Idealize.ShloMosaic.Lib.StableHlo.RunRead

@[expose] public section

set_option maxRecDepth 16384
set_option maxHeartbeats 2000000

noncomputable section

namespace Cert.DeepSet

open Idealize.ShloMosaic Idealize.ShloMosaic.TcCoe
open Cert.KernelSineIdeal Cert.KernelSineIdeal.Gen

variable {dev : Dev nD} (V : (b : DevRef τ sig) → Buf (Elt Ideal) ((dev, b) : Loc nD τ sig))

/-- The auxiliary rows: three times, ones, three segment ids as numbers, zeros. -/
theorem auxiliary_at (i : Fin 8) (n : Fin 32768) :
    (StableHlo.after hostOps0 V (Proc.tc.devRef main_v11) (ix2 i n) : EReal)
      = if i.val = 0 then V (Proc.tc.devRef main_arg0) (ix2 n 0) else if i.val = 1 then V (Proc.tc.devRef main_arg3) (ix2 n 0)
        else if i.val = 2 then V (Proc.tc.devRef main_arg6) (ix2 n 0) else if i.val = 3 then (1 : EReal)
        else if i.val = 4 then ((((V (Proc.tc.devRef main_arg2) (ix1 n) : BitVec 32)).toInt : ℝ) : EReal)
        else if i.val = 5 then ((((V (Proc.tc.devRef main_arg5) (ix1 n) : BitVec 32)).toInt : ℝ) : EReal)
        else if i.val = 6 then ((((V (Proc.tc.devRef main_arg8) (ix1 n) : BitVec 32)).toInt : ℝ) : EReal) else (0 : EReal) := by
  iterate 3 (try after_reads_simp; try pointwise)
  fin_cases i <;> rfl

/-- The features of the three branches. -/
theorem featuresF_at (n : Fin 32768) (k : Fin 32) :
    (StableHlo.after hostOps0 V (Proc.tc.devRef main_v82) (ix2 n k) : EReal) = V (Proc.tc.devRef main_arg1) (ix2 n k) := by
  iterate 3 (try after_reads_simp; try pointwise)
theorem featuresR_at (n : Fin 32768) (k : Fin 32) :
    (StableHlo.after hostOps0 V (Proc.tc.devRef main_v83) (ix2 n k) : EReal) = V (Proc.tc.devRef main_arg4) (ix2 n k) := by
  iterate 3 (try after_reads_simp; try pointwise)
theorem featuresM_at (n : Fin 32768) (k : Fin 32) :
    (StableHlo.after hostOps0 V (Proc.tc.devRef main_v84) (ix2 n k) : EReal) = V (Proc.tc.devRef main_arg7) (ix2 n k) := by
  iterate 3 (try after_reads_simp; try pointwise)

/-- The embedding's weights: a column per branch, and the shared offsets. -/
theorem embedding_at (r : Fin 24) (k : Fin 4) :
    (StableHlo.after hostOps0 V (Proc.tc.devRef main_v22) (ix2 r k) : EReal)
      = if k.val = 3 then V (Proc.tc.devRef main_arg10) (ix1 ⟨r.val % 8, by omega⟩)
        else if r.val / 8 = k.val then V (Proc.tc.devRef main_arg9) (ix2 ⟨r.val % 8, by omega⟩ 0) else (0 : EReal) := by
  iterate 3 (try after_reads_simp; try pointwise)
  have := k.isLt
  split_ifs <;> first
    | rfl
    | (exfalso; omega)
    | (rw [if_pos (show k.val = 3 by omega)]; blk_ext; done)
    | (rw [if_neg (show ¬k.val = 3 by omega), if_pos (show r.val / 8 = k.val by omega)]; blk_ext; done)
    | exact ((if_neg (by omega)).trans (if_neg (by omega))).symm

/-- The segment rows' ids. -/
theorem ids_at (r : Fin 48) :
    (StableHlo.after hostOps0 V (Proc.tc.devRef main_v36) (ix2 0 r) : EReal) = (((r.val % 16 : ℕ) : ℝ) : EReal) := by
  iterate 3 (try after_reads_simp; try pointwise)
  have e : ∀ r : Fin 48, (BitVec.ofNat 32 (r.val % 16)).toInt = ((r.val % 16 : ℕ) : ℤ) := by decide
  show (((BitVec.ofNat 32 (r.val % 16)).toInt : ℝ) : EReal) = _
  rw [e r, Int.cast_natCast]

/-- The segment rows' branches. -/
theorem branches_at (k : Fin 3) (r : Fin 48) :
    (StableHlo.after hostOps0 V (Proc.tc.devRef main_v31) (ix2 k r) : EReal) = if r.val / 16 = k.val then (1 : EReal) else (0 : EReal) := by
  iterate 3 (try after_reads_simp; try pointwise)
  have := k.isLt
  split_ifs <;> first | rfl | (exfalso; omega)

/-- The first weights of branches f and r on the embedding. -/
theorem timeWeights_at (r : Fin 24) (c : Fin 128) :
    (StableHlo.after hostOps0 V (Proc.tc.devRef main_v45) (ix2 r c) : EReal)
      = if h : r.val < 8 ∧ c.val < 64 then V (Proc.tc.devRef main_arg11) (ix2 ⟨c.val, h.2⟩ ⟨r.val, by omega⟩)
        else if h : (8 ≤ r.val ∧ r.val < 16) ∧ 64 ≤ c.val then V (Proc.tc.devRef main_arg15) (ix2 ⟨c.val - 64, by omega⟩ ⟨r.val - 8, by omega⟩) else (0 : EReal) := by
  iterate 3 (try after_reads_simp; try pointwise)
  by_cases hr : r.val < 8
  · rw [dif_pos hr]
    by_cases hc : c.val < 64
    · rw [dif_pos hc, dif_pos (show r.val < 8 ∧ c.val < 64 from ⟨hr, hc⟩)]
    · rw [dif_neg hc, dif_neg (show ¬(r.val < 8 ∧ c.val < 64) from fun h => hc h.2), dif_neg (show ¬((8 ≤ r.val ∧ r.val < 16) ∧ 64 ≤ c.val) from fun h => absurd h.1.1 (Nat.not_le.mpr hr))]
  · rw [dif_neg hr, dif_neg (show ¬(r.val < 8 ∧ c.val < 64) from fun h => hr h.1)]
    by_cases hr' : r.val - 8 < 8
    · rw [dif_pos hr']
      by_cases hc : c.val < 64
      · rw [dif_pos hc, dif_neg (show ¬((8 ≤ r.val ∧ r.val < 16) ∧ 64 ≤ c.val) from fun h => absurd h.2 (Nat.not_le.mpr hc))]
      · rw [dif_neg hc, dif_pos (show (8 ≤ r.val ∧ r.val < 16) ∧ 64 ≤ c.val from ⟨⟨Nat.not_lt.mp hr, by omega⟩, Nat.not_lt.mp hc⟩)]
    · rw [dif_neg hr', dif_neg (show ¬((8 ≤ r.val ∧ r.val < 16) ∧ 64 ≤ c.val) from fun h => hr' (by omega))]

/-- The first weights of branch f on the features. -/
theorem featureWeightsF_at (k : Fin 32) (c : Fin 128) :
    (StableHlo.after hostOps0 V (Proc.tc.devRef main_v50) (ix2 k c) : EReal)
      = if h : c.val < 64 then V (Proc.tc.devRef main_arg11) (ix2 ⟨c.val, h⟩ ⟨8 + k.val, by omega⟩) else (0 : EReal) := by
  iterate 3 (try after_reads_simp; try pointwise)

/-- The first weights of branch r on the features. -/
theorem featureWeightsR_at (k : Fin 32) (c : Fin 128) :
    (StableHlo.after hostOps0 V (Proc.tc.devRef main_v54) (ix2 k c) : EReal)
      = if c.val < 64 then (0 : EReal) else V (Proc.tc.devRef main_arg15) (ix2 ⟨c.val - 64, by omega⟩ ⟨8 + k.val, by omega⟩) := by
  iterate 3 (try after_reads_simp; try pointwise)
  try (split_ifs <;> first | rfl | (exfalso; omega))

/-- The first offsets of branches f and r. -/
theorem offsets_at (c : Fin 128) :
    (StableHlo.after hostOps0 V (Proc.tc.devRef main_v56) (ix2 0 c) : EReal)
      = if h : c.val < 64 then V (Proc.tc.devRef main_arg12) (ix1 ⟨c.val, h⟩) else V (Proc.tc.devRef main_arg16) (ix1 ⟨c.val - 64, by omega⟩) := by
  iterate 3 (try after_reads_simp; try pointwise)

/-- The second weights of branches f and r. -/
theorem secondWeights_at (j c : Fin 128) :
    (StableHlo.after hostOps0 V (Proc.tc.devRef main_v62) (ix2 j c) : EReal)
      = if h : j.val < 64 ∧ c.val < 64 then V (Proc.tc.devRef main_arg13) (ix2 ⟨c.val, h.2⟩ ⟨j.val, h.1⟩)
        else if 64 ≤ j.val ∧ 64 ≤ c.val then V (Proc.tc.devRef main_arg17) (ix2 ⟨c.val - 64, by omega⟩ ⟨j.val - 64, by omega⟩) else (0 : EReal) := by
  iterate 3 (try after_reads_simp; try pointwise)
  by_cases hj : j.val < 64
  · rw [dif_pos hj]
    by_cases hc : c.val < 64
    · rw [dif_pos hc, dif_pos (show j.val < 64 ∧ c.val < 64 from ⟨hj, hc⟩)]
    · rw [dif_neg hc, dif_neg (show ¬(j.val < 64 ∧ c.val < 64) from fun h => hc h.2), if_neg (show ¬(64 ≤ j.val ∧ 64 ≤ c.val) from fun h => absurd h.1 (Nat.not_le.mpr hj))]
  · rw [dif_neg hj, dif_neg (show ¬(j.val < 64 ∧ c.val < 64) from fun h => hj h.1)]
    by_cases hc : c.val < 64
    · rw [dif_pos hc, if_neg (show ¬(64 ≤ j.val ∧ 64 ≤ c.val) from fun h => absurd h.2 (Nat.not_le.mpr hc))]
    · rw [dif_neg hc, if_pos (show 64 ≤ j.val ∧ 64 ≤ c.val from ⟨Nat.not_lt.mp hj, Nat.not_lt.mp hc⟩)]

/-- The second offsets of branches f and r. -/
theorem secondOffsets_at (c : Fin 128) :
    (StableHlo.after hostOps0 V (Proc.tc.devRef main_v64) (ix2 0 c) : EReal)
      = if h : c.val < 64 then V (Proc.tc.devRef main_arg14) (ix1 ⟨c.val, h⟩) else V (Proc.tc.devRef main_arg18) (ix1 ⟨c.val - 64, by omega⟩) := by
  iterate 3 (try after_reads_simp; try pointwise)

/-- The first weights of branch m on the embedding. -/
theorem timeWeightsM_at (r : Fin 24) (c : Fin 64) :
    (StableHlo.after hostOps0 V (Proc.tc.devRef main_v68) (ix2 r c) : EReal)
      = if r.val < 16 then (0 : EReal) else V (Proc.tc.devRef main_arg19) (ix2 c ⟨r.val - 16, by omega⟩) := by
  iterate 3 (try after_reads_simp; try pointwise)
  try (split_ifs <;> first | rfl | (exfalso; omega))

/-- The other weights and offsets of branch m. -/
theorem featureWeightsM_at (k : Fin 32) (c : Fin 64) :
    (StableHlo.after hostOps0 V (Proc.tc.devRef main_v71) (ix2 k c) : EReal) = V (Proc.tc.devRef main_arg19) (ix2 c ⟨8 + k.val, by omega⟩) := by
  iterate 3 (try after_reads_simp; try pointwise)
theorem offsetsM_at (c : Fin 64) :
    (StableHlo.after hostOps0 V (Proc.tc.devRef main_v72) (ix2 0 c) : EReal) = V (Proc.tc.devRef main_arg20) (ix1 c) := by
  iterate 3 (try after_reads_simp; try pointwise)
theorem secondWeightsM_at (j c : Fin 64) :
    (StableHlo.after hostOps0 V (Proc.tc.devRef main_v73) (ix2 j c) : EReal) = V (Proc.tc.devRef main_arg21) (ix2 c j) := by
  iterate 3 (try after_reads_simp; try pointwise)
theorem secondOffsetsM_at (c : Fin 64) :
    (StableHlo.after hostOps0 V (Proc.tc.devRef main_v74) (ix2 0 c) : EReal) = V (Proc.tc.devRef main_arg22) (ix1 c) := by
  iterate 3 (try after_reads_simp; try pointwise)

/-- The combining weights, a third per branch, and the combining offsets. -/
theorem combineF_at (o : Fin 64) (c : Fin 128) :
    (StableHlo.after hostOps0 V (Proc.tc.devRef main_v76) (ix2 o c) : EReal) = V (Proc.tc.devRef main_arg23) (ix2 c ⟨o.val, by omega⟩) := by
  iterate 3 (try after_reads_simp; try pointwise)
theorem combineR_at (o : Fin 64) (c : Fin 128) :
    (StableHlo.after hostOps0 V (Proc.tc.devRef main_v78) (ix2 o c) : EReal) = V (Proc.tc.devRef main_arg23) (ix2 c ⟨64 + o.val, by omega⟩) := by
  iterate 3 (try after_reads_simp; try pointwise)
theorem combineM_at (o : Fin 64) (c : Fin 128) :
    (StableHlo.after hostOps0 V (Proc.tc.devRef main_v80) (ix2 o c) : EReal) = V (Proc.tc.devRef main_arg23) (ix2 c ⟨128 + o.val, by omega⟩) := by
  iterate 3 (try after_reads_simp; try pointwise)
theorem combineOffsets_at (c : Fin 128) :
    (StableHlo.after hostOps0 V (Proc.tc.devRef main_v81) (ix2 0 c) : EReal) = V (Proc.tc.devRef main_arg24) (ix1 c) := by
  iterate 3 (try after_reads_simp; try pointwise)

end Cert.DeepSet

end
-- ==== Proof.SegmentSum.lean ====
/-
  A segment sum over the rows of a matrix, read at an entry: row `r` of the result is the sum of the update rows whose
  segment id, read as a signed word, is `r`; an id outside the result's rows lands nowhere.
-/
module

public import Idealize.ShloMosaic.Lib.Pointwise
public import Idealize.ShloMosaic.Lib.Routing.OpsPair

@[expose] public section

namespace Cert.DeepSet

open Idealize.ShloMosaic Idealize.ShloMosaic.Routing

variable {R C N : Nat} (d : ScatterDims (shape2 R C) (shape2 N 1) (shape2 N C))

/-- Update `(n, c')` lands at entry `(r, c)` exactly when the columns agree and the id of row `n` is `r`. -/
theorem segment_lands (huw : d.updateWindowDims = [1]) (hiw : d.insertedWindowDims = [0])
    (hsd : d.scatterDimsToOperandDims = [0]) (hiv : d.indexVectorDim = 1)
    (idx : IVec (shape2 N 1) 32) (n : Fin N) (c' : Fin C) (r : Fin R) (c : Fin C) :
    d.resultIdx? (ix2 n c') idx = some (ix2 r c) ↔ (idx (ix2 n (0 : Fin 1))).toInt = (r.val : Int) ∧ c' = c := by
  obtain ⟨uw, iw, sd, iv, wf⟩ := d
  dsimp only at huw hiw hsd hiv
  subst huw hiw hsd hiv
  set d : ScatterDims (shape2 R C) (shape2 N 1) (shape2 N C) := ⟨[1], [0], [0], 1, wf⟩ with hd
  have hm : (0 : Fin 2) ∈ d.scatterDimsToOperandDims := List.mem_singleton.2 rfl
  have hstart0 : d.start (ix2 n c') idx 0 = (idx (ix2 n (0 : Fin 1))).toInt := by
    unfold ScatterDims.start
    rw [dif_pos hm]
    have hsi : d.siIdx (ix2 n c') ⟨d.scatterDimsToOperandDims.idxOf 0, List.idxOf_lt_length_iff.2 hm⟩ = ix2 n (0 : Fin 1) := by
      funext b
      match b with
      | ⟨0, _⟩ => rfl
      | ⟨1, _⟩ => exact Subsingleton.elim (α := Fin 1) _ _
    rw [hsi]
  have hstart1 : d.start (ix2 n c') idx 1 = 0 := by
    unfold ScatterDims.start
    rw [dif_neg fun h => absurd (List.mem_singleton.1 h) (by decide : (1 : Fin 2) ≠ 0)]
  have hwin0 : d.window (ix2 n c') 0 = 0 := by
    unfold ScatterDims.window
    rw [dif_neg fun h => (of_decide_eq_true (List.mem_filter.1 h).2) (List.mem_singleton.2 rfl)]
  have hwin1 : d.window (ix2 n c') 1 = c'.val := by
    unfold ScatterDims.window
    rw [dif_pos (show (1 : Fin 2) ∈ d.sKept from List.mem_filter.2 ⟨List.mem_finRange _, (by decide : decide ((1 : Fin 2) ∉ [(0 : Fin 2)]) = true)⟩)]
    rfl
  rw [resultIdx?_eq_some, Fin.ext_iff]
  constructor
  · intro h
    have h0 : d.start (ix2 n c') idx 0 + (d.window (ix2 n c') 0 : Int) = (r.val : Int) := h 0
    have h1 : d.start (ix2 n c') idx 1 + (d.window (ix2 n c') 1 : Int) = (c.val : Int) := h 1
    omega
  · rintro ⟨h0, h1⟩ a
    match a with
    | ⟨0, _⟩ => show d.start (ix2 n c') idx 0 + (d.window (ix2 n c') 0 : Int) = (r.val : Int); omega
    | ⟨1, _⟩ => show d.start (ix2 n c') idx 1 + (d.window (ix2 n c') 1 : Int) = (c.val : Int); omega

/-- The host's segment sum at entry `(r, c)`: the operand's entry plus the update rows whose id is `r`, each at column `c`. -/
theorem segment_sum_apply {φ : FTy} (huw : d.updateWindowDims = [1]) (hiw : d.insertedWindowDims = [0])
    (hsd : d.scatterDimsToOperandDims = [0]) (hiv : d.indexVectorDim = 1)
    (x : FVec Ideal (shape2 R C) φ) (idx : IVec (shape2 N 1) 32) (upd : FVec Ideal (shape2 N C) φ) (r : Fin R) (c : Fin C) :
    (Host.scatterAdd d x idx upd (ix2 r c) : EReal)
      = (x (ix2 r c) : EReal) + ∑ n : Fin N, if (idx (ix2 n (0 : Fin 1))).toInt = (r.val : Int) then (upd (ix2 n c) : EReal) else 0 := by
  show (x (ix2 r c) : EReal) + ∑ j ∈ Finset.univ.filter (fun j => d.resultIdx? j idx = some (ix2 r c)), (upd j : EReal) = _
  congr 1
  rw [Finset.sum_filter, sum_idx2]
  refine Finset.sum_congr rfl fun n _ => ?_
  rw [Finset.sum_eq_single c]
  · by_cases h : (idx (ix2 n (0 : Fin 1))).toInt = (r.val : Int)
    · rw [if_pos h, if_pos ((segment_lands d huw hiw hsd hiv idx n c r c).2 ⟨h, rfl⟩)]
    · rw [if_neg h, if_neg fun q => h ((segment_lands d huw hiw hsd hiv idx n c r c).1 q).1]
  · intro c' _ hc
    exact if_neg fun q => hc ((segment_lands d huw hiw hsd hiv idx n c' r c).1 q).2
  · exact fun h => absurd (Finset.mem_univ c) h

end Cert.DeepSet
-- ==== Proof.HostLayers.lean ====
/-
  The host's layers of the reference, each a function of the arrays that it reads, and each at an index.
-/
module

public import proofs.«01_k».proof.Proof.Mathematics
public import proofs.«01_k».proof.Proof.SegmentSum
public import proofs.«01_k».proof.Proof.Gen.ReferenceIdeal.Run
public import Idealize.ShloMosaic.Lib.Pointwise

@[expose] public section

set_option maxRecDepth 16384

noncomputable section

namespace Cert.DeepSet

open Idealize.ShloMosaic Idealize.ShloMosaic.TcCoe
open Cert.ReferenceIdeal Cert.ReferenceIdeal.Facts₀ Cert.ReferenceIdeal.Facts

/-- The eight linear forms of a time. -/
def linear (t : FVec Ideal S32768x1 .f32) (w : FVec Ideal S8x1 .f32) (b : FVec Ideal S8 .f32) : FVec Ideal S32768x8 .f32 :=
  addf (Host.dotGeneral dot_S32768x1_S1x8_S32768x8_1_0_0_1_n_n none t (transpose S1x8 [1, 0] w transposes_S8x1_S1x8_1_0))
    (broadcastInDim S32768x8 ![0, 1] bcast_S1x8_S32768x8_0_1 (broadcastInDim S1x8 ![1] bcast_S8_S1x8_1 b))

/-- The first of the linear forms, a column by itself. -/
def firstForm (x : FVec Ideal S32768x8 .f32) : FVec Ideal S32768x1 .f32 :=
  extractStridedSlice S32768x1 ![0, 0] x slices_S32768x8_S32768x1_0_0

/-- The seven other linear forms. -/
def otherForms (x : FVec Ideal S32768x8 .f32) : FVec Ideal S32768x7 .f32 :=
  extractStridedSlice S32768x7 ![0, 1] x slices_S32768x8_S32768x7_0_1

/-- The first layer before its rectifier, from the embedding's two parts and the features. -/
def hostFirst (x : FVec Ideal S32768x1 .f32) (y : FVec Ideal S32768x7 .f32) (f : FVec Ideal S32768x32 .f32)
    (W : FVec Ideal S64x40 .f32) (b : FVec Ideal S64 .f32) : FVec Ideal S32768x64 .f32 :=
  addf (Host.dotGeneral dot_S32768x40_S40x64_S32768x64_1_0_0_1_n_n none
      (concatenate S32768x40 1 [⟨S32768x8, (concatenate S32768x8 1 [⟨S32768x1, x⟩, ⟨S32768x7, y⟩] concatenates_S32768x1_S32768x7_S32768x8_d1)⟩,
        ⟨S32768x32, f⟩] concatenates_S32768x8_S32768x32_S32768x40_d1)
      (transpose S40x64 [1, 0] W transposes_S64x40_S40x64_1_0))
    (broadcastInDim S32768x64 ![0, 1] bcast_S1x64_S32768x64_0_1 (broadcastInDim S1x64 ![1] bcast_S64_S1x64_1 b))

/-- The rectifier on a layer. -/
def hostRect (x : FVec Ideal S32768x64 .f32) : FVec Ideal S32768x64 .f32 :=
  select (cmpf .oge x (broadcastInDim S32768x64 ![] bcast_S_S32768x64 (constant S_ .f32 0x00000000#32))) x
    (mulf x (broadcastInDim S32768x64 ![] bcast_S_S32768x64 (constant S_ .f32 0x3E6AAAAB#32)))

/-- The second layer before its rectifier. -/
def hostSecond (x : FVec Ideal S32768x64 .f32) (W : FVec Ideal S64x64 .f32) (b : FVec Ideal S64 .f32) : FVec Ideal S32768x64 .f32 :=
  addf (Host.dotGeneral dot_S32768x64_S64x64_S32768x64_1_0_0_1_n_n none (hostRect x) (transpose S64x64 [1, 0] W transposes_S64x64_S64x64_1_0))
    (broadcastInDim S32768x64 ![0, 1] bcast_S1x64_S32768x64_0_1 (broadcastInDim S1x64 ![1] bcast_S64_S1x64_1 b))

/-- The segments' sums of a layer. -/
def hostTotals (seg : IVec S32768 32) (x : FVec Ideal S32768x64 .f32) : FVec Ideal S16x64 .f32 :=
  Host.scatterAdd scatter_S16x64_S32768x1_S32768x64_1_0_0_1 (broadcastInDim S16x64 ![] bcast_S_S16x64 (constant S_ .f32 0x00000000#32))
    (broadcastInDim S32768x1 ![0] bcast_S32768_S32768x1_0 seg) x

/-- The segments' counts. -/
def hostCounts (seg : IVec S32768 32) : FVec Ideal S16x1 .f32 :=
  Host.scatterAdd scatter_S16x1_S32768x1_S32768x1_1_0_0_1 (broadcastInDim S16x1 ![] bcast_S_S16x1 (constant S_ .f32 0x00000000#32))
    (broadcastInDim S32768x1 ![0] bcast_S32768_S32768x1_0 seg) (broadcastInDim S32768x1 ![] bcast_S_S32768x1 (constant S_ .f32 0x3F800000#32))

/-- The segments' means. -/
def hostMeans (s : FVec Ideal S16x64 .f32) (n : FVec Ideal S16x1 .f32) : FVec Ideal S16x64 .f32 :=
  Host.divf s (broadcastInDim S16x64 ![0, 1] bcast_S16x1_S16x64_0_1
    (maximumf (broadcastInDim S16x1 ![] bcast_S_S16x1 (id (constant S_ .f32 0x3F800000#32))) n))

/-- The combining layer before its rectifier. -/
def hostCombine (f r m : FVec Ideal S16x64 .f32) (W : FVec Ideal S128x192 .f32) (b : FVec Ideal S128 .f32) : FVec Ideal S16x128 .f32 :=
  addf (Host.dotGeneral dot_S16x192_S192x128_S16x128_1_0_0_1_n_n none
      (concatenate S16x192 1 [⟨S16x64, f⟩, ⟨S16x64, r⟩, ⟨S16x64, m⟩] concatenates_S16x64_S16x64_S16x64_S16x192_d1)
      (transpose S192x128 [1, 0] W transposes_S128x192_S192x128_1_0))
    (broadcastInDim S16x128 ![0, 1] bcast_S1x128_S16x128_0_1 (broadcastInDim S1x128 ![1] bcast_S128_S1x128_1 b))

/-- A sum over 192 places is three sums over 64. -/
theorem sum192 (g : Fin 192 → EReal) : ∑ k, g k = (∑ o : Fin 64, g ⟨o.val, by omega⟩) + (∑ o : Fin 64, g ⟨64 + o.val, by omega⟩)
    + ∑ o : Fin 64, g ⟨128 + o.val, by omega⟩ := by
  rw [Fin.sum_univ_two_halves 128 64 rfl g, Fin.sum_univ_two_halves 64 64 rfl]

theorem linear_at (t : FVec Ideal S32768x1 .f32) (w : FVec Ideal S8x1 .f32) (b : FVec Ideal S8 .f32) (n : Fin 32768) (k : Fin 8) :
    (linear t w b (ix2 n k) : EReal) = t (ix2 n 0) * w (ix2 k 0) + b (ix1 k) := by
  pointwise [linear]
  rw [Fin.sum_univ_one]

theorem firstForm_at (x : FVec Ideal S32768x8 .f32) (n : Fin 32768) : firstForm x (ix2 n 0) = x (ix2 n 0) := by
  pointwise [firstForm]

theorem otherForms_at (x : FVec Ideal S32768x8 .f32) (n : Fin 32768) (k : Fin 7) :
    otherForms x (ix2 n k) = x (ix2 n ⟨1 + k.val, by omega⟩) := by
  pointwise [otherForms]

/-- The first layer at an index, where the embedding's parts are the entries `e` at the token. -/
theorem hostFirst_at (x : FVec Ideal S32768x1 .f32) (y : FVec Ideal S32768x7 .f32) (f : FVec Ideal S32768x32 .f32)
    (W : FVec Ideal S64x40 .f32) (b : FVec Ideal S64 .f32) (n : Fin 32768) (j : Fin 64) (e : Fin 8 → EReal)
    (hx : (x (ix2 n 0) : EReal) = e 0) (hy : ∀ k : Fin 7, (y (ix2 n k) : EReal) = e k.succ) :
    (hostFirst x y f W b (ix2 n j) : EReal)
      = (∑ k : Fin 8, e k * W (ix2 j ⟨k.val, by omega⟩)) + (∑ k : Fin 32, f (ix2 n k) * W (ix2 j ⟨8 + k.val, by omega⟩)) + b (ix1 j) := by
  have e8 : (∑ k : Fin 8, e k * W (ix2 j ⟨k.val, by omega⟩) : EReal)
      = x (ix2 n 0) * W (ix2 j 0) + ∑ k : Fin 7, y (ix2 n k) * W (ix2 j ⟨1 + k.val, by omega⟩) := by
    rw [Fin.sum_univ_succ, hx]
    refine congrArg₂ (· + ·) rfl (Finset.sum_congr rfl fun k _ => ?_)
    rw [hy k]
    refine congrArg (e k.succ * ·) (congrArg W (congrArg (ix2 j) (Fin.ext ?_)))
    show k.val + 1 = 1 + k.val
    omega
  rw [e8]
  pointwise [hostFirst]
  rw [Fin.sum_univ_one]

theorem hostRect_at (x : FVec Ideal S32768x64 .f32) (n : Fin 32768) (o : Fin 64) :
    (hostRect x (ix2 n o) : EReal) = rect (x (ix2 n o)) := by
  unfold rect slope
  pointwise [hostRect]

theorem hostSecond_at (x : FVec Ideal S32768x64 .f32) (W : FVec Ideal S64x64 .f32) (b : FVec Ideal S64 .f32) (n : Fin 32768) (o : Fin 64) :
    (hostSecond x W b (ix2 n o) : EReal) = (∑ j : Fin 64, rect (x (ix2 n j)) * W (ix2 o j)) + b (ix1 o) := by
  unfold rect slope
  pointwise [hostSecond, hostRect]

theorem hostTotals_at (seg : IVec S32768 32) (x : FVec Ideal S32768x64 .f32) (r : Fin 16) (o : Fin 64) :
    (hostTotals seg x (ix2 r o) : EReal) = ∑ n : Fin 32768, if (seg (ix1 n)).toInt = (r.val : Int) then (x (ix2 n o) : EReal) else 0 := by
  unfold hostTotals
  rw [segment_sum_apply _ rfl rfl rfl rfl]
  pointwise

theorem hostCounts_at (seg : IVec S32768 32) (r : Fin 16) :
    (hostCounts seg (ix2 r 0) : EReal) = ∑ n : Fin 32768, if (seg (ix1 n)).toInt = (r.val : Int) then (1 : EReal) else 0 := by
  unfold hostCounts
  rw [segment_sum_apply _ rfl rfl rfl rfl]
  pointwise

theorem hostMeans_at (s : FVec Ideal S16x64 .f32) (k : FVec Ideal S16x1 .f32) (r : Fin 16) (o : Fin 64) :
    (hostMeans s k (ix2 r o) : EReal) = Ideal.div (s (ix2 r o)) (max (k (ix2 r 0)) 1) := by
  rw [max_comm]
  unfold hostMeans
  rw [id]
  pointwise

theorem hostCombine_at (f r m : FVec Ideal S16x64 .f32) (W : FVec Ideal S128x192 .f32) (b : FVec Ideal S128 .f32) (i : Fin 16) (c : Fin 128) :
    (hostCombine f r m W b (ix2 i c) : EReal)
      = (∑ o : Fin 64, f (ix2 i o) * W (ix2 c ⟨o.val, by omega⟩)) + (∑ o : Fin 64, r (ix2 i o) * W (ix2 c ⟨64 + o.val, by omega⟩))
        + (∑ o : Fin 64, m (ix2 i o) * W (ix2 c ⟨128 + o.val, by omega⟩)) + b (ix1 c) := by
  pointwise [hostCombine]
  rw [sum192]
  refine congrArg₂ (· + ·) (congrArg₂ (· + ·) (congrArg₂ (· + ·) ?_ ?_) ?_) rfl
  · exact Finset.sum_congr rfl fun o _ => congrArg (· * _) (dif_pos o.isLt)
  · refine Finset.sum_congr rfl fun o _ => congrArg (· * _) ?_
    refine (dif_neg (show ¬64 + o.val < 64 by omega)).trans ((dif_pos (show 64 + o.val - 64 < 64 by omega)).trans ?_)
    exact congrArg r (congrArg (ix2 i) (Fin.ext (show 64 + o.val - 64 = o.val by omega)))
  · refine Finset.sum_congr rfl fun o _ => congrArg (· * _) ?_
    refine (dif_neg (show ¬128 + o.val < 64 by omega)).trans ((dif_neg (show ¬128 + o.val - 64 < 64 by omega)).trans ?_)
    exact congrArg m (congrArg (ix2 i) (Fin.ext (show 128 + o.val - 64 - 64 = o.val by omega)))

end Cert.DeepSet

end
-- ==== Proof.HostResult.lean ====
/-
  The reference on the host, whatever elementwise function stands for its sine: the composition of its layers, and
  its result at an index.
-/
module

public import proofs.«01_k».proof.Proof.HostLayers

@[expose] public section

set_option maxRecDepth 16384

noncomputable section

namespace Cert.DeepSet

open Idealize.ShloMosaic Idealize.ShloMosaic.TcCoe
open Cert.ReferenceIdeal Cert.ReferenceIdeal.Facts₀ Cert.ReferenceIdeal.Facts

/-- The shared weights, from the arguments that hold them. -/
def sharedOf (w : FVec Ideal S8x1 .f32) (b : FVec Ideal S8 .f32) (Wc : FVec Ideal S128x192 .f32) (bc : FVec Ideal S128 .f32) : Shared where
  w k := w (ix2 k 0)
  b k := b (ix1 k)
  Wc c j := Wc (ix2 c j)
  bc c := bc (ix1 c)

/-- A branch, from the arguments that hold it. -/
def branchOf (t : FVec Ideal S32768x1 .f32) (f : FVec Ideal S32768x32 .f32) (seg : IVec S32768 32)
    (W1 : FVec Ideal S64x40 .f32) (b1 : FVec Ideal S64 .f32) (W2 : FVec Ideal S64x64 .f32) (b2 : FVec Ideal S64 .f32) : Branch where
  time n := t (ix2 n 0)
  feat n k := f (ix2 n k)
  seg n := seg (ix1 n)
  W1 j k := W1 (ix2 j k)
  b1 j := b1 (ix1 j)
  W2 o j := W2 (ix2 o j)
  b2 o := b2 (ix1 o)

/-- A branch's means on the host; `g` stands for the sine. -/
def hostBranch (g : FVec Ideal S32768x7 .f32 → FVec Ideal S32768x7 .f32) (w : FVec Ideal S8x1 .f32) (b : FVec Ideal S8 .f32)
    (t : FVec Ideal S32768x1 .f32) (f : FVec Ideal S32768x32 .f32) (seg : IVec S32768 32)
    (W1 : FVec Ideal S64x40 .f32) (b1 : FVec Ideal S64 .f32) (W2 : FVec Ideal S64x64 .f32) (b2 : FVec Ideal S64 .f32) : FVec Ideal S16x64 .f32 :=
  hostMeans (hostTotals seg (hostRect (hostSecond (hostFirst (firstForm (linear t w b)) (g (otherForms (linear t w b))) f W1 b1) W2 b2)))
    (hostCounts seg)

/-- The last rectifier on the host. -/
def hostRectLast (x : FVec Ideal S16x128 .f32) : FVec Ideal S16x128 .f32 :=
  select (cmpf .oge x (broadcastInDim S16x128 ![] bcast_S_S16x128 (constant S_ .f32 0x00000000#32))) x
    (mulf x (broadcastInDim S16x128 ![] bcast_S_S16x128 (constant S_ .f32 0x3E6AAAAB#32)))

theorem hostRectLast_at (x : FVec Ideal S16x128 .f32) (r : Fin 16) (c : Fin 128) :
    (hostRectLast x (ix2 r c) : EReal) = rect (x (ix2 r c)) := by
  unfold rect slope
  pointwise [hostRectLast]

/-- A branch's means at an index, where `g` is `σ` entry by entry. -/
theorem hostBranch_at (g : FVec Ideal S32768x7 .f32 → FVec Ideal S32768x7 .f32) (σ : EReal → EReal)
    (hg : ∀ (x : FVec Ideal S32768x7 .f32) n k, (g x (ix2 n k) : EReal) = σ (x (ix2 n k)))
    (w : FVec Ideal S8x1 .f32) (b : FVec Ideal S8 .f32) (Wc : FVec Ideal S128x192 .f32) (bc : FVec Ideal S128 .f32)
    (t : FVec Ideal S32768x1 .f32) (f : FVec Ideal S32768x32 .f32) (seg : IVec S32768 32)
    (W1 : FVec Ideal S64x40 .f32) (b1 : FVec Ideal S64 .f32) (W2 : FVec Ideal S64x64 .f32) (b2 : FVec Ideal S64 .f32) (r : Fin 16) (o : Fin 64) :
    (hostBranch g w b t f seg W1 b1 W2 b2 (ix2 r o) : EReal)
      = mean σ (sharedOf w b Wc bc) (branchOf t f seg W1 b1 W2 b2) r o := by
  have h1 : ∀ n j, (hostFirst (firstForm (linear t w b)) (g (otherForms (linear t w b))) f W1 b1 (ix2 n j) : EReal) = _ := fun n j =>
    hostFirst_at _ _ f W1 b1 n j (embed σ (sharedOf w b Wc bc).w (sharedOf w b Wc bc).b (t (ix2 n 0)))
      (by rw [firstForm_at, linear_at]; exact (if_pos rfl).symm)
      (fun k => by
        rw [hg, otherForms_at, linear_at]
        have hk : (⟨1 + k.val, by omega⟩ : Fin 8) = k.succ := Fin.ext (show 1 + k.val = k.val + 1 by omega)
        rw [hk]
        exact (if_neg (show ¬k.val + 1 = 0 by omega)).symm)
  unfold hostBranch mean
  rw [hostMeans_at, hostTotals_at, hostCounts_at]
  refine congrArg₂ Ideal.div (Finset.sum_congr rfl fun n _ => ?_) rfl
  rw [hostRect_at, hostSecond_at]
  simp only [h1]
  rfl

/-- The reference's result on the host. -/
def hostResult (g : FVec Ideal S32768x7 .f32 → FVec Ideal S32768x7 .f32)
    (tf : FVec Ideal S32768x1 .f32) (ff : FVec Ideal S32768x32 .f32) (sf : IVec S32768 32)
    (tr : FVec Ideal S32768x1 .f32) (fr : FVec Ideal S32768x32 .f32) (sr : IVec S32768 32)
    (tm : FVec Ideal S32768x1 .f32) (fm : FVec Ideal S32768x32 .f32) (sm : IVec S32768 32)
    (w : FVec Ideal S8x1 .f32) (b : FVec Ideal S8 .f32)
    (Wf1 : FVec Ideal S64x40 .f32) (bf1 : FVec Ideal S64 .f32) (Wf2 : FVec Ideal S64x64 .f32) (bf2 : FVec Ideal S64 .f32)
    (Wr1 : FVec Ideal S64x40 .f32) (br1 : FVec Ideal S64 .f32) (Wr2 : FVec Ideal S64x64 .f32) (br2 : FVec Ideal S64 .f32)
    (Wm1 : FVec Ideal S64x40 .f32) (bm1 : FVec Ideal S64 .f32) (Wm2 : FVec Ideal S64x64 .f32) (bm2 : FVec Ideal S64 .f32)
    (Wc : FVec Ideal S128x192 .f32) (bc : FVec Ideal S128 .f32) : FVec Ideal S16x128 .f32 :=
  hostRectLast (hostCombine (hostBranch g w b tf ff sf Wf1 bf1 Wf2 bf2) (hostBranch g w b tr fr sr Wr1 br1 Wr2 br2)
    (hostBranch g w b tm fm sm Wm1 bm1 Wm2 bm2) Wc bc)

/-- The reference's result at an index. -/
theorem hostResult_at (g : FVec Ideal S32768x7 .f32 → FVec Ideal S32768x7 .f32) (σ : EReal → EReal)
    (hg : ∀ (x : FVec Ideal S32768x7 .f32) n k, (g x (ix2 n k) : EReal) = σ (x (ix2 n k)))
    (tf : FVec Ideal S32768x1 .f32) (ff : FVec Ideal S32768x32 .f32) (sf : IVec S32768 32)
    (tr : FVec Ideal S32768x1 .f32) (fr : FVec Ideal S32768x32 .f32) (sr : IVec S32768 32)
    (tm : FVec Ideal S32768x1 .f32) (fm : FVec Ideal S32768x32 .f32) (sm : IVec S32768 32)
    (w : FVec Ideal S8x1 .f32) (b : FVec Ideal S8 .f32)
    (Wf1 : FVec Ideal S64x40 .f32) (bf1 : FVec Ideal S64 .f32) (Wf2 : FVec Ideal S64x64 .f32) (bf2 : FVec Ideal S64 .f32)
    (Wr1 : FVec Ideal S64x40 .f32) (br1 : FVec Ideal S64 .f32) (Wr2 : FVec Ideal S64x64 .f32) (br2 : FVec Ideal S64 .f32)
    (Wm1 : FVec Ideal S64x40 .f32) (bm1 : FVec Ideal S64 .f32) (Wm2 : FVec Ideal S64x64 .f32) (bm2 : FVec Ideal S64 .f32)
    (Wc : FVec Ideal S128x192 .f32) (bc : FVec Ideal S128 .f32) (r : Fin 16) (c : Fin 128) :
    (hostResult g tf ff sf tr fr sr tm fm sm w b Wf1 bf1 Wf2 bf2 Wr1 br1 Wr2 br2 Wm1 bm1 Wm2 bm2 Wc bc (ix2 r c) : EReal)
      = result σ (sharedOf w b Wc bc) (branchOf tf ff sf Wf1 bf1 Wf2 bf2) (branchOf tr fr sr Wr1 br1 Wr2 br2)
          (branchOf tm fm sm Wm1 bm1 Wm2 bm2) r c := by
  unfold hostResult result
  rw [hostRectLast_at, hostCombine_at]
  simp only [hostBranch_at g σ hg w b Wc bc]
  rfl

end Cert.DeepSet

end
-- ==== Proof.SineOperands.lean ====
/-
  The operands of block `t` of the kernel with the sine: what the windows hold at grid point `t` is what the host
  prepares from the arguments, for the tokens of block `t`.
-/
module

public import proofs.«01_k».proof.Proof.HostOperands
public import proofs.«01_k».proof.Proof.HostResult
public import proofs.«01_k».proof.Proof.Gen.KernelSineIdeal.Frame.Runs
public import Idealize.ShloMosaic.Lib.Pipeline.ValueKit

@[expose] public section

set_option maxRecDepth 16384

noncomputable section

namespace Cert.DeepSet.Sine

open Idealize.ShloMosaic Idealize.ShloMosaic.TcCoe Idealize.SL.Sem
open Cert.KernelSineIdeal Cert.KernelSineIdeal.Gen Cert.DeepSet

variable (m : (ℓ : Loc nD τ sig) → Buf (Elt Ideal) ℓ) (c : Dev nD)

/-- The arguments that all branches share. -/
def shared : Shared :=
  sharedOf (m (c.tc.loc main_arg9)) (m (c.tc.loc main_arg10)) (m (c.tc.loc main_arg23)) (m (c.tc.loc main_arg24))

/-- The arguments of branch f. -/
def branchF : Branch :=
  branchOf (m (c.tc.loc main_arg0)) (m (c.tc.loc main_arg1)) (m (c.tc.loc main_arg2)) (m (c.tc.loc main_arg11))
    (m (c.tc.loc main_arg12)) (m (c.tc.loc main_arg13)) (m (c.tc.loc main_arg14))

/-- The arguments of branch r. -/
def branchR : Branch :=
  branchOf (m (c.tc.loc main_arg3)) (m (c.tc.loc main_arg4)) (m (c.tc.loc main_arg5)) (m (c.tc.loc main_arg15))
    (m (c.tc.loc main_arg16)) (m (c.tc.loc main_arg17)) (m (c.tc.loc main_arg18))

/-- The arguments of branch m. -/
def branchM : Branch :=
  branchOf (m (c.tc.loc main_arg6)) (m (c.tc.loc main_arg7)) (m (c.tc.loc main_arg8)) (m (c.tc.loc main_arg19))
    (m (c.tc.loc main_arg20)) (m (c.tc.loc main_arg21)) (m (c.tc.loc main_arg22))

/-- The arrays before the launch. -/
abbrev arguments : (b : DevRef τ sig) → Buf (Elt Ideal) ((c, b) : Loc nD τ sig) := fun b => m (c, b)

/-- The operands at grid point `t`. -/
def operands (t : Fin cfg0.N) : Operands :=
  Operands.ofBlocks (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk m c 14 t)
    (iblk m c 15 t) (iblk m c 16 t) (iblk m c 17 t) (iblk m c 18 t) (iblk m c 19 t) (iblk m c 20 t) (iblk m c 21 t)

/-- Which block each window holds at a point: the tokens' windows block `t`, the others all of their array. -/
theorem index_at : ∀ t : Fin cfg0.N, win0_0.index t = ![0, t.val] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![0, 0] ∧ win0_16.index t = ![0, 0] ∧ win0_17.index t = ![0, 0] ∧ win0_18.index t = ![0, 0]
    ∧ win0_19.index t = ![0, 0] ∧ win0_20.index t = ![0, 0] ∧ win0_21.index t = ![0, 0] :=
  (by decide +kernel : ∀ t : Fin grid0.N, _)

section Reads

variable (t : Fin cfg0.N)

theorem read0 (f : Buf (Elt Ideal) ((c : Thread nD τ).loc main_v11)) (i : Fin 8) (n : Fin 4096) :
    (((cfg0.win 0).blk t).view.read (Elt Ideal) f : Vec Ideal S8x4096 .f32) (ix2 i n) = f (ix2 i (token t n)) := by
  unfold token; blk_ext [index_at t]
theorem read1 (f : Buf (Elt Ideal) ((c : Thread nD τ).loc main_v82)) (n : Fin 4096) (k : Fin 32) :
    (((cfg0.win 1).blk t).view.read (Elt Ideal) f : Vec Ideal S4096x32 .bf16) (ix2 n k) = f (ix2 (token t n) k) := by
  unfold token; blk_ext [index_at t]
theorem read2 (f : Buf (Elt Ideal) ((c : Thread nD τ).loc main_v83)) (n : Fin 4096) (k : Fin 32) :
    (((cfg0.win 2).blk t).view.read (Elt Ideal) f : Vec Ideal S4096x32 .bf16) (ix2 n k) = f (ix2 (token t n) k) := by
  unfold token; blk_ext [index_at t]
theorem read3 (f : Buf (Elt Ideal) ((c : Thread nD τ).loc main_v84)) (n : Fin 4096) (k : Fin 32) :
    (((cfg0.win 3).blk t).view.read (Elt Ideal) f : Vec Ideal S4096x32 .bf16) (ix2 n k) = f (ix2 (token t n) k) := by
  unfold token; blk_ext [index_at t]
theorem read4 (f : Buf (Elt Ideal) ((c : Thread nD τ).loc main_v22)) (i : Fin 24) (j : Fin 4) :
    (((cfg0.win 4).blk t).view.read (Elt Ideal) f : Vec Ideal S24x4 .f32) (ix2 i j) = f (ix2 i j) := by blk_ext [index_at t]
theorem read5 (f : Buf (Elt Ideal) ((c : Thread nD τ).loc main_v36)) (i : Fin 1) (j : Fin 48) :
    (((cfg0.win 5).blk t).view.read (Elt Ideal) f : Vec Ideal S1x48 .f32) (ix2 i j) = f (ix2 i j) := by blk_ext [index_at t]
theorem read6 (f : Buf (Elt Ideal) ((c : Thread nD τ).loc main_v31)) (i : Fin 3) (j : Fin 48) :
    (((cfg0.win 6).blk t).view.read (Elt Ideal) f : Vec Ideal S3x48 .f32) (ix2 i j) = f (ix2 i j) := by blk_ext [index_at t]
theorem read7 (f : Buf (Elt Ideal) ((c : Thread nD τ).loc main_v45)) (i : Fin 24) (j : Fin 128) :
    (((cfg0.win 7).blk t).view.read (Elt Ideal) f : Vec Ideal S24x128 .f32) (ix2 i j) = f (ix2 i j) := by blk_ext [index_at t]
theorem read8 (f : Buf (Elt Ideal) ((c : Thread nD τ).loc main_v50)) (i : Fin 32) (j : Fin 128) :
    (((cfg0.win 8).blk t).view.read (Elt Ideal) f : Vec Ideal S32x128 .bf16) (ix2 i j) = f (ix2 i j) := by blk_ext [index_at t]
theorem read9 (f : Buf (Elt Ideal) ((c : Thread nD τ).loc main_v54)) (i : Fin 32) (j : Fin 128) :
    (((cfg0.win 9).blk t).view.read (Elt Ideal) f : Vec Ideal S32x128 .bf16) (ix2 i j) = f (ix2 i j) := by blk_ext [index_at t]
theorem read10 (f : Buf (Elt Ideal) ((c : Thread nD τ).loc main_v56)) (i : Fin 1) (j : Fin 128) :
    (((cfg0.win 10).blk t).view.read (Elt Ideal) f : Vec Ideal S1x128 .f32) (ix2 i j) = f (ix2 i j) := by blk_ext [index_at t]
theorem read11 (f : Buf (Elt Ideal) ((c : Thread nD τ).loc main_v62)) (i : Fin 128) (j : Fin 128) :
    (((cfg0.win 11).blk t).view.read (Elt Ideal) f : Vec Ideal S128x128 .f32) (ix2 i j) = f (ix2 i j) := by blk_ext [index_at t]
theorem read12 (f : Buf (Elt Ideal) ((c : Thread nD τ).loc main_v64)) (i : Fin 1) (j : Fin 128) :
    (((cfg0.win 12).blk t).view.read (Elt Ideal) f : Vec Ideal S1x128 .f32) (ix2 i j) = f (ix2 i j) := by blk_ext [index_at t]
theorem read13 (f : Buf (Elt Ideal) ((c : Thread nD τ).loc main_v68)) (i : Fin 24) (j : Fin 64) :
    (((cfg0.win 13).blk t).view.read (Elt Ideal) f : Vec Ideal S24x64 .f32) (ix2 i j) = f (ix2 i j) := by blk_ext [index_at t]
theorem read14 (f : Buf (Elt Ideal) ((c : Thread nD τ).loc main_v71)) (i : Fin 32) (j : Fin 64) :
    (((cfg0.win 14).blk t).view.read (Elt Ideal) f : Vec Ideal S32x64 .bf16) (ix2 i j) = f (ix2 i j) := by blk_ext [index_at t]
theorem read15 (f : Buf (Elt Ideal) ((c : Thread nD τ).loc main_v72)) (i : Fin 1) (j : Fin 64) :
    (((cfg0.win 15).blk t).view.read (Elt Ideal) f : Vec Ideal S1x64 .f32) (ix2 i j) = f (ix2 i j) := by blk_ext [index_at t]
theorem read16 (f : Buf (Elt Ideal) ((c : Thread nD τ).loc main_v73)) (i : Fin 64) (j : Fin 64) :
    (((cfg0.win 16).blk t).view.read (Elt Ideal) f : Vec Ideal S64x64 .f32) (ix2 i j) = f (ix2 i j) := by blk_ext [index_at t]
theorem read17 (f : Buf (Elt Ideal) ((c : Thread nD τ).loc main_v74)) (i : Fin 1) (j : Fin 64) :
    (((cfg0.win 17).blk t).view.read (Elt Ideal) f : Vec Ideal S1x64 .f32) (ix2 i j) = f (ix2 i j) := by blk_ext [index_at t]
theorem read18 (f : Buf (Elt Ideal) ((c : Thread nD τ).loc main_v76)) (i : Fin 64) (j : Fin 128) :
    (((cfg0.win 18).blk t).view.read (Elt Ideal) f : Vec Ideal S64x128 .f32) (ix2 i j) = f (ix2 i j) := by blk_ext [index_at t]
theorem read19 (f : Buf (Elt Ideal) ((c : Thread nD τ).loc main_v78)) (i : Fin 64) (j : Fin 128) :
    (((cfg0.win 19).blk t).view.read (Elt Ideal) f : Vec Ideal S64x128 .f32) (ix2 i j) = f (ix2 i j) := by blk_ext [index_at t]
theorem read20 (f : Buf (Elt Ideal) ((c : Thread nD τ).loc main_v80)) (i : Fin 64) (j : Fin 128) :
    (((cfg0.win 20).blk t).view.read (Elt Ideal) f : Vec Ideal S64x128 .f32) (ix2 i j) = f (ix2 i j) := by blk_ext [index_at t]
theorem read21 (f : Buf (Elt Ideal) ((c : Thread nD τ).loc main_v81)) (i : Fin 1) (j : Fin 128) :
    (((cfg0.win 21).blk t).view.read (Elt Ideal) f : Vec Ideal S1x128 .f32) (ix2 i j) = f (ix2 i j) := by blk_ext [index_at t]

end Reads

/-- A row of the auxiliary array at a token of block `t`. -/
theorem auxiliary_block (t : Fin cfg0.N) (i : Fin 8) (n : Fin 4096) :
    (operands m c t).a i n = V m c main_v11 (ix2 i (token t n)) :=
  read0 c t (V m c main_v11) i n

/-- The embedding's weights at a row and a column. -/
theorem embedding_block (t : Fin cfg0.N) (r : Fin 24) (k : Fin 4) :
    (operands m c t).s r k = if k.val = 3 then (shared m c).b ⟨r.val % 8, by omega⟩
        else if r.val / 8 = k.val then (shared m c).w ⟨r.val % 8, by omega⟩ else 0 :=
  (read4 c t (V m c main_v22) r k).trans (embedding_at (arguments m c) r k)

end Cert.DeepSet.Sine

end
-- ==== Proof.SinePrepared.lean ====
/-
  The operands of a block of the kernel with the sine are what the host prepares for that block.
-/
module

public import proofs.«01_k».proof.Proof.SineOperands

@[expose] public section

set_option maxRecDepth 16384

noncomputable section

namespace Cert.DeepSet.Sine

open Idealize.ShloMosaic Idealize.ShloMosaic.TcCoe Idealize.SL.Sem
open Cert.KernelSineIdeal Cert.KernelSineIdeal.Gen Cert.DeepSet

variable (m : (ℓ : Loc nD τ sig) → Buf (Elt Ideal) ℓ) (d : Dev nD)

/-! What the windows' blocks hold, from the arrays that the host prepares. -/

section Blocks

variable (t : Fin cfg0.N)

theorem block1 (n : Fin 4096) (k : Fin 32) : iblk m d 1 t (ix2 n k) = V m d main_v82 (ix2 (token t n) k) :=
  read1 d t (V m d main_v82) n k
theorem block2 (n : Fin 4096) (k : Fin 32) : iblk m d 2 t (ix2 n k) = V m d main_v83 (ix2 (token t n) k) :=
  read2 d t (V m d main_v83) n k
theorem block3 (n : Fin 4096) (k : Fin 32) : iblk m d 3 t (ix2 n k) = V m d main_v84 (ix2 (token t n) k) :=
  read3 d t (V m d main_v84) n k
theorem block5 (i : Fin 1) (j : Fin 48) : iblk m d 5 t (ix2 i j) = V m d main_v36 (ix2 i j) :=
  read5 d t (V m d main_v36) i j
theorem block6 (i : Fin 3) (j : Fin 48) : iblk m d 6 t (ix2 i j) = V m d main_v31 (ix2 i j) :=
  read6 d t (V m d main_v31) i j
theorem block7 (i : Fin 24) (j : Fin 128) : iblk m d 7 t (ix2 i j) = V m d main_v45 (ix2 i j) :=
  read7 d t (V m d main_v45) i j
theorem block8 (i : Fin 32) (j : Fin 128) : iblk m d 8 t (ix2 i j) = V m d main_v50 (ix2 i j) :=
  read8 d t (V m d main_v50) i j
theorem block9 (i : Fin 32) (j : Fin 128) : iblk m d 9 t (ix2 i j) = V m d main_v54 (ix2 i j) :=
  read9 d t (V m d main_v54) i j
theorem block10 (i : Fin 1) (j : Fin 128) : iblk m d 10 t (ix2 i j) = V m d main_v56 (ix2 i j) :=
  read10 d t (V m d main_v56) i j
theorem block11 (i : Fin 128) (j : Fin 128) : iblk m d 11 t (ix2 i j) = V m d main_v62 (ix2 i j) :=
  read11 d t (V m d main_v62) i j
theorem block12 (i : Fin 1) (j : Fin 128) : iblk m d 12 t (ix2 i j) = V m d main_v64 (ix2 i j) :=
  read12 d t (V m d main_v64) i j
theorem block13 (i : Fin 24) (j : Fin 64) : iblk m d 13 t (ix2 i j) = V m d main_v68 (ix2 i j) :=
  read13 d t (V m d main_v68) i j
theorem block14 (i : Fin 32) (j : Fin 64) : iblk m d 14 t (ix2 i j) = V m d main_v71 (ix2 i j) :=
  read14 d t (V m d main_v71) i j
theorem block15 (i : Fin 1) (j : Fin 64) : iblk m d 15 t (ix2 i j) = V m d main_v72 (ix2 i j) :=
  read15 d t (V m d main_v72) i j
theorem block16 (i : Fin 64) (j : Fin 64) : iblk m d 16 t (ix2 i j) = V m d main_v73 (ix2 i j) :=
  read16 d t (V m d main_v73) i j
theorem block17 (i : Fin 1) (j : Fin 64) : iblk m d 17 t (ix2 i j) = V m d main_v74 (ix2 i j) :=
  read17 d t (V m d main_v74) i j
theorem block18 (i : Fin 64) (j : Fin 128) : iblk m d 18 t (ix2 i j) = V m d main_v76 (ix2 i j) :=
  read18 d t (V m d main_v76) i j
theorem block19 (i : Fin 64) (j : Fin 128) : iblk m d 19 t (ix2 i j) = V m d main_v78 (ix2 i j) :=
  read19 d t (V m d main_v78) i j
theorem block20 (i : Fin 64) (j : Fin 128) : iblk m d 20 t (ix2 i j) = V m d main_v80 (ix2 i j) :=
  read20 d t (V m d main_v80) i j
theorem block21 (i : Fin 1) (j : Fin 128) : iblk m d 21 t (ix2 i j) = V m d main_v81 (ix2 i j) :=
  read21 d t (V m d main_v81) i j

end Blocks

theorem prepared_a0 (t : Fin cfg0.N) : ∀ n, (operands m d t).a 0 n = (branchF m d).time (token t n) := by
  intro n
  exact (auxiliary_block m d t 0 n).trans (auxiliary_at (arguments m d) 0 _)

theorem prepared_a1 (t : Fin cfg0.N) : ∀ n, (operands m d t).a 1 n = (branchR m d).time (token t n) := by
  intro n
  exact (auxiliary_block m d t 1 n).trans (auxiliary_at (arguments m d) 1 _)

theorem prepared_a2 (t : Fin cfg0.N) : ∀ n, (operands m d t).a 2 n = (branchM m d).time (token t n) := by
  intro n
  exact (auxiliary_block m d t 2 n).trans (auxiliary_at (arguments m d) 2 _)

theorem prepared_a3 (t : Fin cfg0.N) : ∀ n, (operands m d t).a 3 n = 1 := by
  intro n
  exact (auxiliary_block m d t 3 n).trans (auxiliary_at (arguments m d) 3 _)

theorem prepared_a4 (t : Fin cfg0.N) : ∀ n, (operands m d t).a 4 n = ((((branchF m d).seg (token t n)).toInt : ℝ) : EReal) := by
  intro n
  exact (auxiliary_block m d t 4 n).trans (auxiliary_at (arguments m d) 4 _)

theorem prepared_a5 (t : Fin cfg0.N) : ∀ n, (operands m d t).a 5 n = ((((branchR m d).seg (token t n)).toInt : ℝ) : EReal) := by
  intro n
  exact (auxiliary_block m d t 5 n).trans (auxiliary_at (arguments m d) 5 _)

theorem prepared_a6 (t : Fin cfg0.N) : ∀ n, (operands m d t).a 6 n = ((((branchM m d).seg (token t n)).toInt : ℝ) : EReal) := by
  intro n
  exact (auxiliary_block m d t 6 n).trans (auxiliary_at (arguments m d) 6 _)

theorem prepared_xf (t : Fin cfg0.N) : ∀ n k, (operands m d t).xf n k = (branchF m d).feat (token t n) k := by
  intro n k
  exact (block1 m d t n k).trans (featuresF_at (arguments m d) _ k)

theorem prepared_xr (t : Fin cfg0.N) : ∀ n k, (operands m d t).xr n k = (branchR m d).feat (token t n) k := by
  intro n k
  exact (block2 m d t n k).trans (featuresR_at (arguments m d) _ k)

theorem prepared_xm (t : Fin cfg0.N) : ∀ n k, (operands m d t).xm n k = (branchM m d).feat (token t n) k := by
  intro n k
  exact (block3 m d t n k).trans (featuresM_at (arguments m d) _ k)

theorem prepared_s0 (t : Fin cfg0.N) : ∀ r : Fin 24, (operands m d t).s r 0 = if h : r.val < 8 then (shared m d).w ⟨r.val, h⟩ else 0 := by
  intro r
  rw [embedding_block, if_neg (by decide)]
  by_cases h : r.val < 8
  · rw [if_pos (show r.val / 8 = ((0 : Fin 4) : ℕ) by simp; omega), dif_pos h]
    exact congrArg _ (Fin.ext (Nat.mod_eq_of_lt h))
  · rw [if_neg (show ¬r.val / 8 = ((0 : Fin 4) : ℕ) by simp; omega), dif_neg h]

theorem prepared_s1 (t : Fin cfg0.N) : ∀ r : Fin 24, (operands m d t).s r 1 = if r.val < 8 then 0 else if h : r.val < 16 then (shared m d).w ⟨r.val - 8, by omega⟩ else 0 := by
  intro r
  rw [embedding_block, if_neg (by decide)]
  by_cases h : r.val < 8
  · rw [if_neg (show ¬r.val / 8 = ((1 : Fin 4) : ℕ) by simp; omega), if_pos h]
  · rw [if_neg h]
    by_cases h' : r.val < 16
    · rw [if_pos (show r.val / 8 = ((1 : Fin 4) : ℕ) by simp; omega), dif_pos h']
      exact congrArg _ (Fin.ext (by simp; omega))
    · rw [if_neg (show ¬r.val / 8 = ((1 : Fin 4) : ℕ) by simp; omega), dif_neg h']

theorem prepared_s2 (t : Fin cfg0.N) : ∀ r : Fin 24, (operands m d t).s r 2 = if r.val < 16 then 0 else (shared m d).w ⟨r.val - 16, by omega⟩ := by
  intro r
  rw [embedding_block, if_neg (by decide)]
  by_cases h : r.val < 16
  · rw [if_neg (show ¬r.val / 8 = ((2 : Fin 4) : ℕ) by simp; omega), if_pos h]
  · rw [if_pos (show r.val / 8 = ((2 : Fin 4) : ℕ) by simp; omega), if_neg h]
    exact congrArg _ (Fin.ext (by simp; omega))

theorem prepared_s3 (t : Fin cfg0.N) : ∀ r : Fin 24, (operands m d t).s r 3 = (shared m d).b ⟨r.val % 8, by omega⟩ := by
  intro r
  rw [embedding_block, if_pos (by decide)]

theorem prepared_ids (t : Fin cfg0.N) : ∀ r : Fin 48, (operands m d t).ids r = (((r.val % 16 : ℕ) : ℝ) : EReal) := by
  intro r
  exact (block5 m d t 0 r).trans (ids_at (arguments m d) r)

theorem prepared_q (t : Fin cfg0.N) : ∀ (k : Fin 3) (r : Fin 48), (operands m d t).q k r = if r.val / 16 = k.val then 1 else 0 := by
  intro k r
  exact (block6 m d t k r).trans (branches_at (arguments m d) k r)

theorem prepared_w1t (t : Fin cfg0.N) : ∀ (r : Fin 24) (c : Fin 128), (operands m d t).w1t r c
    = if h : r.val < 8 ∧ c.val < 64 then (branchF m d).W1 ⟨c.val, h.2⟩ ⟨r.val, by omega⟩
      else if h : (8 ≤ r.val ∧ r.val < 16) ∧ 64 ≤ c.val then (branchR m d).W1 ⟨c.val - 64, by omega⟩ ⟨r.val - 8, by omega⟩ else 0 := by
  intro r j
  exact (block7 m d t r j).trans (timeWeights_at (arguments m d) r j)

theorem prepared_w1f (t : Fin cfg0.N) : ∀ (k : Fin 32) (c : Fin 128), (operands m d t).w1f k c = if h : c.val < 64 then (branchF m d).W1 ⟨c.val, h⟩ ⟨8 + k.val, by omega⟩ else 0 := by
  intro k j
  exact (block8 m d t k j).trans (featureWeightsF_at (arguments m d) k j)

theorem prepared_w1r (t : Fin cfg0.N) : ∀ (k : Fin 32) (c : Fin 128), (operands m d t).w1r k c = if c.val < 64 then 0 else (branchR m d).W1 ⟨c.val - 64, by omega⟩ ⟨8 + k.val, by omega⟩ := by
  intro k j
  exact (block9 m d t k j).trans (featureWeightsR_at (arguments m d) k j)

theorem prepared_b1 (t : Fin cfg0.N) : ∀ c : Fin 128, (operands m d t).b1 c = if h : c.val < 64 then (branchF m d).b1 ⟨c.val, h⟩ else (branchR m d).b1 ⟨c.val - 64, by omega⟩ := by
  intro j
  exact (block10 m d t 0 j).trans (offsets_at (arguments m d) j)

theorem prepared_w2 (t : Fin cfg0.N) : ∀ j c : Fin 128, (operands m d t).w2 j c
    = if h : j.val < 64 ∧ c.val < 64 then (branchF m d).W2 ⟨c.val, h.2⟩ ⟨j.val, h.1⟩
      else if 64 ≤ j.val ∧ 64 ≤ c.val then (branchR m d).W2 ⟨c.val - 64, by omega⟩ ⟨j.val - 64, by omega⟩ else 0 := by
  intro i j
  exact (block11 m d t i j).trans (secondWeights_at (arguments m d) i j)

theorem prepared_b2 (t : Fin cfg0.N) : ∀ c : Fin 128, (operands m d t).b2 c = if h : c.val < 64 then (branchF m d).b2 ⟨c.val, h⟩ else (branchR m d).b2 ⟨c.val - 64, by omega⟩ := by
  intro j
  exact (block12 m d t 0 j).trans (secondOffsets_at (arguments m d) j)

theorem prepared_w1tm (t : Fin cfg0.N) : ∀ (r : Fin 24) (c : Fin 64), (operands m d t).w1tm r c = if r.val < 16 then 0 else (branchM m d).W1 c ⟨r.val - 16, by omega⟩ := by
  intro r j
  exact (block13 m d t r j).trans (timeWeightsM_at (arguments m d) r j)

theorem prepared_w1m (t : Fin cfg0.N) : ∀ (k : Fin 32) (c : Fin 64), (operands m d t).w1m k c = (branchM m d).W1 c ⟨8 + k.val, by omega⟩ := by
  intro k j
  exact (block14 m d t k j).trans (featureWeightsM_at (arguments m d) k j)

theorem prepared_b1m (t : Fin cfg0.N) : ∀ c, (operands m d t).b1m c = (branchM m d).b1 c := by
  intro j
  exact (block15 m d t 0 j).trans (offsetsM_at (arguments m d) j)

theorem prepared_w2m (t : Fin cfg0.N) : ∀ j c, (operands m d t).w2m j c = (branchM m d).W2 c j := by
  intro i j
  exact (block16 m d t i j).trans (secondWeightsM_at (arguments m d) i j)

theorem prepared_b2m (t : Fin cfg0.N) : ∀ c, (operands m d t).b2m c = (branchM m d).b2 c := by
  intro j
  exact (block17 m d t 0 j).trans (secondOffsetsM_at (arguments m d) j)

theorem prepared_wcf (t : Fin cfg0.N) : ∀ (o : Fin 64) (c : Fin 128), (operands m d t).wcf o c = (shared m d).Wc c ⟨o.val, by omega⟩ := by
  intro o j
  exact (block18 m d t o j).trans (combineF_at (arguments m d) o j)

theorem prepared_wcr (t : Fin cfg0.N) : ∀ (o : Fin 64) (c : Fin 128), (operands m d t).wcr o c = (shared m d).Wc c ⟨64 + o.val, by omega⟩ := by
  intro o j
  exact (block19 m d t o j).trans (combineR_at (arguments m d) o j)

theorem prepared_wcm (t : Fin cfg0.N) : ∀ (o : Fin 64) (c : Fin 128), (operands m d t).wcm o c = (shared m d).Wc c ⟨128 + o.val, by omega⟩ := by
  intro o j
  exact (block20 m d t o j).trans (combineM_at (arguments m d) o j)

theorem prepared_bc (t : Fin cfg0.N) : ∀ c, (operands m d t).bc c = (shared m d).bc c := by
  intro j
  exact (block21 m d t 0 j).trans (combineOffsets_at (arguments m d) j)

/-- The operands at grid point `t` are what the host prepares for block `t`. -/
theorem prepared (t : Fin cfg0.N) : (operands m d t).Prepared (shared m d) (branchF m d) (branchR m d) (branchM m d) t :=
  ⟨prepared_a0 m d t, prepared_a1 m d t, prepared_a2 m d t, prepared_a3 m d t, prepared_a4 m d t, prepared_a5 m d t, prepared_a6 m d t, prepared_xf m d t, prepared_xr m d t, prepared_xm m d t, prepared_s0 m d t, prepared_s1 m d t, prepared_s2 m d t, prepared_s3 m d t, prepared_ids m d t, prepared_q m d t, prepared_w1t m d t, prepared_w1f m d t, prepared_w1r m d t, prepared_b1 m d t, prepared_w2 m d t, prepared_b2 m d t, prepared_w1tm m d t, prepared_w1m m d t, prepared_b1m m d t, prepared_w2m m d t, prepared_b2m m d t, prepared_wcf m d t, prepared_wcr m d t, prepared_wcm m d t, prepared_bc m d t⟩

end Cert.DeepSet.Sine

end
-- ==== Proof.KernelIdeal.RunA.lean ====
/- The run of the body of the kernel over the reals at the first grid point: taken over from the generated module
   `Gen/KernelIdeal/Frame/RunA.lean` with a larger budget for the elaborator. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 8000000 in
/-- What the body's stores leave in each output's staging memref, as pieces (last first) IN CASE A (`scf.if` 0 taken, `scf.if` 1 not taken: points 0), WITH the
    proof that on whole staging memrefs — the inputs' at their contents, the outputs it leaves idle (22: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S8x4096 .f32) (harg1 : arg1.IsWhole) (arg2 : Memref sig .tc .vmem S4096x32 .bf16) (harg2 : arg2.IsWhole) (arg3 : Memref sig .tc .vmem S4096x32 .bf16) (harg3 : arg3.IsWhole) (arg4 : Memref sig .tc .vmem S4096x32 .bf16) (harg4 : arg4.IsWhole) (arg5 : Memref sig .tc .vmem S24x4 .f32) (harg5 : arg5.IsWhole) (arg6 : Memref sig .tc .vmem S1x48 .f32) (harg6 : arg6.IsWhole) (arg7 : Memref sig .tc .vmem S3x48 .f32) (harg7 : arg7.IsWhole) (arg8 : Memref sig .tc .vmem S24x128 .f32) (harg8 : arg8.IsWhole) (arg9 : Memref sig .tc .vmem S32x128 .bf16) (harg9 : arg9.IsWhole) (arg10 : Memref sig .tc .vmem S32x128 .bf16) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S24x64 .f32) (harg14 : arg14.IsWhole) (arg15 : Memref sig .tc .vmem S32x64 .bf16) (harg15 : arg15.IsWhole) (arg16 : Memref sig .tc .vmem S1x64 .f32) (harg16 : arg16.IsWhole) (arg17 : Memref sig .tc .vmem S64x64 .f32) (harg17 : arg17.IsWhole) (arg18 : Memref sig .tc .vmem S1x64 .f32) (harg18 : arg18.IsWhole) (arg19 : Memref sig .tc .vmem S64x128 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S1x128 .f32) (harg22 : arg22.IsWhole) (arg23 : Memref sig .tc .vmem S16x128 .f32) (harg23 : arg23.IsWhole) (arg24 : Memref sig .tc .vmem S48x193 .f32) (harg24 : arg24.IsWhole) (hc0 : cond0_0 i) (hc1 : ¬cond0_1 i)
    (x0 : Vec F S8x4096 .f32) (x1 : Vec F S4096x32 .bf16) (x2 : Vec F S4096x32 .bf16) (x3 : Vec F S4096x32 .bf16) (x4 : Vec F S24x4 .f32) (x5 : Vec F S1x48 .f32) (x6 : Vec F S3x48 .f32) (x7 : Vec F S24x128 .f32) (x8 : Vec F S32x128 .bf16) (x9 : Vec F S32x128 .bf16) (x10 : Vec F S1x128 .f32) (x11 : Vec F S128x128 .f32) (x12 : Vec F S1x128 .f32) (x13 : Vec F S24x64 .f32) (x14 : Vec F S32x64 .bf16) (x15 : Vec F S1x64 .f32) (x16 : Vec F S64x64 .f32) (x17 : Vec F S1x64 .f32) (x18 : Vec F S64x128 .f32) (x19 : Vec F S64x128 .f32) (x20 : Vec F S64x128 .f32) (x21 : Vec F S1x128 .f32) :
    Σ' (L22 : List (View.Piece (Elt F) S16x128 .f32)), { LS0 : List (View.Piece (Elt F) S48x193 .f32) //
      ∀ (xi22 : Vec F S16x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare xi22 ∗ (∃ d, owns (c : Thread nD τ) arg24 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare xi22 ∗ (∃ f, arg24.view.loc (c : Thread nD τ) ↦[arg24.view.set]{fullShare} arg24.view.writes (Elt F) f LS0)) -∗ K ⟨⟩))
          ⊢ wp frame (wpE (defs₀ (F := F)) Variants.none c none) E (cc0__aggr_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨[], ?_, fun xi22 E K => ?run⟩
  case run =>
    simp only [cc0__aggr_kernel_eq_skeleton]; unfold cc0__aggr_kernel_skel
    simp only [k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    iexists _; iexact HS0

end Cert.KernelIdeal.Gen

end
-- ==== Proof.KernelIdeal.RunB.lean ====
/- The run of the body of the kernel over the reals at the grid points between the first and the last: taken over from the generated module
   `Gen/KernelIdeal/Frame/RunB.lean` with a larger budget for the elaborator. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 8000000 in
/-- What the body's stores leave in each output's staging memref, as pieces (last first) IN CASE B (`scf.if` 0 not taken, `scf.if` 1 not taken: points 1, 2, 3, 4, 5, 6), WITH the
    proof that on whole staging memrefs — the inputs' at their contents, the outputs it leaves idle (22: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S8x4096 .f32) (harg1 : arg1.IsWhole) (arg2 : Memref sig .tc .vmem S4096x32 .bf16) (harg2 : arg2.IsWhole) (arg3 : Memref sig .tc .vmem S4096x32 .bf16) (harg3 : arg3.IsWhole) (arg4 : Memref sig .tc .vmem S4096x32 .bf16) (harg4 : arg4.IsWhole) (arg5 : Memref sig .tc .vmem S24x4 .f32) (harg5 : arg5.IsWhole) (arg6 : Memref sig .tc .vmem S1x48 .f32) (harg6 : arg6.IsWhole) (arg7 : Memref sig .tc .vmem S3x48 .f32) (harg7 : arg7.IsWhole) (arg8 : Memref sig .tc .vmem S24x128 .f32) (harg8 : arg8.IsWhole) (arg9 : Memref sig .tc .vmem S32x128 .bf16) (harg9 : arg9.IsWhole) (arg10 : Memref sig .tc .vmem S32x128 .bf16) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S24x64 .f32) (harg14 : arg14.IsWhole) (arg15 : Memref sig .tc .vmem S32x64 .bf16) (harg15 : arg15.IsWhole) (arg16 : Memref sig .tc .vmem S1x64 .f32) (harg16 : arg16.IsWhole) (arg17 : Memref sig .tc .vmem S64x64 .f32) (harg17 : arg17.IsWhole) (arg18 : Memref sig .tc .vmem S1x64 .f32) (harg18 : arg18.IsWhole) (arg19 : Memref sig .tc .vmem S64x128 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S1x128 .f32) (harg22 : arg22.IsWhole) (arg23 : Memref sig .tc .vmem S16x128 .f32) (harg23 : arg23.IsWhole) (arg24 : Memref sig .tc .vmem S48x193 .f32) (harg24 : arg24.IsWhole) (hc0 : ¬cond0_0 i) (hc1 : ¬cond0_1 i)
    (x0 : Vec F S8x4096 .f32) (x1 : Vec F S4096x32 .bf16) (x2 : Vec F S4096x32 .bf16) (x3 : Vec F S4096x32 .bf16) (x4 : Vec F S24x4 .f32) (x5 : Vec F S1x48 .f32) (x6 : Vec F S3x48 .f32) (x7 : Vec F S24x128 .f32) (x8 : Vec F S32x128 .bf16) (x9 : Vec F S32x128 .bf16) (x10 : Vec F S1x128 .f32) (x11 : Vec F S128x128 .f32) (x12 : Vec F S1x128 .f32) (x13 : Vec F S24x64 .f32) (x14 : Vec F S32x64 .bf16) (x15 : Vec F S1x64 .f32) (x16 : Vec F S64x64 .f32) (x17 : Vec F S1x64 .f32) (x18 : Vec F S64x128 .f32) (x19 : Vec F S64x128 .f32) (x20 : Vec F S64x128 .f32) (x21 : Vec F S1x128 .f32) (xs0 : Vec F S48x193 .f32) :
    Σ' (L22 : List (View.Piece (Elt F) S16x128 .f32)), { LS0 : List (View.Piece (Elt F) S48x193 .f32) //
      ∀ (xi22 : Vec F S16x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare xi22 ∗ owns (c : Thread nD τ) arg24 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare xi22 ∗ (∃ f, arg24.view.loc (c : Thread nD τ) ↦[arg24.view.set]{fullShare} arg24.view.writes (Elt F) f LS0)) -∗ K ⟨⟩))
          ⊢ wp frame (wpE (defs₀ (F := F)) Variants.none c none) E (cc0__aggr_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨[], ?_, fun xi22 E K => ?run⟩
  case run =>
    simp only [cc0__aggr_kernel_eq_skeleton]; unfold cc0__aggr_kernel_skel
    simp only [k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    iexists _; iexact HS0

end Cert.KernelIdeal.Gen

end
-- ==== Proof.KernelIdeal.RunC.lean ====
/- The run of the body of the kernel over the reals at the last grid point: taken over from the generated module
   `Gen/KernelIdeal/Frame/RunC.lean` with a larger budget for the elaborator. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 8000000 in
/-- What the body's stores leave in each output's staging memref, as pieces (last first) IN CASE C (`scf.if` 0 not taken, `scf.if` 1 taken: points 7), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S8x4096 .f32) (harg1 : arg1.IsWhole) (arg2 : Memref sig .tc .vmem S4096x32 .bf16) (harg2 : arg2.IsWhole) (arg3 : Memref sig .tc .vmem S4096x32 .bf16) (harg3 : arg3.IsWhole) (arg4 : Memref sig .tc .vmem S4096x32 .bf16) (harg4 : arg4.IsWhole) (arg5 : Memref sig .tc .vmem S24x4 .f32) (harg5 : arg5.IsWhole) (arg6 : Memref sig .tc .vmem S1x48 .f32) (harg6 : arg6.IsWhole) (arg7 : Memref sig .tc .vmem S3x48 .f32) (harg7 : arg7.IsWhole) (arg8 : Memref sig .tc .vmem S24x128 .f32) (harg8 : arg8.IsWhole) (arg9 : Memref sig .tc .vmem S32x128 .bf16) (harg9 : arg9.IsWhole) (arg10 : Memref sig .tc .vmem S32x128 .bf16) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S24x64 .f32) (harg14 : arg14.IsWhole) (arg15 : Memref sig .tc .vmem S32x64 .bf16) (harg15 : arg15.IsWhole) (arg16 : Memref sig .tc .vmem S1x64 .f32) (harg16 : arg16.IsWhole) (arg17 : Memref sig .tc .vmem S64x64 .f32) (harg17 : arg17.IsWhole) (arg18 : Memref sig .tc .vmem S1x64 .f32) (harg18 : arg18.IsWhole) (arg19 : Memref sig .tc .vmem S64x128 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S1x128 .f32) (harg22 : arg22.IsWhole) (arg23 : Memref sig .tc .vmem S16x128 .f32) (harg23 : arg23.IsWhole) (arg24 : Memref sig .tc .vmem S48x193 .f32) (harg24 : arg24.IsWhole) (hc0 : ¬cond0_0 i) (hc1 : cond0_1 i)
    (x0 : Vec F S8x4096 .f32) (x1 : Vec F S4096x32 .bf16) (x2 : Vec F S4096x32 .bf16) (x3 : Vec F S4096x32 .bf16) (x4 : Vec F S24x4 .f32) (x5 : Vec F S1x48 .f32) (x6 : Vec F S3x48 .f32) (x7 : Vec F S24x128 .f32) (x8 : Vec F S32x128 .bf16) (x9 : Vec F S32x128 .bf16) (x10 : Vec F S1x128 .f32) (x11 : Vec F S128x128 .f32) (x12 : Vec F S1x128 .f32) (x13 : Vec F S24x64 .f32) (x14 : Vec F S32x64 .bf16) (x15 : Vec F S1x64 .f32) (x16 : Vec F S64x64 .f32) (x17 : Vec F S1x64 .f32) (x18 : Vec F S64x128 .f32) (x19 : Vec F S64x128 .f32) (x20 : Vec F S64x128 .f32) (x21 : Vec F S1x128 .f32) (xs0 : Vec F S48x193 .f32) :
    Σ' (L22 : List (View.Piece (Elt F) S16x128 .f32)), { LS0 : List (View.Piece (Elt F) S48x193 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ d, owns (c : Thread nD τ) arg23 fullShare d) ∗ owns (c : Thread nD τ) arg24 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f LS0)) -∗ K ⟨⟩))
          ⊢ wp frame (wpE (defs₀ (F := F)) Variants.none c none) E (cc0__aggr_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, fun E K => ?run⟩
  case run =>
    simp only [cc0__aggr_kernel_eq_skeleton]; unfold cc0__aggr_kernel_skel
    simp only [k0_part2_eq_skeleton, k0_part3_eq_skeleton, k0_part4_eq_skeleton, k0_part5_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg24.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]; · iexists _; iexact H22
    iexists _; iexact HS0

end Cert.KernelIdeal.Gen

end
-- ==== Proof.KernelIdeal.Frame.lean ====
/- The frame of the kernel over the reals: what the output and the accumulator hold after each grid point, and that the
   arguments end unchanged. Taken over from the generated module `Gen/KernelIdeal/Frame.lean`, over the runs in this directory. -/
module

public import proofs.«01_k».proof.Proof.KernelIdeal.RunA
public import proofs.«01_k».proof.Proof.KernelIdeal.RunB
public import proofs.«01_k».proof.Proof.KernelIdeal.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 22 (the window is idle at its points and not written back there):
    no pieces — a placeholder (junk read back) that nothing consults, since at these points the window is neither
    written back nor read at the next point (Lib/Pipeline.lean "Idle points"). -/
def out0_A_22 (c : Dev nD) (i : grid0.Coords) (arg1 : Memref sig .tc .vmem S8x4096 .f32) (harg1 : arg1.IsWhole) (arg2 : Memref sig .tc .vmem S4096x32 .bf16) (harg2 : arg2.IsWhole) (arg3 : Memref sig .tc .vmem S4096x32 .bf16) (harg3 : arg3.IsWhole) (arg4 : Memref sig .tc .vmem S4096x32 .bf16) (harg4 : arg4.IsWhole) (arg5 : Memref sig .tc .vmem S24x4 .f32) (harg5 : arg5.IsWhole) (arg6 : Memref sig .tc .vmem S1x48 .f32) (harg6 : arg6.IsWhole) (arg7 : Memref sig .tc .vmem S3x48 .f32) (harg7 : arg7.IsWhole) (arg8 : Memref sig .tc .vmem S24x128 .f32) (harg8 : arg8.IsWhole) (arg9 : Memref sig .tc .vmem S32x128 .bf16) (harg9 : arg9.IsWhole) (arg10 : Memref sig .tc .vmem S32x128 .bf16) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S24x64 .f32) (harg14 : arg14.IsWhole) (arg15 : Memref sig .tc .vmem S32x64 .bf16) (harg15 : arg15.IsWhole) (arg16 : Memref sig .tc .vmem S1x64 .f32) (harg16 : arg16.IsWhole) (arg17 : Memref sig .tc .vmem S64x64 .f32) (harg17 : arg17.IsWhole) (arg18 : Memref sig .tc .vmem S1x64 .f32) (harg18 : arg18.IsWhole) (arg19 : Memref sig .tc .vmem S64x128 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S1x128 .f32) (harg22 : arg22.IsWhole) (arg23 : Memref sig .tc .vmem S16x128 .f32) (harg23 : arg23.IsWhole) (arg24 : Memref sig .tc .vmem S48x193 .f32) (harg24 : arg24.IsWhole) (hc0 : cond0_0 i) (hc1 : ¬cond0_1 i)
    (x0 : Vec F S8x4096 .f32) (x1 : Vec F S4096x32 .bf16) (x2 : Vec F S4096x32 .bf16) (x3 : Vec F S4096x32 .bf16) (x4 : Vec F S24x4 .f32) (x5 : Vec F S1x48 .f32) (x6 : Vec F S3x48 .f32) (x7 : Vec F S24x128 .f32) (x8 : Vec F S32x128 .bf16) (x9 : Vec F S32x128 .bf16) (x10 : Vec F S1x128 .f32) (x11 : Vec F S128x128 .f32) (x12 : Vec F S1x128 .f32) (x13 : Vec F S24x64 .f32) (x14 : Vec F S32x64 .bf16) (x15 : Vec F S1x64 .f32) (x16 : Vec F S64x64 .f32) (x17 : Vec F S1x64 .f32) (x18 : Vec F S64x128 .f32) (x19 : Vec F S64x128 .f32) (x20 : Vec F S64x128 .f32) (x21 : Vec F S1x128 .f32) : Vec F S16x128 .f32 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 x19 x20 x21).1)

/-- Case A's pieces for scratch `arg24`, which the kernel carries between points, cover it: one of them a store of the WHOLE buffer (Lib/Ring.lean `sl_whole_mem`). -/
theorem scover0_A_0 (c : Dev nD) (i : grid0.Coords) (arg1 : Memref sig .tc .vmem S8x4096 .f32) (harg1 : arg1.IsWhole) (arg2 : Memref sig .tc .vmem S4096x32 .bf16) (harg2 : arg2.IsWhole) (arg3 : Memref sig .tc .vmem S4096x32 .bf16) (harg3 : arg3.IsWhole) (arg4 : Memref sig .tc .vmem S4096x32 .bf16) (harg4 : arg4.IsWhole) (arg5 : Memref sig .tc .vmem S24x4 .f32) (harg5 : arg5.IsWhole) (arg6 : Memref sig .tc .vmem S1x48 .f32) (harg6 : arg6.IsWhole) (arg7 : Memref sig .tc .vmem S3x48 .f32) (harg7 : arg7.IsWhole) (arg8 : Memref sig .tc .vmem S24x128 .f32) (harg8 : arg8.IsWhole) (arg9 : Memref sig .tc .vmem S32x128 .bf16) (harg9 : arg9.IsWhole) (arg10 : Memref sig .tc .vmem S32x128 .bf16) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S24x64 .f32) (harg14 : arg14.IsWhole) (arg15 : Memref sig .tc .vmem S32x64 .bf16) (harg15 : arg15.IsWhole) (arg16 : Memref sig .tc .vmem S1x64 .f32) (harg16 : arg16.IsWhole) (arg17 : Memref sig .tc .vmem S64x64 .f32) (harg17 : arg17.IsWhole) (arg18 : Memref sig .tc .vmem S1x64 .f32) (harg18 : arg18.IsWhole) (arg19 : Memref sig .tc .vmem S64x128 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S1x128 .f32) (harg22 : arg22.IsWhole) (arg23 : Memref sig .tc .vmem S16x128 .f32) (harg23 : arg23.IsWhole) (arg24 : Memref sig .tc .vmem S48x193 .f32) (harg24 : arg24.IsWhole) (hc0 : cond0_0 i) (hc1 : ¬cond0_1 i)
    (x0 : Vec F S8x4096 .f32) (x1 : Vec F S4096x32 .bf16) (x2 : Vec F S4096x32 .bf16) (x3 : Vec F S4096x32 .bf16) (x4 : Vec F S24x4 .f32) (x5 : Vec F S1x48 .f32) (x6 : Vec F S3x48 .f32) (x7 : Vec F S24x128 .f32) (x8 : Vec F S32x128 .bf16) (x9 : Vec F S32x128 .bf16) (x10 : Vec F S1x128 .f32) (x11 : Vec F S128x128 .f32) (x12 : Vec F S1x128 .f32) (x13 : Vec F S24x64 .f32) (x14 : Vec F S32x64 .bf16) (x15 : Vec F S1x64 .f32) (x16 : Vec F S64x64 .f32) (x17 : Vec F S1x64 .f32) (x18 : Vec F S64x128 .f32) (x19 : Vec F S64x128 .f32) (x20 : Vec F S64x128 .f32) (x21 : Vec F S1x128 .f32) (y : S48x193.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 x19 x20 x21).2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 x19 x20 x21).2.1 (by sl_whole_mem) y

/-- What case A leaves in scratch `arg24`: its pieces read back over junk. -/
def sout0_A_0 (c : Dev nD) (i : grid0.Coords) (arg1 : Memref sig .tc .vmem S8x4096 .f32) (harg1 : arg1.IsWhole) (arg2 : Memref sig .tc .vmem S4096x32 .bf16) (harg2 : arg2.IsWhole) (arg3 : Memref sig .tc .vmem S4096x32 .bf16) (harg3 : arg3.IsWhole) (arg4 : Memref sig .tc .vmem S4096x32 .bf16) (harg4 : arg4.IsWhole) (arg5 : Memref sig .tc .vmem S24x4 .f32) (harg5 : arg5.IsWhole) (arg6 : Memref sig .tc .vmem S1x48 .f32) (harg6 : arg6.IsWhole) (arg7 : Memref sig .tc .vmem S3x48 .f32) (harg7 : arg7.IsWhole) (arg8 : Memref sig .tc .vmem S24x128 .f32) (harg8 : arg8.IsWhole) (arg9 : Memref sig .tc .vmem S32x128 .bf16) (harg9 : arg9.IsWhole) (arg10 : Memref sig .tc .vmem S32x128 .bf16) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S24x64 .f32) (harg14 : arg14.IsWhole) (arg15 : Memref sig .tc .vmem S32x64 .bf16) (harg15 : arg15.IsWhole) (arg16 : Memref sig .tc .vmem S1x64 .f32) (harg16 : arg16.IsWhole) (arg17 : Memref sig .tc .vmem S64x64 .f32) (harg17 : arg17.IsWhole) (arg18 : Memref sig .tc .vmem S1x64 .f32) (harg18 : arg18.IsWhole) (arg19 : Memref sig .tc .vmem S64x128 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S1x128 .f32) (harg22 : arg22.IsWhole) (arg23 : Memref sig .tc .vmem S16x128 .f32) (harg23 : arg23.IsWhole) (arg24 : Memref sig .tc .vmem S48x193 .f32) (harg24 : arg24.IsWhole) (hc0 : cond0_0 i) (hc1 : ¬cond0_1 i)
    (x0 : Vec F S8x4096 .f32) (x1 : Vec F S4096x32 .bf16) (x2 : Vec F S4096x32 .bf16) (x3 : Vec F S4096x32 .bf16) (x4 : Vec F S24x4 .f32) (x5 : Vec F S1x48 .f32) (x6 : Vec F S3x48 .f32) (x7 : Vec F S24x128 .f32) (x8 : Vec F S32x128 .bf16) (x9 : Vec F S32x128 .bf16) (x10 : Vec F S1x128 .f32) (x11 : Vec F S128x128 .f32) (x12 : Vec F S1x128 .f32) (x13 : Vec F S24x64 .f32) (x14 : Vec F S32x64 .bf16) (x15 : Vec F S1x64 .f32) (x16 : Vec F S64x64 .f32) (x17 : Vec F S1x64 .f32) (x18 : Vec F S64x128 .f32) (x19 : Vec F S64x128 .f32) (x20 : Vec F S64x128 .f32) (x21 : Vec F S1x128 .f32) : Vec F S48x193 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 x19 x20 x21).2.1)

/-- Case B stores nothing into output 22 (the window is idle at its points and not written back there):
    no pieces — a placeholder (junk read back) that nothing consults, since at these points the window is neither
    written back nor read at the next point (Lib/Pipeline.lean "Idle points"). -/
def out0_B_22 (c : Dev nD) (i : grid0.Coords) (arg1 : Memref sig .tc .vmem S8x4096 .f32) (harg1 : arg1.IsWhole) (arg2 : Memref sig .tc .vmem S4096x32 .bf16) (harg2 : arg2.IsWhole) (arg3 : Memref sig .tc .vmem S4096x32 .bf16) (harg3 : arg3.IsWhole) (arg4 : Memref sig .tc .vmem S4096x32 .bf16) (harg4 : arg4.IsWhole) (arg5 : Memref sig .tc .vmem S24x4 .f32) (harg5 : arg5.IsWhole) (arg6 : Memref sig .tc .vmem S1x48 .f32) (harg6 : arg6.IsWhole) (arg7 : Memref sig .tc .vmem S3x48 .f32) (harg7 : arg7.IsWhole) (arg8 : Memref sig .tc .vmem S24x128 .f32) (harg8 : arg8.IsWhole) (arg9 : Memref sig .tc .vmem S32x128 .bf16) (harg9 : arg9.IsWhole) (arg10 : Memref sig .tc .vmem S32x128 .bf16) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S24x64 .f32) (harg14 : arg14.IsWhole) (arg15 : Memref sig .tc .vmem S32x64 .bf16) (harg15 : arg15.IsWhole) (arg16 : Memref sig .tc .vmem S1x64 .f32) (harg16 : arg16.IsWhole) (arg17 : Memref sig .tc .vmem S64x64 .f32) (harg17 : arg17.IsWhole) (arg18 : Memref sig .tc .vmem S1x64 .f32) (harg18 : arg18.IsWhole) (arg19 : Memref sig .tc .vmem S64x128 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S1x128 .f32) (harg22 : arg22.IsWhole) (arg23 : Memref sig .tc .vmem S16x128 .f32) (harg23 : arg23.IsWhole) (arg24 : Memref sig .tc .vmem S48x193 .f32) (harg24 : arg24.IsWhole) (hc0 : ¬cond0_0 i) (hc1 : ¬cond0_1 i)
    (x0 : Vec F S8x4096 .f32) (x1 : Vec F S4096x32 .bf16) (x2 : Vec F S4096x32 .bf16) (x3 : Vec F S4096x32 .bf16) (x4 : Vec F S24x4 .f32) (x5 : Vec F S1x48 .f32) (x6 : Vec F S3x48 .f32) (x7 : Vec F S24x128 .f32) (x8 : Vec F S32x128 .bf16) (x9 : Vec F S32x128 .bf16) (x10 : Vec F S1x128 .f32) (x11 : Vec F S128x128 .f32) (x12 : Vec F S1x128 .f32) (x13 : Vec F S24x64 .f32) (x14 : Vec F S32x64 .bf16) (x15 : Vec F S1x64 .f32) (x16 : Vec F S64x64 .f32) (x17 : Vec F S1x64 .f32) (x18 : Vec F S64x128 .f32) (x19 : Vec F S64x128 .f32) (x20 : Vec F S64x128 .f32) (x21 : Vec F S1x128 .f32) (xs0 : Vec F S48x193 .f32) : Vec F S16x128 .f32 :=
  VO0_22.read (Elt F) (VO0_22.writes (Elt F) VO0_22.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 x19 x20 x21 xs0).1)

/-- Case B's pieces for scratch `arg24`, which the kernel carries between points, cover it: 3 pieces (stores and landed copies) of several sizes (`S48x128`, `S48x1`, `S48x64`) tiling it when cut into blocks of `![48, 1]` (Lib/Ring.lean `Piece.tiledBy`). -/
theorem scover0_B_0 (c : Dev nD) (i : grid0.Coords) (arg1 : Memref sig .tc .vmem S8x4096 .f32) (harg1 : arg1.IsWhole) (arg2 : Memref sig .tc .vmem S4096x32 .bf16) (harg2 : arg2.IsWhole) (arg3 : Memref sig .tc .vmem S4096x32 .bf16) (harg3 : arg3.IsWhole) (arg4 : Memref sig .tc .vmem S4096x32 .bf16) (harg4 : arg4.IsWhole) (arg5 : Memref sig .tc .vmem S24x4 .f32) (harg5 : arg5.IsWhole) (arg6 : Memref sig .tc .vmem S1x48 .f32) (harg6 : arg6.IsWhole) (arg7 : Memref sig .tc .vmem S3x48 .f32) (harg7 : arg7.IsWhole) (arg8 : Memref sig .tc .vmem S24x128 .f32) (harg8 : arg8.IsWhole) (arg9 : Memref sig .tc .vmem S32x128 .bf16) (harg9 : arg9.IsWhole) (arg10 : Memref sig .tc .vmem S32x128 .bf16) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S24x64 .f32) (harg14 : arg14.IsWhole) (arg15 : Memref sig .tc .vmem S32x64 .bf16) (harg15 : arg15.IsWhole) (arg16 : Memref sig .tc .vmem S1x64 .f32) (harg16 : arg16.IsWhole) (arg17 : Memref sig .tc .vmem S64x64 .f32) (harg17 : arg17.IsWhole) (arg18 : Memref sig .tc .vmem S1x64 .f32) (harg18 : arg18.IsWhole) (arg19 : Memref sig .tc .vmem S64x128 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S1x128 .f32) (harg22 : arg22.IsWhole) (arg23 : Memref sig .tc .vmem S16x128 .f32) (harg23 : arg23.IsWhole) (arg24 : Memref sig .tc .vmem S48x193 .f32) (harg24 : arg24.IsWhole) (hc0 : ¬cond0_0 i) (hc1 : ¬cond0_1 i)
    (x0 : Vec F S8x4096 .f32) (x1 : Vec F S4096x32 .bf16) (x2 : Vec F S4096x32 .bf16) (x3 : Vec F S4096x32 .bf16) (x4 : Vec F S24x4 .f32) (x5 : Vec F S1x48 .f32) (x6 : Vec F S3x48 .f32) (x7 : Vec F S24x128 .f32) (x8 : Vec F S32x128 .bf16) (x9 : Vec F S32x128 .bf16) (x10 : Vec F S1x128 .f32) (x11 : Vec F S128x128 .f32) (x12 : Vec F S1x128 .f32) (x13 : Vec F S24x64 .f32) (x14 : Vec F S32x64 .bf16) (x15 : Vec F S1x64 .f32) (x16 : Vec F S64x64 .f32) (x17 : Vec F S1x64 .f32) (x18 : Vec F S64x128 .f32) (x19 : Vec F S64x128 .f32) (x20 : Vec F S64x128 .f32) (x21 : Vec F S1x128 .f32) (xs0 : Vec F S48x193 .f32) (y : S48x193.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 x19 x20 x21 xs0).2.1, y ∈ pc.1.set :=
  View.cover_of_tiledBy (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 x19 x20 x21 xs0).2.1 ![48, 1] (by sl_kernel_rfl) y

/-- What case B leaves in scratch `arg24`: its pieces read back over junk. -/
def sout0_B_0 (c : Dev nD) (i : grid0.Coords) (arg1 : Memref sig .tc .vmem S8x4096 .f32) (harg1 : arg1.IsWhole) (arg2 : Memref sig .tc .vmem S4096x32 .bf16) (harg2 : arg2.IsWhole) (arg3 : Memref sig .tc .vmem S4096x32 .bf16) (harg3 : arg3.IsWhole) (arg4 : Memref sig .tc .vmem S4096x32 .bf16) (harg4 : arg4.IsWhole) (arg5 : Memref sig .tc .vmem S24x4 .f32) (harg5 : arg5.IsWhole) (arg6 : Memref sig .tc .vmem S1x48 .f32) (harg6 : arg6.IsWhole) (arg7 : Memref sig .tc .vmem S3x48 .f32) (harg7 : arg7.IsWhole) (arg8 : Memref sig .tc .vmem S24x128 .f32) (harg8 : arg8.IsWhole) (arg9 : Memref sig .tc .vmem S32x128 .bf16) (harg9 : arg9.IsWhole) (arg10 : Memref sig .tc .vmem S32x128 .bf16) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S24x64 .f32) (harg14 : arg14.IsWhole) (arg15 : Memref sig .tc .vmem S32x64 .bf16) (harg15 : arg15.IsWhole) (arg16 : Memref sig .tc .vmem S1x64 .f32) (harg16 : arg16.IsWhole) (arg17 : Memref sig .tc .vmem S64x64 .f32) (harg17 : arg17.IsWhole) (arg18 : Memref sig .tc .vmem S1x64 .f32) (harg18 : arg18.IsWhole) (arg19 : Memref sig .tc .vmem S64x128 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S1x128 .f32) (harg22 : arg22.IsWhole) (arg23 : Memref sig .tc .vmem S16x128 .f32) (harg23 : arg23.IsWhole) (arg24 : Memref sig .tc .vmem S48x193 .f32) (harg24 : arg24.IsWhole) (hc0 : ¬cond0_0 i) (hc1 : ¬cond0_1 i)
    (x0 : Vec F S8x4096 .f32) (x1 : Vec F S4096x32 .bf16) (x2 : Vec F S4096x32 .bf16) (x3 : Vec F S4096x32 .bf16) (x4 : Vec F S24x4 .f32) (x5 : Vec F S1x48 .f32) (x6 : Vec F S3x48 .f32) (x7 : Vec F S24x128 .f32) (x8 : Vec F S32x128 .bf16) (x9 : Vec F S32x128 .bf16) (x10 : Vec F S1x128 .f32) (x11 : Vec F S128x128 .f32) (x12 : Vec F S1x128 .f32) (x13 : Vec F S24x64 .f32) (x14 : Vec F S32x64 .bf16) (x15 : Vec F S1x64 .f32) (x16 : Vec F S64x64 .f32) (x17 : Vec F S1x64 .f32) (x18 : Vec F S64x128 .f32) (x19 : Vec F S64x128 .f32) (x20 : Vec F S64x128 .f32) (x21 : Vec F S1x128 .f32) (xs0 : Vec F S48x193 .f32) : Vec F S48x193 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 x19 x20 x21 xs0).2.1)

/-- Case C's pieces for output 22 tile its block (1 store of `S16x128`, checked by the kernel's evaluation: Lib/Ring.lean `Piece.tiledL`, linear in the pieces, through a loop's `@[irreducible]` trip theorem too), so they cover it. -/
theorem cover0_C_22 (c : Dev nD) (i : grid0.Coords) (arg1 : Memref sig .tc .vmem S8x4096 .f32) (harg1 : arg1.IsWhole) (arg2 : Memref sig .tc .vmem S4096x32 .bf16) (harg2 : arg2.IsWhole) (arg3 : Memref sig .tc .vmem S4096x32 .bf16) (harg3 : arg3.IsWhole) (arg4 : Memref sig .tc .vmem S4096x32 .bf16) (harg4 : arg4.IsWhole) (arg5 : Memref sig .tc .vmem S24x4 .f32) (harg5 : arg5.IsWhole) (arg6 : Memref sig .tc .vmem S1x48 .f32) (harg6 : arg6.IsWhole) (arg7 : Memref sig .tc .vmem S3x48 .f32) (harg7 : arg7.IsWhole) (arg8 : Memref sig .tc .vmem S24x128 .f32) (harg8 : arg8.IsWhole) (arg9 : Memref sig .tc .vmem S32x128 .bf16) (harg9 : arg9.IsWhole) (arg10 : Memref sig .tc .vmem S32x128 .bf16) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S24x64 .f32) (harg14 : arg14.IsWhole) (arg15 : Memref sig .tc .vmem S32x64 .bf16) (harg15 : arg15.IsWhole) (arg16 : Memref sig .tc .vmem S1x64 .f32) (harg16 : arg16.IsWhole) (arg17 : Memref sig .tc .vmem S64x64 .f32) (harg17 : arg17.IsWhole) (arg18 : Memref sig .tc .vmem S1x64 .f32) (harg18 : arg18.IsWhole) (arg19 : Memref sig .tc .vmem S64x128 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S1x128 .f32) (harg22 : arg22.IsWhole) (arg23 : Memref sig .tc .vmem S16x128 .f32) (harg23 : arg23.IsWhole) (arg24 : Memref sig .tc .vmem S48x193 .f32) (harg24 : arg24.IsWhole) (hc0 : ¬cond0_0 i) (hc1 : cond0_1 i)
    (x0 : Vec F S8x4096 .f32) (x1 : Vec F S4096x32 .bf16) (x2 : Vec F S4096x32 .bf16) (x3 : Vec F S4096x32 .bf16) (x4 : Vec F S24x4 .f32) (x5 : Vec F S1x48 .f32) (x6 : Vec F S3x48 .f32) (x7 : Vec F S24x128 .f32) (x8 : Vec F S32x128 .bf16) (x9 : Vec F S32x128 .bf16) (x10 : Vec F S1x128 .f32) (x11 : Vec F S128x128 .f32) (x12 : Vec F S1x128 .f32) (x13 : Vec F S24x64 .f32) (x14 : Vec F S32x64 .bf16) (x15 : Vec F S1x64 .f32) (x16 : Vec F S64x64 .f32) (x17 : Vec F S1x64 .f32) (x18 : Vec F S64x128 .f32) (x19 : Vec F S64x128 .f32) (x20 : Vec F S64x128 .f32) (x21 : Vec F S1x128 .f32) (xs0 : Vec F S48x193 .f32) (y : S16x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 x19 x20 x21 xs0).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 x19 x20 x21 xs0).1 S16x128.size (by sl_kernel_rfl) y

/-- What case C leaves in output 22's staging buffer: its pieces read back over junk. -/
def out0_C_22 (c : Dev nD) (i : grid0.Coords) (arg1 : Memref sig .tc .vmem S8x4096 .f32) (harg1 : arg1.IsWhole) (arg2 : Memref sig .tc .vmem S4096x32 .bf16) (harg2 : arg2.IsWhole) (arg3 : Memref sig .tc .vmem S4096x32 .bf16) (harg3 : arg3.IsWhole) (arg4 : Memref sig .tc .vmem S4096x32 .bf16) (harg4 : arg4.IsWhole) (arg5 : Memref sig .tc .vmem S24x4 .f32) (harg5 : arg5.IsWhole) (arg6 : Memref sig .tc .vmem S1x48 .f32) (harg6 : arg6.IsWhole) (arg7 : Memref sig .tc .vmem S3x48 .f32) (harg7 : arg7.IsWhole) (arg8 : Memref sig .tc .vmem S24x128 .f32) (harg8 : arg8.IsWhole) (arg9 : Memref sig .tc .vmem S32x128 .bf16) (harg9 : arg9.IsWhole) (arg10 : Memref sig .tc .vmem S32x128 .bf16) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S24x64 .f32) (harg14 : arg14.IsWhole) (arg15 : Memref sig .tc .vmem S32x64 .bf16) (harg15 : arg15.IsWhole) (arg16 : Memref sig .tc .vmem S1x64 .f32) (harg16 : arg16.IsWhole) (arg17 : Memref sig .tc .vmem S64x64 .f32) (harg17 : arg17.IsWhole) (arg18 : Memref sig .tc .vmem S1x64 .f32) (harg18 : arg18.IsWhole) (arg19 : Memref sig .tc .vmem S64x128 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S1x128 .f32) (harg22 : arg22.IsWhole) (arg23 : Memref sig .tc .vmem S16x128 .f32) (harg23 : arg23.IsWhole) (arg24 : Memref sig .tc .vmem S48x193 .f32) (harg24 : arg24.IsWhole) (hc0 : ¬cond0_0 i) (hc1 : cond0_1 i)
    (x0 : Vec F S8x4096 .f32) (x1 : Vec F S4096x32 .bf16) (x2 : Vec F S4096x32 .bf16) (x3 : Vec F S4096x32 .bf16) (x4 : Vec F S24x4 .f32) (x5 : Vec F S1x48 .f32) (x6 : Vec F S3x48 .f32) (x7 : Vec F S24x128 .f32) (x8 : Vec F S32x128 .bf16) (x9 : Vec F S32x128 .bf16) (x10 : Vec F S1x128 .f32) (x11 : Vec F S128x128 .f32) (x12 : Vec F S1x128 .f32) (x13 : Vec F S24x64 .f32) (x14 : Vec F S32x64 .bf16) (x15 : Vec F S1x64 .f32) (x16 : Vec F S64x64 .f32) (x17 : Vec F S1x64 .f32) (x18 : Vec F S64x128 .f32) (x19 : Vec F S64x128 .f32) (x20 : Vec F S64x128 .f32) (x21 : Vec F S1x128 .f32) (xs0 : Vec F S48x193 .f32) : Vec F S16x128 .f32 :=
  VO0_22.read (Elt F) (VO0_22.writes (Elt F) VO0_22.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 x19 x20 x21 xs0).1)

/-- Case C's pieces for scratch `arg24`, which the kernel carries between points, cover it: 3 pieces (stores and landed copies) of several sizes (`S48x128`, `S48x1`, `S48x64`) tiling it when cut into blocks of `![48, 1]` (Lib/Ring.lean `Piece.tiledBy`). -/
theorem scover0_C_0 (c : Dev nD) (i : grid0.Coords) (arg1 : Memref sig .tc .vmem S8x4096 .f32) (harg1 : arg1.IsWhole) (arg2 : Memref sig .tc .vmem S4096x32 .bf16) (harg2 : arg2.IsWhole) (arg3 : Memref sig .tc .vmem S4096x32 .bf16) (harg3 : arg3.IsWhole) (arg4 : Memref sig .tc .vmem S4096x32 .bf16) (harg4 : arg4.IsWhole) (arg5 : Memref sig .tc .vmem S24x4 .f32) (harg5 : arg5.IsWhole) (arg6 : Memref sig .tc .vmem S1x48 .f32) (harg6 : arg6.IsWhole) (arg7 : Memref sig .tc .vmem S3x48 .f32) (harg7 : arg7.IsWhole) (arg8 : Memref sig .tc .vmem S24x128 .f32) (harg8 : arg8.IsWhole) (arg9 : Memref sig .tc .vmem S32x128 .bf16) (harg9 : arg9.IsWhole) (arg10 : Memref sig .tc .vmem S32x128 .bf16) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S24x64 .f32) (harg14 : arg14.IsWhole) (arg15 : Memref sig .tc .vmem S32x64 .bf16) (harg15 : arg15.IsWhole) (arg16 : Memref sig .tc .vmem S1x64 .f32) (harg16 : arg16.IsWhole) (arg17 : Memref sig .tc .vmem S64x64 .f32) (harg17 : arg17.IsWhole) (arg18 : Memref sig .tc .vmem S1x64 .f32) (harg18 : arg18.IsWhole) (arg19 : Memref sig .tc .vmem S64x128 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S1x128 .f32) (harg22 : arg22.IsWhole) (arg23 : Memref sig .tc .vmem S16x128 .f32) (harg23 : arg23.IsWhole) (arg24 : Memref sig .tc .vmem S48x193 .f32) (harg24 : arg24.IsWhole) (hc0 : ¬cond0_0 i) (hc1 : cond0_1 i)
    (x0 : Vec F S8x4096 .f32) (x1 : Vec F S4096x32 .bf16) (x2 : Vec F S4096x32 .bf16) (x3 : Vec F S4096x32 .bf16) (x4 : Vec F S24x4 .f32) (x5 : Vec F S1x48 .f32) (x6 : Vec F S3x48 .f32) (x7 : Vec F S24x128 .f32) (x8 : Vec F S32x128 .bf16) (x9 : Vec F S32x128 .bf16) (x10 : Vec F S1x128 .f32) (x11 : Vec F S128x128 .f32) (x12 : Vec F S1x128 .f32) (x13 : Vec F S24x64 .f32) (x14 : Vec F S32x64 .bf16) (x15 : Vec F S1x64 .f32) (x16 : Vec F S64x64 .f32) (x17 : Vec F S1x64 .f32) (x18 : Vec F S64x128 .f32) (x19 : Vec F S64x128 .f32) (x20 : Vec F S64x128 .f32) (x21 : Vec F S1x128 .f32) (xs0 : Vec F S48x193 .f32) (y : S48x193.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 x19 x20 x21 xs0).2.1, y ∈ pc.1.set :=
  View.cover_of_tiledBy (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 x19 x20 x21 xs0).2.1 ![48, 1] (by sl_kernel_rfl) y

/-- What case C leaves in scratch `arg24`: its pieces read back over junk. -/
def sout0_C_0 (c : Dev nD) (i : grid0.Coords) (arg1 : Memref sig .tc .vmem S8x4096 .f32) (harg1 : arg1.IsWhole) (arg2 : Memref sig .tc .vmem S4096x32 .bf16) (harg2 : arg2.IsWhole) (arg3 : Memref sig .tc .vmem S4096x32 .bf16) (harg3 : arg3.IsWhole) (arg4 : Memref sig .tc .vmem S4096x32 .bf16) (harg4 : arg4.IsWhole) (arg5 : Memref sig .tc .vmem S24x4 .f32) (harg5 : arg5.IsWhole) (arg6 : Memref sig .tc .vmem S1x48 .f32) (harg6 : arg6.IsWhole) (arg7 : Memref sig .tc .vmem S3x48 .f32) (harg7 : arg7.IsWhole) (arg8 : Memref sig .tc .vmem S24x128 .f32) (harg8 : arg8.IsWhole) (arg9 : Memref sig .tc .vmem S32x128 .bf16) (harg9 : arg9.IsWhole) (arg10 : Memref sig .tc .vmem S32x128 .bf16) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S24x64 .f32) (harg14 : arg14.IsWhole) (arg15 : Memref sig .tc .vmem S32x64 .bf16) (harg15 : arg15.IsWhole) (arg16 : Memref sig .tc .vmem S1x64 .f32) (harg16 : arg16.IsWhole) (arg17 : Memref sig .tc .vmem S64x64 .f32) (harg17 : arg17.IsWhole) (arg18 : Memref sig .tc .vmem S1x64 .f32) (harg18 : arg18.IsWhole) (arg19 : Memref sig .tc .vmem S64x128 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S1x128 .f32) (harg22 : arg22.IsWhole) (arg23 : Memref sig .tc .vmem S16x128 .f32) (harg23 : arg23.IsWhole) (arg24 : Memref sig .tc .vmem S48x193 .f32) (harg24 : arg24.IsWhole) (hc0 : ¬cond0_0 i) (hc1 : cond0_1 i)
    (x0 : Vec F S8x4096 .f32) (x1 : Vec F S4096x32 .bf16) (x2 : Vec F S4096x32 .bf16) (x3 : Vec F S4096x32 .bf16) (x4 : Vec F S24x4 .f32) (x5 : Vec F S1x48 .f32) (x6 : Vec F S3x48 .f32) (x7 : Vec F S24x128 .f32) (x8 : Vec F S32x128 .bf16) (x9 : Vec F S32x128 .bf16) (x10 : Vec F S1x128 .f32) (x11 : Vec F S128x128 .f32) (x12 : Vec F S1x128 .f32) (x13 : Vec F S24x64 .f32) (x14 : Vec F S32x64 .bf16) (x15 : Vec F S1x64 .f32) (x16 : Vec F S64x64 .f32) (x17 : Vec F S1x64 .f32) (x18 : Vec F S64x128 .f32) (x19 : Vec F S64x128 .f32) (x20 : Vec F S64x128 .f32) (x21 : Vec F S1x128 .f32) (xs0 : Vec F S48x193 .f32) : Vec F S48x193 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 x19 x20 x21 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S16x128 .f32 × Vec F S48x193 .f32
  | 0, hn => (out0_A_22 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩))
  | n + 1, hn =>
    if h0 : (n + 1) % 8 = 0 then
      if h1 : (n + 1) % 8 = 7 then
        False.elim (by have hN : n + 1 < 8 := lt_of_lt_of_eq hn (show cfg0.N = 8 from N_0); omega)
      else
        (out0_A_22 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩))
    else
      if h1 : (n + 1) % 8 = 7 then
        (out0_C_22 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2)
      else
        (out0_B_22 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2)

/-- `outsAt0` at a point of case A: that case's contents. -/
theorem outsAt0_A (c : Dev nD) (t : Fin cfg0.N) (h0 : t.val % 8 = 0) (h1 : ¬t.val % 8 = 7) :
    outsAt0 m c t.val t.isLt = (out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 8 = 0) (h1 : ¬t.val % 8 = 7) :
    outsAt0 m c t.val t.isLt = (out0_B_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 8 = 0) (h1 : t.val % 8 = 7) :
    outsAt0 m c t.val t.isLt = (out0_C_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => (outsAt0 m c t.val t.isLt).1
    | ⟨_ + 23, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t)

set_option maxHeartbeats 28800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  by_cases h0 : t.val % 8 = 0
  · by_cases h1 : t.val % 8 = 7
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      rw [show (dats m 0 c).leavesExact 18 t = owns (c : Thread nD τ) (ms0_18 t) fullShare ((dats m 0 c).after 18 t) from by
      unfold Dat.leavesExact; rw [liveAt0_18 t], after0_18]
      rw [show (dats m 0 c).leavesExact 19 t = owns (c : Thread nD τ) (ms0_19 t) fullShare ((dats m 0 c).after 19 t) from by
      unfold Dat.leavesExact; rw [liveAt0_19 t], after0_19]
      rw [show (dats m 0 c).leavesExact 20 t = owns (c : Thread nD τ) (ms0_20 t) fullShare ((dats m 0 c).after 20 t) from by
      unfold Dat.leavesExact; rw [liveAt0_20 t], after0_20]
      rw [show (dats m 0 c).leavesExact 21 t = owns (c : Thread nD τ) (ms0_21 t) fullShare ((dats m 0 c).after 21 t) from by
      unfold Dat.leavesExact; rw [liveAt0_21 t], after0_21]
      rw [Dat.leavesExact_idle (dats m 0 c) 22 t (idleAt0_22_A t ((hcond0_0 t).mpr h0) (fun h => h1 ((hcond0_1 t).mp h))) (noFlush0_22_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
        iapply ((kernelRun0_A c (grid0.coords t) _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexact H22
        isplitl [HS0]; · iexact HS0
        iintro ⟨H0, H1, H2, H3, H4, H5, H6, H7, H8, H9, H10, H11, H12, H13, H14, H15, H16, H17, H18, H19, H20, H21, H22, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        iexists _; iexact H22
      · exfalso; have hN : t.val < 8 := lt_of_lt_of_eq t.isLt (show cfg0.N = 8 from N_0); omega
  · by_cases h1 : t.val % 8 = 7
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      rw [show (dats m 0 c).leavesExact 18 t = owns (c : Thread nD τ) (ms0_18 t) fullShare ((dats m 0 c).after 18 t) from by
      unfold Dat.leavesExact; rw [liveAt0_18 t], after0_18]
      rw [show (dats m 0 c).leavesExact 19 t = owns (c : Thread nD τ) (ms0_19 t) fullShare ((dats m 0 c).after 19 t) from by
      unfold Dat.leavesExact; rw [liveAt0_19 t], after0_19]
      rw [show (dats m 0 c).leavesExact 20 t = owns (c : Thread nD τ) (ms0_20 t) fullShare ((dats m 0 c).after 20 t) from by
      unfold Dat.leavesExact; rw [liveAt0_20 t], after0_20]
      rw [show (dats m 0 c).leavesExact 21 t = owns (c : Thread nD τ) (ms0_21 t) fullShare ((dats m 0 c).after 21 t) from by
      unfold Dat.leavesExact; rw [liveAt0_21 t], after0_21]
      rw [show (dats m 0 c).leavesExact 22 t = owns (c : Thread nD τ) (ms0_22 t) fullShare ((dats m 0 c).after 22 t) from by
      unfold Dat.leavesExact; rw [liveAt0_22_C t (fun h => h0 ((hcond0_0 t).mp h)) ((hcond0_1 t).mpr h1)], after0_22]
      by_cases hz : t.val = 0
      · exfalso; have hN : t.val < 8 := lt_of_lt_of_eq t.isLt (show cfg0.N = 8 from N_0); omega
      · rw [PhiS_castSucc m c t, PhiS_pos m c _ _ hz]
        rw [outsAt0_C m c t h0 h1]
        unfold out0_C_22 sout0_C_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
        iapply ((kernelRun0_C c (grid0.coords t) _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexists _; iexact H22
        isplitl [HS0]; · iexact HS0
        iintro ⟨H0, H1, H2, H3, H4, H5, H6, H7, H8, H9, H10, H11, H12, H13, H14, H15, H16, H17, H18, H19, H20, H21, ⟨%e22, H22⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        unfold owns; iexists _; isplitr
        swap; · iexact H22
        ipureintro; exact View.read_writes_of_cover _ _ _ _ _ (cover0_C_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      rw [show (dats m 0 c).leavesExact 18 t = owns (c : Thread nD τ) (ms0_18 t) fullShare ((dats m 0 c).after 18 t) from by
      unfold Dat.leavesExact; rw [liveAt0_18 t], after0_18]
      rw [show (dats m 0 c).leavesExact 19 t = owns (c : Thread nD τ) (ms0_19 t) fullShare ((dats m 0 c).after 19 t) from by
      unfold Dat.leavesExact; rw [liveAt0_19 t], after0_19]
      rw [show (dats m 0 c).leavesExact 20 t = owns (c : Thread nD τ) (ms0_20 t) fullShare ((dats m 0 c).after 20 t) from by
      unfold Dat.leavesExact; rw [liveAt0_20 t], after0_20]
      rw [show (dats m 0 c).leavesExact 21 t = owns (c : Thread nD τ) (ms0_21 t) fullShare ((dats m 0 c).after 21 t) from by
      unfold Dat.leavesExact; rw [liveAt0_21 t], after0_21]
      rw [Dat.leavesExact_idle (dats m 0 c) 22 t (idleAt0_22_B t (fun h => h0 ((hcond0_0 t).mp h)) (fun h => h1 ((hcond0_1 t).mp h))) (noFlush0_22_B t (fun h => h0 ((hcond0_0 t).mp h)) (fun h => h1 ((hcond0_1 t).mp h)))]
      by_cases hz : t.val = 0
      · exfalso; have hN : t.val < 8 := lt_of_lt_of_eq t.isLt (show cfg0.N = 8 from N_0); omega
      · rw [PhiS_castSucc m c t, PhiS_pos m c _ _ hz]
        rw [outsAt0_B m c t h0 h1]
        unfold sout0_B_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
        iapply ((kernelRun0_B c (grid0.coords t) _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexact H22
        isplitl [HS0]; · iexact HS0
        iintro ⟨H0, H1, H2, H3, H4, H5, H6, H7, H8, H9, H10, H11, H12, H13, H14, H15, H16, H17, H18, H19, H20, H21, H22, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        iexists _; iexact H22

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 8 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24))
      ∧ r.2.sem = fun _ => 0) :=
  θ_run_and (unchanged m ρ) ((θ_run defs _ _).mono (fun _ h => h.2) (run_main_quiescent m ρ))

end Cert.KernelIdeal.Gen

end
-- ==== Proof.KernelIdeal.Value.lean ====
/- The run of the kernel over the reals, with the result after it named as the final array of the output window. Taken over from
   the generated module `Gen/KernelIdeal/Value.lean`. -/
module

public import proofs.«01_k».proof.Proof.KernelIdeal.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v85) = (dats m 0 c).arrAt 22 cfg0.N :=
  (h c).1 22

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the frame run, argument `main_arg15` is as launched: no window stages it, and the run leaves the region's other buffers as they were. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- After the frame run, argument `main_arg16` is as launched: no window stages it, and the run leaves the region's other buffers as they were. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

/-- After the frame run, argument `main_arg17` is as launched: no window stages it, and the run leaves the region's other buffers as they were. -/
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)

/-- After the frame run, argument `main_arg18` is as launched: no window stages it, and the run leaves the region's other buffers as they were. -/
theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).2 main_arg18 (Pipeline.mem_restRefs_of main_arg18 (by decide) (by decide))).trans (V_main_arg18 m c)

/-- After the frame run, argument `main_arg19` is as launched: no window stages it, and the run leaves the region's other buffers as they were. -/
theorem kept_main_arg19 (r : PUnit × MemSt nD τ sig (Elt F)) (h : Pipeline.FramePost cfgs (dats m) 0 (V m) r) (c : Dev nD) :
    r.2.mem ((c : Thread nD τ).loc main_arg19) = m ((c : Thread nD τ).loc main_arg19) :=
  ((h c).2 main_arg19 (Pipeline.mem_restRefs_of main_arg19 (by decide) (by decide))).trans (V_main_arg19 m c)

/-- After the frame run, argument `main_arg20` is as launched: no window stages it, and the run leaves the region's other buffers as they were. -/
theorem kept_main_arg20 (r : PUnit × MemSt nD τ sig (Elt F)) (h : Pipeline.FramePost cfgs (dats m) 0 (V m) r) (c : Dev nD) :
    r.2.mem ((c : Thread nD τ).loc main_arg20) = m ((c : Thread nD τ).loc main_arg20) :=
  ((h c).2 main_arg20 (Pipeline.mem_restRefs_of main_arg20 (by decide) (by decide))).trans (V_main_arg20 m c)

/-- After the frame run, argument `main_arg21` is as launched: no window stages it, and the run leaves the region's other buffers as they were. -/
theorem kept_main_arg21 (r : PUnit × MemSt nD τ sig (Elt F)) (h : Pipeline.FramePost cfgs (dats m) 0 (V m) r) (c : Dev nD) :
    r.2.mem ((c : Thread nD τ).loc main_arg21) = m ((c : Thread nD τ).loc main_arg21) :=
  ((h c).2 main_arg21 (Pipeline.mem_restRefs_of main_arg21 (by decide) (by decide))).trans (V_main_arg21 m c)

/-- After the frame run, argument `main_arg22` is as launched: no window stages it, and the run leaves the region's other buffers as they were. -/
theorem kept_main_arg22 (r : PUnit × MemSt nD τ sig (Elt F)) (h : Pipeline.FramePost cfgs (dats m) 0 (V m) r) (c : Dev nD) :
    r.2.mem ((c : Thread nD τ).loc main_arg22) = m ((c : Thread nD τ).loc main_arg22) :=
  ((h c).2 main_arg22 (Pipeline.mem_restRefs_of main_arg22 (by decide) (by decide))).trans (V_main_arg22 m c)

/-- After the frame run, argument `main_arg23` is as launched: no window stages it, and the run leaves the region's other buffers as they were. -/
theorem kept_main_arg23 (r : PUnit × MemSt nD τ sig (Elt F)) (h : Pipeline.FramePost cfgs (dats m) 0 (V m) r) (c : Dev nD) :
    r.2.mem ((c : Thread nD τ).loc main_arg23) = m ((c : Thread nD τ).loc main_arg23) :=
  ((h c).2 main_arg23 (Pipeline.mem_restRefs_of main_arg23 (by decide) (by decide))).trans (V_main_arg23 m c)

/-- After the frame run, argument `main_arg24` is as launched: no window stages it, and the run leaves the region's other buffers as they were. -/
theorem kept_main_arg24 (r : PUnit × MemSt nD τ sig (Elt F)) (h : Pipeline.FramePost cfgs (dats m) 0 (V m) r) (c : Dev nD) :
    r.2.mem ((c : Thread nD τ).loc main_arg24) = m ((c : Thread nD τ).loc main_arg24) :=
  ((h c).2 main_arg24 (Pipeline.mem_restRefs_of main_arg24 (by decide) (by decide))).trans (V_main_arg24 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v85) = (dats m 0 c).arrAt 22 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24) :=
  (θ_run defs _ _).mono (fun r h c => ⟨post22 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c,
      kept_main_arg21 m r h c,
      kept_main_arg22 m r h c,
      kept_main_arg23 m r h c,
      kept_main_arg24 m r h c⟩)
    (run_main m ρ)

end Cert.KernelIdeal.Value

end
-- ==== Proof.PolynomialValue.lean ====
/-
  What the kernel with the polynomial leaves in its result: the accumulator point by point, and the result from it. The two
  kernels read the same operands.
-/
module

public import proofs.«01_k».proof.Proof.Accumulated
public import proofs.«01_k».proof.Proof.Pieces
public import proofs.«01_k».proof.Proof.PolynomialBlock
public import proofs.«01_k».proof.Proof.SinePrepared
public import proofs.«01_k».proof.Proof.KernelIdeal.Value

@[expose] public section

set_option maxRecDepth 16384

noncomputable section

namespace Cert.DeepSet.Polynomial

open Idealize.ShloMosaic Idealize.ShloMosaic.TcCoe Idealize.SL.Sem
open Cert.KernelIdeal Cert.KernelIdeal.Gen Cert.DeepSet
open Cert.DeepSet.Sine (shared branchF branchR branchM)

variable (m : (ℓ : Loc nD τ sig) → Buf (Elt Ideal) ℓ) (c : Dev nD)

/-- A grid point's operands, from the blocks its windows hold. -/
def operandsOf (f : (w : Fin cfg0.W) → (t : Fin cfg0.N) → ((cfg0.win w).xblock (cfg0.grid.coords t)).Idx → Elt Ideal (cfg0.win w).elt)
    (t : Fin cfg0.N) : Operands :=
  Operands.ofBlocks (f 0 t) (f 1 t) (f 2 t) (f 3 t) (f 4 t) (f 5 t) (f 6 t) (f 7 t) (f 8 t) (f 9 t) (f 10 t) (f 11 t) (f 12 t)
    (f 13 t) (f 14 t) (f 15 t) (f 16 t) (f 17 t) (f 18 t) (f 19 t) (f 20 t) (f 21 t)

/-- The operands of grid point `t`. -/
def operands (t : Fin cfg0.N) : Operands := operandsOf (iblk m c) t

set_option maxHeartbeats 1000000 in
/-- The windows' blocks are those of the kernel with the sine: the host prepares the same arrays. -/
theorem blocks_same : iblk (F := Ideal) m c = Cert.KernelSineIdeal.Gen.iblk (F := Ideal) m c := by exact rfl

/-- So are the operands. -/
theorem operands_same (t : Fin cfg0.N) : operands m c t = Sine.operands m c t := by
  refine (congrArg (operandsOf · t) (blocks_same m c)).trans ?_
  rfl

/-- They are what the host prepares. -/
theorem prepared (t : Fin cfg0.N) : (operands m c t).Prepared (shared m c) (branchF m c) (branchR m c) (branchM m c) t := by
  rw [operands_same]
  exact Sine.prepared m c t

/-- The accumulator is first filled with zeros. -/
theorem zero_at {i : Fin 48} {j : Fin 193} : (k0_pay3 (F := Ideal) (ix2 i j) : EReal) = 0 := by pointwise [k0_pay3]

/-- The first point leaves its block's part in the accumulator. -/
theorem accumulator_first (t : Fin cfg0.N) (h0 : t.val % 8 = 0) (h1 : ¬t.val % 8 = 7) (r : Fin 48) (k : Fin 193) :
    ((outsAt0 m c t.val t.isLt).2 (ix2 r k) : EReal) = (operands m c t).part approximateSine r k := by
  rw [outsAt0_A m c t h0 h1]
  frame_out
  obtain ⟨j, rfl⟩ | ⟨j, rfl⟩ | rfl := column_cases k
  · refine (newest_misses 1 (.inl (show j.val < 192 by omega))).trans ((newest_misses 1 (.inl (show j.val < 128 by omega))).trans
      ((newest_holds (ix2 r j) (by intro a; fin_cases a <;> first | rfl | exact (Nat.zero_add _).symm)).trans ?_))
    refine (stepFR_at (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t) (iblk m c 14 t)
        (iblk m c 15 t) (iblk m c 16 t) (iblk m c 17 t) (iblk m c 18 t) (iblk m c 19 t) (iblk m c 20 t) (iblk m c 21 t) _ r j).trans ?_
    rw [part_FR]
    rw [View.readCov_eq_canon']
    refine (congrArg₂ (· + ·) ((congrArg (View.canon _) (unit_place (ix2 r ⟨j.val, by omega⟩) (by intro a; fin_cases a <;> first | rfl | exact (Nat.zero_add _).symm))).trans
      (((newest_holds (ix2 r ⟨j.val, by omega⟩) (by intro a; fin_cases a <;> first | rfl | exact (Nat.zero_add _).symm))).trans zero_at)) rfl).trans (zero_add _)
  · refine (newest_misses 1 (.inl (show 128 + j.val < 192 by omega))).trans
      ((newest_holds (ix2 r j) (by intro a; fin_cases a <;> first | rfl | exact (Nat.zero_add _).symm)).trans ?_)
    refine (stepM_at (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t) (iblk m c 14 t)
        (iblk m c 15 t) (iblk m c 16 t) (iblk m c 17 t) (iblk m c 18 t) (iblk m c 19 t) (iblk m c 20 t) (iblk m c 21 t) _ r j).trans ?_
    rw [part_M]
    rw [View.readCov_eq_canon']
    refine (congrArg₂ (· + ·) ((congrArg (View.canon _) (unit_place (ix2 r ⟨128 + j.val, by omega⟩) (by intro a; fin_cases a <;> first | rfl | exact (Nat.zero_add _).symm))).trans
      (((newest_misses 1 (.inr (show 128 ≤ 128 + j.val by omega))).trans (newest_holds (ix2 r ⟨128 + j.val, by omega⟩) (by intro a; fin_cases a <;> first | rfl | exact (Nat.zero_add _).symm))).trans zero_at)) rfl).trans (zero_add _)
  · refine (newest_holds (ix2 r 0) (by intro a; fin_cases a <;> first | rfl | exact (Nat.zero_add _).symm)).trans ?_
    refine (stepC_at (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t) (iblk m c 14 t)
        (iblk m c 15 t) (iblk m c 16 t) (iblk m c 17 t) (iblk m c 18 t) (iblk m c 19 t) (iblk m c 20 t) (iblk m c 21 t) _ r 0).trans ?_
    rw [part_C]
    rw [View.readCov_eq_canon']
    refine (congrArg₂ (· + ·) ((congrArg (View.canon _) (unit_place (ix2 r 192) (by intro a; fin_cases a <;> first | rfl | exact (Nat.zero_add _).symm))).trans
      (((newest_misses 1 (.inr (show 128 + 64 ≤ 192 by omega))).trans ((newest_misses 1 (.inr (show 0 + 128 ≤ 192 by omega))).trans (newest_holds (ix2 r 192) (by intro a; fin_cases a <;> first | rfl | exact (Nat.zero_add _).symm)))).trans zero_at)) rfl).trans (zero_add _)

/-- Every other point adds its block's part to the accumulator. -/
theorem accumulator_next (t : Fin cfg0.N) (h0 : ¬t.val % 8 = 0) (r : Fin 48) (k : Fin 193) :
    ((outsAt0 m c t.val t.isLt).2 (ix2 r k) : EReal)
      = (outsAt0 m c (t.val - 1) (lt_of_le_of_lt (Nat.sub_le _ _) t.isLt)).2 (ix2 r k) + (operands m c t).part approximateSine r k := by
  by_cases h1 : t.val % 8 = 7
  on_goal 1 => rw [outsAt0_C m c t h0 h1]
  on_goal 2 => rw [outsAt0_B m c t h0 h1]
  all_goals frame_out
  all_goals
    obtain ⟨j, rfl⟩ | ⟨j, rfl⟩ | rfl := column_cases k
    · refine (newest_misses 1 (.inl (show j.val < 192 by omega))).trans ((newest_misses 1 (.inl (show j.val < 128 by omega))).trans
        ((newest_holds (ix2 r j) (by intro a; fin_cases a <;> first | rfl | exact (Nat.zero_add _).symm)).trans ?_))
      refine (stepFR_at (iblk m c 0 t) (iblk m c 1 t) (iblk m c 2 t) (iblk m c 3 t) (iblk m c 4 t) (iblk m c 5 t) (iblk m c 6 t)
          (iblk m c 7 t) (iblk m c 8 t) (iblk m c 9 t) (iblk m c 10 t) (iblk m c 11 t) (iblk m c 12 t) (iblk m c 13 t) (iblk m c 14 t)
          (iblk m c 15 t) (iblk m c 16 t) (iblk m c 17 t) (iblk m c 18 t) (iblk m c 19 t) (iblk m c 20 t) (iblk m c 21 t) _ r j).trans ?_
      rw [part_FR]
      refine congrArg₂ (· + ·) ?_ rfl
      rw [View.ld_unit_apply_of _ _ _ _ _ (ix2 r ⟨j.val, by omega⟩) (by intro a; fin_cases a <;> first | rfl | exact (Nat.zero_add _).symm)]
      exact congrFun (Memref.IsWhole.read_unread _ _) _
    · refine (newest_misses 1 (.inl (show 128 + j.val < 192 by omega))).trans
        ((newest_holds (ix2 r j) (by intro a; fin_cases a <;> first | rfl | exact (Nat.zero_add _).symm)).trans ?_)
      refine (stepM_at (iblk m c 0 t) (iblk m c 1 t) (iblk m c 2 t) (iblk m c 3 t) (iblk m c 4 t) (iblk m c 5 t) (iblk m c 6 t)
          (iblk m c 7 t) (iblk m c 8 t) (iblk m c 9 t) (iblk m c 10 t) (iblk m c 11 t) (iblk m c 12 t) (iblk m c 13 t) (iblk m c 14 t)
          (iblk m c 15 t) (iblk m c 16 t) (iblk m c 17 t) (iblk m c 18 t) (iblk m c 19 t) (iblk m c 20 t) (iblk m c 21 t) _ r j).trans ?_
      rw [part_M]
      refine congrArg₂ (· + ·) ?_ rfl
      rw [View.ld_unit_apply_of _ _ _ _ _ (ix2 r ⟨128 + j.val, by omega⟩) (by intro a; fin_cases a <;> first | rfl | exact (Nat.zero_add _).symm)]
      exact congrFun (Memref.IsWhole.read_unread _ _) _
    · refine (newest_holds (ix2 r 0) (by intro a; fin_cases a <;> first | rfl | exact (Nat.zero_add _).symm)).trans ?_
      refine (stepC_at (iblk m c 0 t) (iblk m c 1 t) (iblk m c 2 t) (iblk m c 3 t) (iblk m c 4 t) (iblk m c 5 t) (iblk m c 6 t)
          (iblk m c 7 t) (iblk m c 8 t) (iblk m c 9 t) (iblk m c 10 t) (iblk m c 11 t) (iblk m c 12 t) (iblk m c 13 t) (iblk m c 14 t)
          (iblk m c 15 t) (iblk m c 16 t) (iblk m c 17 t) (iblk m c 18 t) (iblk m c 19 t) (iblk m c 20 t) (iblk m c 21 t) _ r 0).trans ?_
      rw [part_C]
      refine congrArg₂ (· + ·) ?_ rfl
      rw [View.ld_unit_apply_of _ _ _ _ _ (ix2 r 192) (by intro a; fin_cases a <;> first | rfl | exact (Nat.zero_add _).symm)]
      exact congrFun (Memref.IsWhole.read_unread _ _) _

/-- The accumulator after the last point. -/
theorem accumulator_last (r : Fin 48) (k : Fin 193) :
    ((outsAt0 m c t0_7.val t0_7.isLt).2 (ix2 r k) : EReal) = accumulated approximateSine (operands m c) r k := by
  refine (Pipeline.eq_sum_fin_of_reset_step_apply_last (fun n h (_ : Unit) => ((outsAt0 m c n h).2 (ix2 r k) : EReal)) 8
    (fun _ => 0) (fun t _ => (operands m c t).part approximateSine r k) ?_ ?_ (le_of_eq N_0) t0_7 rfl ()).trans ?_
  · intro t h0 i
    exact (accumulator_first m c t h0 (by omega) r k).trans (zero_add _).symm
  · intro t h0 i
    exact accumulator_next m c t h0 r k
  · exact zero_add _

/-- The last point leaves the result in the output's block. -/
theorem output_last (r : Fin 16) (k : Fin 128) :
    ((outsAt0 m c t0_7.val t0_7.isLt).1 (ix2 r k) : EReal)
      = result approximateSine (shared m c) (branchF m c) (branchR m c) (branchM m c) r k := by
  have last := accumulator_last m c
  rw [outsAt0_C m c t0_7 (by decide) (by decide)] at last ⊢
  frame_out at last
  frame_out
  rw [View.readCov_eq_canon']
  refine (finishBlock_at (iblk m c 0 t0_7) (iblk m c 1 t0_7) (iblk m c 2 t0_7) (iblk m c 3 t0_7) (iblk m c 4 t0_7) (iblk m c 5 t0_7) (iblk m c 6 t0_7)
        (iblk m c 7 t0_7) (iblk m c 8 t0_7) (iblk m c 9 t0_7) (iblk m c 10 t0_7) (iblk m c 11 t0_7) (iblk m c 12 t0_7) (iblk m c 13 t0_7) (iblk m c 14 t0_7)
        (iblk m c 15 t0_7) (iblk m c 16 t0_7) (iblk m c 17 t0_7) (iblk m c 18 t0_7) (iblk m c 19 t0_7) (iblk m c 20 t0_7) (iblk m c 21 t0_7) _ r k).trans ?_
  refine Eq.trans ?_ (finish_accumulated (prepared m c) t0_7 r k)
  refine congrArg (fun A => (operands m c t0_7).finish A r k) (funext fun a => funext fun b => ?_)
  exact (congrArg (View.canon _) (unit_place (ix2 a b) (by intro a; fin_cases a <;> first | rfl | exact (Nat.zero_add _).symm))).trans (last a b)

/-- The output array once the kernel is done. -/
theorem output_at (r : Fin 16) (k : Fin 128) :
    ((dats m 0 c).arrAt 22 cfg0.N (ix2 r k) : EReal)
      = result approximateSine (shared m c) (branchF m c) (branchR m c) (branchM m c) r k := by
  have h : (dats m 0 c).arrAt 22 cfg0.N = fun j : Shape.Idx S16x128 =>
      result approximateSine (shared m c) (branchF m c) (branchR m c) (branchM m c) (j 0) (j 1) := by
    refine (dats m 0 c).arrAt_eq_of_after_last 22 t0_7 (by decide +kernel) _ fun j => ?_
    idx_vars j
    blk_simp
    rw [after0_22]
    exact output_last m c j0 j1
  rw [h]
  rfl

end Cert.DeepSet.Polynomial

end
-- ==== Proof.ApproximateReference.lean ====
/-
  The reference with the approximation of the sine: its run leaves the host's result with that approximation.
-/
module

public import proofs.«01_k».proof.Proof.ApproximateSine
public import proofs.«01_k».proof.Proof.HostResult
public import proofs.«01_k».proof.Proof.Gen.ReferenceApproxIdeal.Run

@[expose] public section

set_option maxRecDepth 16384

noncomputable section

namespace Cert.DeepSet.Polynomial

open Idealize.ShloMosaic Idealize.ShloMosaic.TcCoe Idealize.ShloMosaic.StableHlo Idealize.SL.Sem
open Cert.ReferenceApproxIdeal Cert.ReferenceApproxIdeal.Facts₀ Cert.ReferenceApproxIdeal.Facts Cert.ReferenceApproxIdeal.Value

/-- A word in every entry. -/
def every (w : BitVec 32) : FVec Ideal S32768x7 .f32 := broadcastInDim S32768x7 ![] bcast_S_S32768x7 (constant S_ .f32 w)

/-- The half turns on the host. -/
def hostHalfTurns (x : FVec Ideal S32768x7 .f32) : FVec Ideal S32768x7 .f32 := Host.roundeven (mulf x (every 0x3EA2F983#32))

/-- What remains on the host. -/
def hostRemainder (x : FVec Ideal S32768x7 .f32) : FVec Ideal S32768x7 .f32 :=
  subf (subf x (mulf (hostHalfTurns x) (every 0x40490FDB#32))) (mulf (hostHalfTurns x) (every 0xB3BBBD2E#32))

/-- The polynomial on the host. -/
def hostOddPolynomial (y : FVec Ideal S32768x7 .f32) : FVec Ideal S32768x7 .f32 :=
  mulf y (addf (every 0x3F800000#32) (mulf (mulf y y) (addf (every 0xBE2AAAAB#32) (mulf (mulf y y) (addf (every 0x3C088889#32)
    (mulf (mulf y y) (addf (every 0xB9500D01#32) (mulf (mulf y y) (every 0x3638EF1D#32)))))))))

/-- The approximate sine on the host. -/
def hostApproximateSine (x : FVec Ideal S32768x7 .f32) : FVec Ideal S32768x7 .f32 :=
  select (cmpi .eq (andi (fptosi 32 (hostHalfTurns x)) (broadcastInDim S32768x7 ![] bcast_S_S32768x7 (constantI S_ 32 1#32)))
    (broadcastInDim S32768x7 ![] bcast_S_S32768x7 (constantI S_ 32 1#32)))
    (Host.negf (hostOddPolynomial (hostRemainder x))) (hostOddPolynomial (hostRemainder x))

theorem hostHalfTurns_at (x : FVec Ideal S32768x7 .f32) (n : Fin 32768) (k : Fin 7) :
    (hostHalfTurns x (ix2 n k) : EReal) = halfTurns (x (ix2 n k)) := by
  unfold halfTurns
  pointwise [hostHalfTurns, every]

theorem hostRemainder_at (x : FVec Ideal S32768x7 .f32) (n : Fin 32768) (k : Fin 7) :
    (hostRemainder x (ix2 n k) : EReal) = remainder (x (ix2 n k)) := by
  unfold remainder
  rw [← hostHalfTurns_at]
  pointwise [hostRemainder, every]

theorem hostOddPolynomial_at (y : FVec Ideal S32768x7 .f32) (n : Fin 32768) (k : Fin 7) :
    (hostOddPolynomial y (ix2 n k) : EReal) = oddPolynomial (y (ix2 n k)) := by
  unfold oddPolynomial
  pointwise [hostOddPolynomial, every]

/-- The approximate sine on the host, entry by entry. -/
theorem hostApproximateSine_at (x : FVec Ideal S32768x7 .f32) (n : Fin 32768) (k : Fin 7) :
    (hostApproximateSine x (ix2 n k) : EReal) = approximateSine (x (ix2 n k)) := by
  unfold approximateSine
  rw [← hostRemainder_at, ← hostOddPolynomial_at, ← hostHalfTurns_at, ← select_odd]
  rfl

/-- The run's term, unfolded. -/
theorem reference_term (m : (ℓ : Loc nD τ sig) → Buf (Elt Ideal) ℓ) (c : Dev nD) :
    select (cmpf .oge (res_main_v215 (launchContents m c)) (broadcastInDim S16x128 ![] bcast_S_S16x128 (constant S_ .f32 0x00000000#32))) (res_main_v215 (launchContents m c)) (mulf (res_main_v215 (launchContents m c)) (broadcastInDim S16x128 ![] bcast_S_S16x128 (constant S_ .f32 0x3E6AAAAB#32)))
      = hostResult hostApproximateSine (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10))
        (m ((c.tc : Thread nD τ).loc main_arg11)) (m ((c.tc : Thread nD τ).loc main_arg12)) (m ((c.tc : Thread nD τ).loc main_arg13)) (m ((c.tc : Thread nD τ).loc main_arg14))
        (m ((c.tc : Thread nD τ).loc main_arg15)) (m ((c.tc : Thread nD τ).loc main_arg16)) (m ((c.tc : Thread nD τ).loc main_arg17)) (m ((c.tc : Thread nD τ).loc main_arg18))
        (m ((c.tc : Thread nD τ).loc main_arg19)) (m ((c.tc : Thread nD τ).loc main_arg20)) (m ((c.tc : Thread nD τ).loc main_arg21)) (m ((c.tc : Thread nD τ).loc main_arg22))
        (m ((c.tc : Thread nD τ).loc main_arg23)) (m ((c.tc : Thread nD τ).loc main_arg24)) := rfl

end Cert.DeepSet.Polynomial

end
-- ==== Proof.PolynomialClaims.lean ====
/-
  The claims about the kernel as it is, with the polynomial for the sine: it runs and leaves its arguments, as printed
  and over the reals, and over the reals its result is that of the reference with the same approximation of the sine.
-/
module

public import proofs.«01_k».proof.Defs
public import proofs.«01_k».proof.Proof.PolynomialValue
public import proofs.«01_k».proof.Proof.ApproximateReference
public import proofs.«01_k».proof.Proof.Gen.Kernel
public import proofs.«01_k».proof.Proof.Gen.Kernel.Launch
public import proofs.«01_k».proof.Proof.Gen.ReferenceApproxIdeal.Run
public import Idealize.ShloMosaic.Adequacy
public import Idealize.ShloMosaic.Init
public import Idealize.ShloMosaic.Lib.Quiescent
public import Idealize.ShloMosaic.Lib.Tactic

@[expose] public section

set_option maxRecDepth 16384

noncomputable section

namespace Cert.DeepSet.Polynomial

open Idealize.ShloMosaic Idealize.ShloMosaic.TcCoe Idealize.SL.Sem Cert.DeepSet

set_option maxHeartbeats 4000000 in
/-- The printed kernel and the one over the reals are one program before a meaning is given to their floats. -/
theorem main_same : Cert.Kernel.main (F := Bits) = Cert.KernelIdeal.main (F := Bits) := by sl_kernel_rfl

set_option maxHeartbeats 4000000 in
/-- So are their regions. -/
theorem defs_same : Cert.Kernel.defs (F := Bits) = Cert.KernelIdeal.defs (F := Bits) := by sl_kernel_rfl

set_option maxHeartbeats 1000000 in
/-- The kernel as printed runs and leaves its arguments. -/
theorem quiescent : quiescent_Kernel := by
  unfold quiescent_Kernel
  rw [main_same, defs_same]
  exact fun m ρ _ => Cert.KernelIdeal.Gen.frame (F := Bits) m ρ

/-- The reference runs and leaves its arguments. -/
theorem quiescent_reference : quiescent_ReferenceApproxIdeal := fun m ρ _ =>
  (θ_run Cert.ReferenceApproxIdeal.defs _ _).mono (fun r h => ⟨fun c => (h c).2, sem_eq_zero_of_no_sems (by decide) r.2⟩)
    (Cert.ReferenceApproxIdeal.Value.run (F := Ideal) m ρ)

/-- The kernel's result is the reference's with the same approximation of the sine. -/
theorem algebraic : algebraic_KernelIdeal_ReferenceApproxIdeal := by
  intro m ρ m' ρ' _ hagree
  refine ⟨_, Cert.KernelIdeal.Value.run_blocks (F := Ideal) m ρ, ?_⟩
  refine (θ_run Cert.ReferenceApproxIdeal.defs _ _).mono (fun _ h c => ⟨?_, (h c).2⟩) (Cert.ReferenceApproxIdeal.Value.run (F := Ideal) m' ρ')
  rw [(h c).1, reference_term]
  funext i
  idx_vars i
  refine (hostResult_at _ approximateSine hostApproximateSine_at _ _ _ _ _ _ _ _ _ _ _ _ _ _ _ _ _ _ _ _ _ _ _ _ _ i0 i1).trans ?_
  simp only [hagree c]
  exact (output_at m c i0 i1).symm

end Cert.DeepSet.Polynomial

end
-- ==== Proof.KernelSineIdeal.RunA.lean ====
/- The run of the body of the kernel with the sine written as such, over the reals at the first grid point: taken over from the generated module
   `Gen/KernelSineIdeal/Frame/RunA.lean` with a larger budget for the elaborator. -/
module

public import proofs.«01_k».proof.Proof.Gen.KernelSineIdeal.Frame.Runs

@[expose] public section

-- membership in a rectangle of production extents (`View.cover_of_tiled`): the elaborator's structural look
-- recurses once per coordinate of the long axes
set_option maxRecDepth 16384

noncomputable section

namespace Cert.KernelSineIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 8000000 in
/-- What the body's stores leave in each output's staging memref, as pieces (last first) IN CASE A (`scf.if` 0 taken, `scf.if` 1 not taken: points 0), WITH the
    proof that on whole staging memrefs — the inputs' at their contents, the outputs it leaves idle (22: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S8x4096 .f32) (harg1 : arg1.IsWhole) (arg2 : Memref sig .tc .vmem S4096x32 .bf16) (harg2 : arg2.IsWhole) (arg3 : Memref sig .tc .vmem S4096x32 .bf16) (harg3 : arg3.IsWhole) (arg4 : Memref sig .tc .vmem S4096x32 .bf16) (harg4 : arg4.IsWhole) (arg5 : Memref sig .tc .vmem S24x4 .f32) (harg5 : arg5.IsWhole) (arg6 : Memref sig .tc .vmem S1x48 .f32) (harg6 : arg6.IsWhole) (arg7 : Memref sig .tc .vmem S3x48 .f32) (harg7 : arg7.IsWhole) (arg8 : Memref sig .tc .vmem S24x128 .f32) (harg8 : arg8.IsWhole) (arg9 : Memref sig .tc .vmem S32x128 .bf16) (harg9 : arg9.IsWhole) (arg10 : Memref sig .tc .vmem S32x128 .bf16) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S24x64 .f32) (harg14 : arg14.IsWhole) (arg15 : Memref sig .tc .vmem S32x64 .bf16) (harg15 : arg15.IsWhole) (arg16 : Memref sig .tc .vmem S1x64 .f32) (harg16 : arg16.IsWhole) (arg17 : Memref sig .tc .vmem S64x64 .f32) (harg17 : arg17.IsWhole) (arg18 : Memref sig .tc .vmem S1x64 .f32) (harg18 : arg18.IsWhole) (arg19 : Memref sig .tc .vmem S64x128 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S1x128 .f32) (harg22 : arg22.IsWhole) (arg23 : Memref sig .tc .vmem S16x128 .f32) (harg23 : arg23.IsWhole) (arg24 : Memref sig .tc .vmem S48x193 .f32) (harg24 : arg24.IsWhole) (hc0 : cond0_0 i) (hc1 : ¬cond0_1 i)
    (x0 : Vec F S8x4096 .f32) (x1 : Vec F S4096x32 .bf16) (x2 : Vec F S4096x32 .bf16) (x3 : Vec F S4096x32 .bf16) (x4 : Vec F S24x4 .f32) (x5 : Vec F S1x48 .f32) (x6 : Vec F S3x48 .f32) (x7 : Vec F S24x128 .f32) (x8 : Vec F S32x128 .bf16) (x9 : Vec F S32x128 .bf16) (x10 : Vec F S1x128 .f32) (x11 : Vec F S128x128 .f32) (x12 : Vec F S1x128 .f32) (x13 : Vec F S24x64 .f32) (x14 : Vec F S32x64 .bf16) (x15 : Vec F S1x64 .f32) (x16 : Vec F S64x64 .f32) (x17 : Vec F S1x64 .f32) (x18 : Vec F S64x128 .f32) (x19 : Vec F S64x128 .f32) (x20 : Vec F S64x128 .f32) (x21 : Vec F S1x128 .f32) :
    Σ' (L22 : List (View.Piece (Elt F) S16x128 .f32)), { LS0 : List (View.Piece (Elt F) S48x193 .f32) //
      ∀ (xi22 : Vec F S16x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare xi22 ∗ (∃ d, owns (c : Thread nD τ) arg24 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare xi22 ∗ (∃ f, arg24.view.loc (c : Thread nD τ) ↦[arg24.view.set]{fullShare} arg24.view.writes (Elt F) f LS0)) -∗ K ⟨⟩))
          ⊢ wp frame (wpE (defs₀ (F := F)) Variants.none c none) E (cc0__aggr_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨[], ?_, fun xi22 E K => ?run⟩
  case run =>
    simp only [cc0__aggr_kernel_eq_skeleton]; unfold cc0__aggr_kernel_skel
    simp only [k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    iexists _; iexact HS0

end Cert.KernelSineIdeal.Gen

end
-- ==== Proof.KernelSineIdeal.RunB.lean ====
/- The run of the body of the kernel with the sine written as such, over the reals at the grid points between the first and the last: taken over from the generated module
   `Gen/KernelSineIdeal/Frame/RunB.lean` with a larger budget for the elaborator. -/
module

public import proofs.«01_k».proof.Proof.Gen.KernelSineIdeal.Frame.Runs

@[expose] public section

-- membership in a rectangle of production extents (`View.cover_of_tiled`): the elaborator's structural look
-- recurses once per coordinate of the long axes
set_option maxRecDepth 16384

noncomputable section

namespace Cert.KernelSineIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 8000000 in
/-- What the body's stores leave in each output's staging memref, as pieces (last first) IN CASE B (`scf.if` 0 not taken, `scf.if` 1 not taken: points 1, 2, 3, 4, 5, 6), WITH the
    proof that on whole staging memrefs — the inputs' at their contents, the outputs it leaves idle (22: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S8x4096 .f32) (harg1 : arg1.IsWhole) (arg2 : Memref sig .tc .vmem S4096x32 .bf16) (harg2 : arg2.IsWhole) (arg3 : Memref sig .tc .vmem S4096x32 .bf16) (harg3 : arg3.IsWhole) (arg4 : Memref sig .tc .vmem S4096x32 .bf16) (harg4 : arg4.IsWhole) (arg5 : Memref sig .tc .vmem S24x4 .f32) (harg5 : arg5.IsWhole) (arg6 : Memref sig .tc .vmem S1x48 .f32) (harg6 : arg6.IsWhole) (arg7 : Memref sig .tc .vmem S3x48 .f32) (harg7 : arg7.IsWhole) (arg8 : Memref sig .tc .vmem S24x128 .f32) (harg8 : arg8.IsWhole) (arg9 : Memref sig .tc .vmem S32x128 .bf16) (harg9 : arg9.IsWhole) (arg10 : Memref sig .tc .vmem S32x128 .bf16) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S24x64 .f32) (harg14 : arg14.IsWhole) (arg15 : Memref sig .tc .vmem S32x64 .bf16) (harg15 : arg15.IsWhole) (arg16 : Memref sig .tc .vmem S1x64 .f32) (harg16 : arg16.IsWhole) (arg17 : Memref sig .tc .vmem S64x64 .f32) (harg17 : arg17.IsWhole) (arg18 : Memref sig .tc .vmem S1x64 .f32) (harg18 : arg18.IsWhole) (arg19 : Memref sig .tc .vmem S64x128 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S1x128 .f32) (harg22 : arg22.IsWhole) (arg23 : Memref sig .tc .vmem S16x128 .f32) (harg23 : arg23.IsWhole) (arg24 : Memref sig .tc .vmem S48x193 .f32) (harg24 : arg24.IsWhole) (hc0 : ¬cond0_0 i) (hc1 : ¬cond0_1 i)
    (x0 : Vec F S8x4096 .f32) (x1 : Vec F S4096x32 .bf16) (x2 : Vec F S4096x32 .bf16) (x3 : Vec F S4096x32 .bf16) (x4 : Vec F S24x4 .f32) (x5 : Vec F S1x48 .f32) (x6 : Vec F S3x48 .f32) (x7 : Vec F S24x128 .f32) (x8 : Vec F S32x128 .bf16) (x9 : Vec F S32x128 .bf16) (x10 : Vec F S1x128 .f32) (x11 : Vec F S128x128 .f32) (x12 : Vec F S1x128 .f32) (x13 : Vec F S24x64 .f32) (x14 : Vec F S32x64 .bf16) (x15 : Vec F S1x64 .f32) (x16 : Vec F S64x64 .f32) (x17 : Vec F S1x64 .f32) (x18 : Vec F S64x128 .f32) (x19 : Vec F S64x128 .f32) (x20 : Vec F S64x128 .f32) (x21 : Vec F S1x128 .f32) (xs0 : Vec F S48x193 .f32) :
    Σ' (L22 : List (View.Piece (Elt F) S16x128 .f32)), { LS0 : List (View.Piece (Elt F) S48x193 .f32) //
      ∀ (xi22 : Vec F S16x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare xi22 ∗ owns (c : Thread nD τ) arg24 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare xi22 ∗ (∃ f, arg24.view.loc (c : Thread nD τ) ↦[arg24.view.set]{fullShare} arg24.view.writes (Elt F) f LS0)) -∗ K ⟨⟩))
          ⊢ wp frame (wpE (defs₀ (F := F)) Variants.none c none) E (cc0__aggr_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨[], ?_, fun xi22 E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hfs0
    simp only [cc0__aggr_kernel_eq_skeleton]; unfold cc0__aggr_kernel_skel
    simp only [k0_part2_eq_skeleton, k0_part3_eq_skeleton, k0_part4_eq_skeleton]
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    iexists _; iexact HS0

end Cert.KernelSineIdeal.Gen

end
-- ==== Proof.KernelSineIdeal.RunC.lean ====
/- The run of the body of the kernel with the sine written as such, over the reals at the last grid point: taken over from the generated module
   `Gen/KernelSineIdeal/Frame/RunC.lean` with a larger budget for the elaborator. -/
module

public import proofs.«01_k».proof.Proof.Gen.KernelSineIdeal.Frame.Runs

@[expose] public section

-- membership in a rectangle of production extents (`View.cover_of_tiled`): the elaborator's structural look
-- recurses once per coordinate of the long axes
set_option maxRecDepth 16384

noncomputable section

namespace Cert.KernelSineIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 8000000 in
/-- What the body's stores leave in each output's staging memref, as pieces (last first) IN CASE C (`scf.if` 0 not taken, `scf.if` 1 taken: points 7), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S8x4096 .f32) (harg1 : arg1.IsWhole) (arg2 : Memref sig .tc .vmem S4096x32 .bf16) (harg2 : arg2.IsWhole) (arg3 : Memref sig .tc .vmem S4096x32 .bf16) (harg3 : arg3.IsWhole) (arg4 : Memref sig .tc .vmem S4096x32 .bf16) (harg4 : arg4.IsWhole) (arg5 : Memref sig .tc .vmem S24x4 .f32) (harg5 : arg5.IsWhole) (arg6 : Memref sig .tc .vmem S1x48 .f32) (harg6 : arg6.IsWhole) (arg7 : Memref sig .tc .vmem S3x48 .f32) (harg7 : arg7.IsWhole) (arg8 : Memref sig .tc .vmem S24x128 .f32) (harg8 : arg8.IsWhole) (arg9 : Memref sig .tc .vmem S32x128 .bf16) (harg9 : arg9.IsWhole) (arg10 : Memref sig .tc .vmem S32x128 .bf16) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S24x64 .f32) (harg14 : arg14.IsWhole) (arg15 : Memref sig .tc .vmem S32x64 .bf16) (harg15 : arg15.IsWhole) (arg16 : Memref sig .tc .vmem S1x64 .f32) (harg16 : arg16.IsWhole) (arg17 : Memref sig .tc .vmem S64x64 .f32) (harg17 : arg17.IsWhole) (arg18 : Memref sig .tc .vmem S1x64 .f32) (harg18 : arg18.IsWhole) (arg19 : Memref sig .tc .vmem S64x128 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S1x128 .f32) (harg22 : arg22.IsWhole) (arg23 : Memref sig .tc .vmem S16x128 .f32) (harg23 : arg23.IsWhole) (arg24 : Memref sig .tc .vmem S48x193 .f32) (harg24 : arg24.IsWhole) (hc0 : ¬cond0_0 i) (hc1 : cond0_1 i)
    (x0 : Vec F S8x4096 .f32) (x1 : Vec F S4096x32 .bf16) (x2 : Vec F S4096x32 .bf16) (x3 : Vec F S4096x32 .bf16) (x4 : Vec F S24x4 .f32) (x5 : Vec F S1x48 .f32) (x6 : Vec F S3x48 .f32) (x7 : Vec F S24x128 .f32) (x8 : Vec F S32x128 .bf16) (x9 : Vec F S32x128 .bf16) (x10 : Vec F S1x128 .f32) (x11 : Vec F S128x128 .f32) (x12 : Vec F S1x128 .f32) (x13 : Vec F S24x64 .f32) (x14 : Vec F S32x64 .bf16) (x15 : Vec F S1x64 .f32) (x16 : Vec F S64x64 .f32) (x17 : Vec F S1x64 .f32) (x18 : Vec F S64x128 .f32) (x19 : Vec F S64x128 .f32) (x20 : Vec F S64x128 .f32) (x21 : Vec F S1x128 .f32) (xs0 : Vec F S48x193 .f32) :
    Σ' (L22 : List (View.Piece (Elt F) S16x128 .f32)), { LS0 : List (View.Piece (Elt F) S48x193 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ d, owns (c : Thread nD τ) arg23 fullShare d) ∗ owns (c : Thread nD τ) arg24 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f LS0)) -∗ K ⟨⟩))
          ⊢ wp frame (wpE (defs₀ (F := F)) Variants.none c none) E (cc0__aggr_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, fun E K => ?run⟩
  case run =>
    simp only [cc0__aggr_kernel_eq_skeleton]; unfold cc0__aggr_kernel_skel
    simp only [k0_part2_eq_skeleton, k0_part3_eq_skeleton, k0_part4_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg24.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]; · iexists _; iexact H22
    iexists _; iexact HS0

end Cert.KernelSineIdeal.Gen

end
-- ==== Proof.KernelSineIdeal.Frame.lean ====
/- The frame of the kernel with the sine written as such, over the reals: what the output and the accumulator hold after each grid point, and that the
   arguments end unchanged. Taken over from the generated module `Gen/KernelSineIdeal/Frame.lean`, over the runs in this directory. -/
module

public import proofs.«01_k».proof.Proof.KernelSineIdeal.RunA
public import proofs.«01_k».proof.Proof.KernelSineIdeal.RunB
public import proofs.«01_k».proof.Proof.KernelSineIdeal.RunC
public import Idealize.ShloMosaic.Lib.Claim

@[expose] public section

-- membership in a rectangle of production extents (`View.cover_of_tiled`): the elaborator's structural look
-- recurses once per coordinate of the long axes
set_option maxRecDepth 16384

noncomputable section

namespace Cert.KernelSineIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 22 (the window is idle at its points and not written back there):
    no pieces — a placeholder (junk read back) that nothing consults, since at these points the window is neither
    written back nor read at the next point (Lib/Pipeline.lean "Idle points"). -/
def out0_A_22 (c : Dev nD) (i : grid0.Coords) (arg1 : Memref sig .tc .vmem S8x4096 .f32) (harg1 : arg1.IsWhole) (arg2 : Memref sig .tc .vmem S4096x32 .bf16) (harg2 : arg2.IsWhole) (arg3 : Memref sig .tc .vmem S4096x32 .bf16) (harg3 : arg3.IsWhole) (arg4 : Memref sig .tc .vmem S4096x32 .bf16) (harg4 : arg4.IsWhole) (arg5 : Memref sig .tc .vmem S24x4 .f32) (harg5 : arg5.IsWhole) (arg6 : Memref sig .tc .vmem S1x48 .f32) (harg6 : arg6.IsWhole) (arg7 : Memref sig .tc .vmem S3x48 .f32) (harg7 : arg7.IsWhole) (arg8 : Memref sig .tc .vmem S24x128 .f32) (harg8 : arg8.IsWhole) (arg9 : Memref sig .tc .vmem S32x128 .bf16) (harg9 : arg9.IsWhole) (arg10 : Memref sig .tc .vmem S32x128 .bf16) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S24x64 .f32) (harg14 : arg14.IsWhole) (arg15 : Memref sig .tc .vmem S32x64 .bf16) (harg15 : arg15.IsWhole) (arg16 : Memref sig .tc .vmem S1x64 .f32) (harg16 : arg16.IsWhole) (arg17 : Memref sig .tc .vmem S64x64 .f32) (harg17 : arg17.IsWhole) (arg18 : Memref sig .tc .vmem S1x64 .f32) (harg18 : arg18.IsWhole) (arg19 : Memref sig .tc .vmem S64x128 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S1x128 .f32) (harg22 : arg22.IsWhole) (arg23 : Memref sig .tc .vmem S16x128 .f32) (harg23 : arg23.IsWhole) (arg24 : Memref sig .tc .vmem S48x193 .f32) (harg24 : arg24.IsWhole) (hc0 : cond0_0 i) (hc1 : ¬cond0_1 i)
    (x0 : Vec F S8x4096 .f32) (x1 : Vec F S4096x32 .bf16) (x2 : Vec F S4096x32 .bf16) (x3 : Vec F S4096x32 .bf16) (x4 : Vec F S24x4 .f32) (x5 : Vec F S1x48 .f32) (x6 : Vec F S3x48 .f32) (x7 : Vec F S24x128 .f32) (x8 : Vec F S32x128 .bf16) (x9 : Vec F S32x128 .bf16) (x10 : Vec F S1x128 .f32) (x11 : Vec F S128x128 .f32) (x12 : Vec F S1x128 .f32) (x13 : Vec F S24x64 .f32) (x14 : Vec F S32x64 .bf16) (x15 : Vec F S1x64 .f32) (x16 : Vec F S64x64 .f32) (x17 : Vec F S1x64 .f32) (x18 : Vec F S64x128 .f32) (x19 : Vec F S64x128 .f32) (x20 : Vec F S64x128 .f32) (x21 : Vec F S1x128 .f32) : Vec F S16x128 .f32 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 x19 x20 x21).1)

/-- Case A's pieces for scratch `arg24`, which the kernel carries between points, cover it: one of them a store of the WHOLE buffer (Lib/Ring.lean `sl_whole_mem`). -/
theorem scover0_A_0 (c : Dev nD) (i : grid0.Coords) (arg1 : Memref sig .tc .vmem S8x4096 .f32) (harg1 : arg1.IsWhole) (arg2 : Memref sig .tc .vmem S4096x32 .bf16) (harg2 : arg2.IsWhole) (arg3 : Memref sig .tc .vmem S4096x32 .bf16) (harg3 : arg3.IsWhole) (arg4 : Memref sig .tc .vmem S4096x32 .bf16) (harg4 : arg4.IsWhole) (arg5 : Memref sig .tc .vmem S24x4 .f32) (harg5 : arg5.IsWhole) (arg6 : Memref sig .tc .vmem S1x48 .f32) (harg6 : arg6.IsWhole) (arg7 : Memref sig .tc .vmem S3x48 .f32) (harg7 : arg7.IsWhole) (arg8 : Memref sig .tc .vmem S24x128 .f32) (harg8 : arg8.IsWhole) (arg9 : Memref sig .tc .vmem S32x128 .bf16) (harg9 : arg9.IsWhole) (arg10 : Memref sig .tc .vmem S32x128 .bf16) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S24x64 .f32) (harg14 : arg14.IsWhole) (arg15 : Memref sig .tc .vmem S32x64 .bf16) (harg15 : arg15.IsWhole) (arg16 : Memref sig .tc .vmem S1x64 .f32) (harg16 : arg16.IsWhole) (arg17 : Memref sig .tc .vmem S64x64 .f32) (harg17 : arg17.IsWhole) (arg18 : Memref sig .tc .vmem S1x64 .f32) (harg18 : arg18.IsWhole) (arg19 : Memref sig .tc .vmem S64x128 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S1x128 .f32) (harg22 : arg22.IsWhole) (arg23 : Memref sig .tc .vmem S16x128 .f32) (harg23 : arg23.IsWhole) (arg24 : Memref sig .tc .vmem S48x193 .f32) (harg24 : arg24.IsWhole) (hc0 : cond0_0 i) (hc1 : ¬cond0_1 i)
    (x0 : Vec F S8x4096 .f32) (x1 : Vec F S4096x32 .bf16) (x2 : Vec F S4096x32 .bf16) (x3 : Vec F S4096x32 .bf16) (x4 : Vec F S24x4 .f32) (x5 : Vec F S1x48 .f32) (x6 : Vec F S3x48 .f32) (x7 : Vec F S24x128 .f32) (x8 : Vec F S32x128 .bf16) (x9 : Vec F S32x128 .bf16) (x10 : Vec F S1x128 .f32) (x11 : Vec F S128x128 .f32) (x12 : Vec F S1x128 .f32) (x13 : Vec F S24x64 .f32) (x14 : Vec F S32x64 .bf16) (x15 : Vec F S1x64 .f32) (x16 : Vec F S64x64 .f32) (x17 : Vec F S1x64 .f32) (x18 : Vec F S64x128 .f32) (x19 : Vec F S64x128 .f32) (x20 : Vec F S64x128 .f32) (x21 : Vec F S1x128 .f32) (y : S48x193.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 x19 x20 x21).2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 x19 x20 x21).2.1 (by sl_whole_mem) y

/-- What case A leaves in scratch `arg24`: its pieces read back over junk. -/
def sout0_A_0 (c : Dev nD) (i : grid0.Coords) (arg1 : Memref sig .tc .vmem S8x4096 .f32) (harg1 : arg1.IsWhole) (arg2 : Memref sig .tc .vmem S4096x32 .bf16) (harg2 : arg2.IsWhole) (arg3 : Memref sig .tc .vmem S4096x32 .bf16) (harg3 : arg3.IsWhole) (arg4 : Memref sig .tc .vmem S4096x32 .bf16) (harg4 : arg4.IsWhole) (arg5 : Memref sig .tc .vmem S24x4 .f32) (harg5 : arg5.IsWhole) (arg6 : Memref sig .tc .vmem S1x48 .f32) (harg6 : arg6.IsWhole) (arg7 : Memref sig .tc .vmem S3x48 .f32) (harg7 : arg7.IsWhole) (arg8 : Memref sig .tc .vmem S24x128 .f32) (harg8 : arg8.IsWhole) (arg9 : Memref sig .tc .vmem S32x128 .bf16) (harg9 : arg9.IsWhole) (arg10 : Memref sig .tc .vmem S32x128 .bf16) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S24x64 .f32) (harg14 : arg14.IsWhole) (arg15 : Memref sig .tc .vmem S32x64 .bf16) (harg15 : arg15.IsWhole) (arg16 : Memref sig .tc .vmem S1x64 .f32) (harg16 : arg16.IsWhole) (arg17 : Memref sig .tc .vmem S64x64 .f32) (harg17 : arg17.IsWhole) (arg18 : Memref sig .tc .vmem S1x64 .f32) (harg18 : arg18.IsWhole) (arg19 : Memref sig .tc .vmem S64x128 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S1x128 .f32) (harg22 : arg22.IsWhole) (arg23 : Memref sig .tc .vmem S16x128 .f32) (harg23 : arg23.IsWhole) (arg24 : Memref sig .tc .vmem S48x193 .f32) (harg24 : arg24.IsWhole) (hc0 : cond0_0 i) (hc1 : ¬cond0_1 i)
    (x0 : Vec F S8x4096 .f32) (x1 : Vec F S4096x32 .bf16) (x2 : Vec F S4096x32 .bf16) (x3 : Vec F S4096x32 .bf16) (x4 : Vec F S24x4 .f32) (x5 : Vec F S1x48 .f32) (x6 : Vec F S3x48 .f32) (x7 : Vec F S24x128 .f32) (x8 : Vec F S32x128 .bf16) (x9 : Vec F S32x128 .bf16) (x10 : Vec F S1x128 .f32) (x11 : Vec F S128x128 .f32) (x12 : Vec F S1x128 .f32) (x13 : Vec F S24x64 .f32) (x14 : Vec F S32x64 .bf16) (x15 : Vec F S1x64 .f32) (x16 : Vec F S64x64 .f32) (x17 : Vec F S1x64 .f32) (x18 : Vec F S64x128 .f32) (x19 : Vec F S64x128 .f32) (x20 : Vec F S64x128 .f32) (x21 : Vec F S1x128 .f32) : Vec F S48x193 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 x19 x20 x21).2.1)

/-- Case B stores nothing into output 22 (the window is idle at its points and not written back there):
    no pieces — a placeholder (junk read back) that nothing consults, since at these points the window is neither
    written back nor read at the next point (Lib/Pipeline.lean "Idle points"). -/
def out0_B_22 (c : Dev nD) (i : grid0.Coords) (arg1 : Memref sig .tc .vmem S8x4096 .f32) (harg1 : arg1.IsWhole) (arg2 : Memref sig .tc .vmem S4096x32 .bf16) (harg2 : arg2.IsWhole) (arg3 : Memref sig .tc .vmem S4096x32 .bf16) (harg3 : arg3.IsWhole) (arg4 : Memref sig .tc .vmem S4096x32 .bf16) (harg4 : arg4.IsWhole) (arg5 : Memref sig .tc .vmem S24x4 .f32) (harg5 : arg5.IsWhole) (arg6 : Memref sig .tc .vmem S1x48 .f32) (harg6 : arg6.IsWhole) (arg7 : Memref sig .tc .vmem S3x48 .f32) (harg7 : arg7.IsWhole) (arg8 : Memref sig .tc .vmem S24x128 .f32) (harg8 : arg8.IsWhole) (arg9 : Memref sig .tc .vmem S32x128 .bf16) (harg9 : arg9.IsWhole) (arg10 : Memref sig .tc .vmem S32x128 .bf16) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S24x64 .f32) (harg14 : arg14.IsWhole) (arg15 : Memref sig .tc .vmem S32x64 .bf16) (harg15 : arg15.IsWhole) (arg16 : Memref sig .tc .vmem S1x64 .f32) (harg16 : arg16.IsWhole) (arg17 : Memref sig .tc .vmem S64x64 .f32) (harg17 : arg17.IsWhole) (arg18 : Memref sig .tc .vmem S1x64 .f32) (harg18 : arg18.IsWhole) (arg19 : Memref sig .tc .vmem S64x128 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S1x128 .f32) (harg22 : arg22.IsWhole) (arg23 : Memref sig .tc .vmem S16x128 .f32) (harg23 : arg23.IsWhole) (arg24 : Memref sig .tc .vmem S48x193 .f32) (harg24 : arg24.IsWhole) (hc0 : ¬cond0_0 i) (hc1 : ¬cond0_1 i)
    (x0 : Vec F S8x4096 .f32) (x1 : Vec F S4096x32 .bf16) (x2 : Vec F S4096x32 .bf16) (x3 : Vec F S4096x32 .bf16) (x4 : Vec F S24x4 .f32) (x5 : Vec F S1x48 .f32) (x6 : Vec F S3x48 .f32) (x7 : Vec F S24x128 .f32) (x8 : Vec F S32x128 .bf16) (x9 : Vec F S32x128 .bf16) (x10 : Vec F S1x128 .f32) (x11 : Vec F S128x128 .f32) (x12 : Vec F S1x128 .f32) (x13 : Vec F S24x64 .f32) (x14 : Vec F S32x64 .bf16) (x15 : Vec F S1x64 .f32) (x16 : Vec F S64x64 .f32) (x17 : Vec F S1x64 .f32) (x18 : Vec F S64x128 .f32) (x19 : Vec F S64x128 .f32) (x20 : Vec F S64x128 .f32) (x21 : Vec F S1x128 .f32) (xs0 : Vec F S48x193 .f32) : Vec F S16x128 .f32 :=
  VO0_22.read (Elt F) (VO0_22.writes (Elt F) VO0_22.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 x19 x20 x21 xs0).1)

/-- Case B's pieces for scratch `arg24`, which the kernel carries between points, cover it: 3 pieces (stores and landed copies) of several sizes (`S48x128`, `S48x1`, `S48x64`) tiling it when cut into blocks of `![48, 1]` (Lib/Ring.lean `Piece.tiledBy`). -/
theorem scover0_B_0 (c : Dev nD) (i : grid0.Coords) (arg1 : Memref sig .tc .vmem S8x4096 .f32) (harg1 : arg1.IsWhole) (arg2 : Memref sig .tc .vmem S4096x32 .bf16) (harg2 : arg2.IsWhole) (arg3 : Memref sig .tc .vmem S4096x32 .bf16) (harg3 : arg3.IsWhole) (arg4 : Memref sig .tc .vmem S4096x32 .bf16) (harg4 : arg4.IsWhole) (arg5 : Memref sig .tc .vmem S24x4 .f32) (harg5 : arg5.IsWhole) (arg6 : Memref sig .tc .vmem S1x48 .f32) (harg6 : arg6.IsWhole) (arg7 : Memref sig .tc .vmem S3x48 .f32) (harg7 : arg7.IsWhole) (arg8 : Memref sig .tc .vmem S24x128 .f32) (harg8 : arg8.IsWhole) (arg9 : Memref sig .tc .vmem S32x128 .bf16) (harg9 : arg9.IsWhole) (arg10 : Memref sig .tc .vmem S32x128 .bf16) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S24x64 .f32) (harg14 : arg14.IsWhole) (arg15 : Memref sig .tc .vmem S32x64 .bf16) (harg15 : arg15.IsWhole) (arg16 : Memref sig .tc .vmem S1x64 .f32) (harg16 : arg16.IsWhole) (arg17 : Memref sig .tc .vmem S64x64 .f32) (harg17 : arg17.IsWhole) (arg18 : Memref sig .tc .vmem S1x64 .f32) (harg18 : arg18.IsWhole) (arg19 : Memref sig .tc .vmem S64x128 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S1x128 .f32) (harg22 : arg22.IsWhole) (arg23 : Memref sig .tc .vmem S16x128 .f32) (harg23 : arg23.IsWhole) (arg24 : Memref sig .tc .vmem S48x193 .f32) (harg24 : arg24.IsWhole) (hc0 : ¬cond0_0 i) (hc1 : ¬cond0_1 i)
    (x0 : Vec F S8x4096 .f32) (x1 : Vec F S4096x32 .bf16) (x2 : Vec F S4096x32 .bf16) (x3 : Vec F S4096x32 .bf16) (x4 : Vec F S24x4 .f32) (x5 : Vec F S1x48 .f32) (x6 : Vec F S3x48 .f32) (x7 : Vec F S24x128 .f32) (x8 : Vec F S32x128 .bf16) (x9 : Vec F S32x128 .bf16) (x10 : Vec F S1x128 .f32) (x11 : Vec F S128x128 .f32) (x12 : Vec F S1x128 .f32) (x13 : Vec F S24x64 .f32) (x14 : Vec F S32x64 .bf16) (x15 : Vec F S1x64 .f32) (x16 : Vec F S64x64 .f32) (x17 : Vec F S1x64 .f32) (x18 : Vec F S64x128 .f32) (x19 : Vec F S64x128 .f32) (x20 : Vec F S64x128 .f32) (x21 : Vec F S1x128 .f32) (xs0 : Vec F S48x193 .f32) (y : S48x193.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 x19 x20 x21 xs0).2.1, y ∈ pc.1.set :=
  View.cover_of_tiledBy (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 x19 x20 x21 xs0).2.1 ![48, 1] (by sl_kernel_rfl) y

/-- What case B leaves in scratch `arg24`: its pieces read back over junk. -/
def sout0_B_0 (c : Dev nD) (i : grid0.Coords) (arg1 : Memref sig .tc .vmem S8x4096 .f32) (harg1 : arg1.IsWhole) (arg2 : Memref sig .tc .vmem S4096x32 .bf16) (harg2 : arg2.IsWhole) (arg3 : Memref sig .tc .vmem S4096x32 .bf16) (harg3 : arg3.IsWhole) (arg4 : Memref sig .tc .vmem S4096x32 .bf16) (harg4 : arg4.IsWhole) (arg5 : Memref sig .tc .vmem S24x4 .f32) (harg5 : arg5.IsWhole) (arg6 : Memref sig .tc .vmem S1x48 .f32) (harg6 : arg6.IsWhole) (arg7 : Memref sig .tc .vmem S3x48 .f32) (harg7 : arg7.IsWhole) (arg8 : Memref sig .tc .vmem S24x128 .f32) (harg8 : arg8.IsWhole) (arg9 : Memref sig .tc .vmem S32x128 .bf16) (harg9 : arg9.IsWhole) (arg10 : Memref sig .tc .vmem S32x128 .bf16) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S24x64 .f32) (harg14 : arg14.IsWhole) (arg15 : Memref sig .tc .vmem S32x64 .bf16) (harg15 : arg15.IsWhole) (arg16 : Memref sig .tc .vmem S1x64 .f32) (harg16 : arg16.IsWhole) (arg17 : Memref sig .tc .vmem S64x64 .f32) (harg17 : arg17.IsWhole) (arg18 : Memref sig .tc .vmem S1x64 .f32) (harg18 : arg18.IsWhole) (arg19 : Memref sig .tc .vmem S64x128 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S1x128 .f32) (harg22 : arg22.IsWhole) (arg23 : Memref sig .tc .vmem S16x128 .f32) (harg23 : arg23.IsWhole) (arg24 : Memref sig .tc .vmem S48x193 .f32) (harg24 : arg24.IsWhole) (hc0 : ¬cond0_0 i) (hc1 : ¬cond0_1 i)
    (x0 : Vec F S8x4096 .f32) (x1 : Vec F S4096x32 .bf16) (x2 : Vec F S4096x32 .bf16) (x3 : Vec F S4096x32 .bf16) (x4 : Vec F S24x4 .f32) (x5 : Vec F S1x48 .f32) (x6 : Vec F S3x48 .f32) (x7 : Vec F S24x128 .f32) (x8 : Vec F S32x128 .bf16) (x9 : Vec F S32x128 .bf16) (x10 : Vec F S1x128 .f32) (x11 : Vec F S128x128 .f32) (x12 : Vec F S1x128 .f32) (x13 : Vec F S24x64 .f32) (x14 : Vec F S32x64 .bf16) (x15 : Vec F S1x64 .f32) (x16 : Vec F S64x64 .f32) (x17 : Vec F S1x64 .f32) (x18 : Vec F S64x128 .f32) (x19 : Vec F S64x128 .f32) (x20 : Vec F S64x128 .f32) (x21 : Vec F S1x128 .f32) (xs0 : Vec F S48x193 .f32) : Vec F S48x193 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 x19 x20 x21 xs0).2.1)

/-- Case C's pieces for output 22 tile its block (1 store of `S16x128`, checked by the kernel's evaluation: Lib/Ring.lean `Piece.tiledL`, linear in the pieces, through a loop's `@[irreducible]` trip theorem too), so they cover it. -/
theorem cover0_C_22 (c : Dev nD) (i : grid0.Coords) (arg1 : Memref sig .tc .vmem S8x4096 .f32) (harg1 : arg1.IsWhole) (arg2 : Memref sig .tc .vmem S4096x32 .bf16) (harg2 : arg2.IsWhole) (arg3 : Memref sig .tc .vmem S4096x32 .bf16) (harg3 : arg3.IsWhole) (arg4 : Memref sig .tc .vmem S4096x32 .bf16) (harg4 : arg4.IsWhole) (arg5 : Memref sig .tc .vmem S24x4 .f32) (harg5 : arg5.IsWhole) (arg6 : Memref sig .tc .vmem S1x48 .f32) (harg6 : arg6.IsWhole) (arg7 : Memref sig .tc .vmem S3x48 .f32) (harg7 : arg7.IsWhole) (arg8 : Memref sig .tc .vmem S24x128 .f32) (harg8 : arg8.IsWhole) (arg9 : Memref sig .tc .vmem S32x128 .bf16) (harg9 : arg9.IsWhole) (arg10 : Memref sig .tc .vmem S32x128 .bf16) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S24x64 .f32) (harg14 : arg14.IsWhole) (arg15 : Memref sig .tc .vmem S32x64 .bf16) (harg15 : arg15.IsWhole) (arg16 : Memref sig .tc .vmem S1x64 .f32) (harg16 : arg16.IsWhole) (arg17 : Memref sig .tc .vmem S64x64 .f32) (harg17 : arg17.IsWhole) (arg18 : Memref sig .tc .vmem S1x64 .f32) (harg18 : arg18.IsWhole) (arg19 : Memref sig .tc .vmem S64x128 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S1x128 .f32) (harg22 : arg22.IsWhole) (arg23 : Memref sig .tc .vmem S16x128 .f32) (harg23 : arg23.IsWhole) (arg24 : Memref sig .tc .vmem S48x193 .f32) (harg24 : arg24.IsWhole) (hc0 : ¬cond0_0 i) (hc1 : cond0_1 i)
    (x0 : Vec F S8x4096 .f32) (x1 : Vec F S4096x32 .bf16) (x2 : Vec F S4096x32 .bf16) (x3 : Vec F S4096x32 .bf16) (x4 : Vec F S24x4 .f32) (x5 : Vec F S1x48 .f32) (x6 : Vec F S3x48 .f32) (x7 : Vec F S24x128 .f32) (x8 : Vec F S32x128 .bf16) (x9 : Vec F S32x128 .bf16) (x10 : Vec F S1x128 .f32) (x11 : Vec F S128x128 .f32) (x12 : Vec F S1x128 .f32) (x13 : Vec F S24x64 .f32) (x14 : Vec F S32x64 .bf16) (x15 : Vec F S1x64 .f32) (x16 : Vec F S64x64 .f32) (x17 : Vec F S1x64 .f32) (x18 : Vec F S64x128 .f32) (x19 : Vec F S64x128 .f32) (x20 : Vec F S64x128 .f32) (x21 : Vec F S1x128 .f32) (xs0 : Vec F S48x193 .f32) (y : S16x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 x19 x20 x21 xs0).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 x19 x20 x21 xs0).1 S16x128.size (by sl_kernel_rfl) y

/-- What case C leaves in output 22's staging buffer: its pieces read back over junk. -/
def out0_C_22 (c : Dev nD) (i : grid0.Coords) (arg1 : Memref sig .tc .vmem S8x4096 .f32) (harg1 : arg1.IsWhole) (arg2 : Memref sig .tc .vmem S4096x32 .bf16) (harg2 : arg2.IsWhole) (arg3 : Memref sig .tc .vmem S4096x32 .bf16) (harg3 : arg3.IsWhole) (arg4 : Memref sig .tc .vmem S4096x32 .bf16) (harg4 : arg4.IsWhole) (arg5 : Memref sig .tc .vmem S24x4 .f32) (harg5 : arg5.IsWhole) (arg6 : Memref sig .tc .vmem S1x48 .f32) (harg6 : arg6.IsWhole) (arg7 : Memref sig .tc .vmem S3x48 .f32) (harg7 : arg7.IsWhole) (arg8 : Memref sig .tc .vmem S24x128 .f32) (harg8 : arg8.IsWhole) (arg9 : Memref sig .tc .vmem S32x128 .bf16) (harg9 : arg9.IsWhole) (arg10 : Memref sig .tc .vmem S32x128 .bf16) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S24x64 .f32) (harg14 : arg14.IsWhole) (arg15 : Memref sig .tc .vmem S32x64 .bf16) (harg15 : arg15.IsWhole) (arg16 : Memref sig .tc .vmem S1x64 .f32) (harg16 : arg16.IsWhole) (arg17 : Memref sig .tc .vmem S64x64 .f32) (harg17 : arg17.IsWhole) (arg18 : Memref sig .tc .vmem S1x64 .f32) (harg18 : arg18.IsWhole) (arg19 : Memref sig .tc .vmem S64x128 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S1x128 .f32) (harg22 : arg22.IsWhole) (arg23 : Memref sig .tc .vmem S16x128 .f32) (harg23 : arg23.IsWhole) (arg24 : Memref sig .tc .vmem S48x193 .f32) (harg24 : arg24.IsWhole) (hc0 : ¬cond0_0 i) (hc1 : cond0_1 i)
    (x0 : Vec F S8x4096 .f32) (x1 : Vec F S4096x32 .bf16) (x2 : Vec F S4096x32 .bf16) (x3 : Vec F S4096x32 .bf16) (x4 : Vec F S24x4 .f32) (x5 : Vec F S1x48 .f32) (x6 : Vec F S3x48 .f32) (x7 : Vec F S24x128 .f32) (x8 : Vec F S32x128 .bf16) (x9 : Vec F S32x128 .bf16) (x10 : Vec F S1x128 .f32) (x11 : Vec F S128x128 .f32) (x12 : Vec F S1x128 .f32) (x13 : Vec F S24x64 .f32) (x14 : Vec F S32x64 .bf16) (x15 : Vec F S1x64 .f32) (x16 : Vec F S64x64 .f32) (x17 : Vec F S1x64 .f32) (x18 : Vec F S64x128 .f32) (x19 : Vec F S64x128 .f32) (x20 : Vec F S64x128 .f32) (x21 : Vec F S1x128 .f32) (xs0 : Vec F S48x193 .f32) : Vec F S16x128 .f32 :=
  VO0_22.read (Elt F) (VO0_22.writes (Elt F) VO0_22.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 x19 x20 x21 xs0).1)

/-- Case C's pieces for scratch `arg24`, which the kernel carries between points, cover it: 3 pieces (stores and landed copies) of several sizes (`S48x128`, `S48x1`, `S48x64`) tiling it when cut into blocks of `![48, 1]` (Lib/Ring.lean `Piece.tiledBy`). -/
theorem scover0_C_0 (c : Dev nD) (i : grid0.Coords) (arg1 : Memref sig .tc .vmem S8x4096 .f32) (harg1 : arg1.IsWhole) (arg2 : Memref sig .tc .vmem S4096x32 .bf16) (harg2 : arg2.IsWhole) (arg3 : Memref sig .tc .vmem S4096x32 .bf16) (harg3 : arg3.IsWhole) (arg4 : Memref sig .tc .vmem S4096x32 .bf16) (harg4 : arg4.IsWhole) (arg5 : Memref sig .tc .vmem S24x4 .f32) (harg5 : arg5.IsWhole) (arg6 : Memref sig .tc .vmem S1x48 .f32) (harg6 : arg6.IsWhole) (arg7 : Memref sig .tc .vmem S3x48 .f32) (harg7 : arg7.IsWhole) (arg8 : Memref sig .tc .vmem S24x128 .f32) (harg8 : arg8.IsWhole) (arg9 : Memref sig .tc .vmem S32x128 .bf16) (harg9 : arg9.IsWhole) (arg10 : Memref sig .tc .vmem S32x128 .bf16) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S24x64 .f32) (harg14 : arg14.IsWhole) (arg15 : Memref sig .tc .vmem S32x64 .bf16) (harg15 : arg15.IsWhole) (arg16 : Memref sig .tc .vmem S1x64 .f32) (harg16 : arg16.IsWhole) (arg17 : Memref sig .tc .vmem S64x64 .f32) (harg17 : arg17.IsWhole) (arg18 : Memref sig .tc .vmem S1x64 .f32) (harg18 : arg18.IsWhole) (arg19 : Memref sig .tc .vmem S64x128 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S1x128 .f32) (harg22 : arg22.IsWhole) (arg23 : Memref sig .tc .vmem S16x128 .f32) (harg23 : arg23.IsWhole) (arg24 : Memref sig .tc .vmem S48x193 .f32) (harg24 : arg24.IsWhole) (hc0 : ¬cond0_0 i) (hc1 : cond0_1 i)
    (x0 : Vec F S8x4096 .f32) (x1 : Vec F S4096x32 .bf16) (x2 : Vec F S4096x32 .bf16) (x3 : Vec F S4096x32 .bf16) (x4 : Vec F S24x4 .f32) (x5 : Vec F S1x48 .f32) (x6 : Vec F S3x48 .f32) (x7 : Vec F S24x128 .f32) (x8 : Vec F S32x128 .bf16) (x9 : Vec F S32x128 .bf16) (x10 : Vec F S1x128 .f32) (x11 : Vec F S128x128 .f32) (x12 : Vec F S1x128 .f32) (x13 : Vec F S24x64 .f32) (x14 : Vec F S32x64 .bf16) (x15 : Vec F S1x64 .f32) (x16 : Vec F S64x64 .f32) (x17 : Vec F S1x64 .f32) (x18 : Vec F S64x128 .f32) (x19 : Vec F S64x128 .f32) (x20 : Vec F S64x128 .f32) (x21 : Vec F S1x128 .f32) (xs0 : Vec F S48x193 .f32) (y : S48x193.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 x19 x20 x21 xs0).2.1, y ∈ pc.1.set :=
  View.cover_of_tiledBy (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 x19 x20 x21 xs0).2.1 ![48, 1] (by sl_kernel_rfl) y

/-- What case C leaves in scratch `arg24`: its pieces read back over junk. -/
def sout0_C_0 (c : Dev nD) (i : grid0.Coords) (arg1 : Memref sig .tc .vmem S8x4096 .f32) (harg1 : arg1.IsWhole) (arg2 : Memref sig .tc .vmem S4096x32 .bf16) (harg2 : arg2.IsWhole) (arg3 : Memref sig .tc .vmem S4096x32 .bf16) (harg3 : arg3.IsWhole) (arg4 : Memref sig .tc .vmem S4096x32 .bf16) (harg4 : arg4.IsWhole) (arg5 : Memref sig .tc .vmem S24x4 .f32) (harg5 : arg5.IsWhole) (arg6 : Memref sig .tc .vmem S1x48 .f32) (harg6 : arg6.IsWhole) (arg7 : Memref sig .tc .vmem S3x48 .f32) (harg7 : arg7.IsWhole) (arg8 : Memref sig .tc .vmem S24x128 .f32) (harg8 : arg8.IsWhole) (arg9 : Memref sig .tc .vmem S32x128 .bf16) (harg9 : arg9.IsWhole) (arg10 : Memref sig .tc .vmem S32x128 .bf16) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S24x64 .f32) (harg14 : arg14.IsWhole) (arg15 : Memref sig .tc .vmem S32x64 .bf16) (harg15 : arg15.IsWhole) (arg16 : Memref sig .tc .vmem S1x64 .f32) (harg16 : arg16.IsWhole) (arg17 : Memref sig .tc .vmem S64x64 .f32) (harg17 : arg17.IsWhole) (arg18 : Memref sig .tc .vmem S1x64 .f32) (harg18 : arg18.IsWhole) (arg19 : Memref sig .tc .vmem S64x128 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S1x128 .f32) (harg22 : arg22.IsWhole) (arg23 : Memref sig .tc .vmem S16x128 .f32) (harg23 : arg23.IsWhole) (arg24 : Memref sig .tc .vmem S48x193 .f32) (harg24 : arg24.IsWhole) (hc0 : ¬cond0_0 i) (hc1 : cond0_1 i)
    (x0 : Vec F S8x4096 .f32) (x1 : Vec F S4096x32 .bf16) (x2 : Vec F S4096x32 .bf16) (x3 : Vec F S4096x32 .bf16) (x4 : Vec F S24x4 .f32) (x5 : Vec F S1x48 .f32) (x6 : Vec F S3x48 .f32) (x7 : Vec F S24x128 .f32) (x8 : Vec F S32x128 .bf16) (x9 : Vec F S32x128 .bf16) (x10 : Vec F S1x128 .f32) (x11 : Vec F S128x128 .f32) (x12 : Vec F S1x128 .f32) (x13 : Vec F S24x64 .f32) (x14 : Vec F S32x64 .bf16) (x15 : Vec F S1x64 .f32) (x16 : Vec F S64x64 .f32) (x17 : Vec F S1x64 .f32) (x18 : Vec F S64x128 .f32) (x19 : Vec F S64x128 .f32) (x20 : Vec F S64x128 .f32) (x21 : Vec F S1x128 .f32) (xs0 : Vec F S48x193 .f32) : Vec F S48x193 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 x19 x20 x21 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S16x128 .f32 × Vec F S48x193 .f32
  | 0, hn => (out0_A_22 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩))
  | n + 1, hn =>
    if h0 : (n + 1) % 8 = 0 then
      if h1 : (n + 1) % 8 = 7 then
        False.elim (by have hN : n + 1 < 8 := lt_of_lt_of_eq hn (show cfg0.N = 8 from N_0); omega)
      else
        (out0_A_22 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩))
    else
      if h1 : (n + 1) % 8 = 7 then
        (out0_C_22 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2)
      else
        (out0_B_22 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2)

/-- `outsAt0` at a point of case A: that case's contents. -/
theorem outsAt0_A (c : Dev nD) (t : Fin cfg0.N) (h0 : t.val % 8 = 0) (h1 : ¬t.val % 8 = 7) :
    outsAt0 m c t.val t.isLt = (out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 8 = 0) (h1 : ¬t.val % 8 = 7) :
    outsAt0 m c t.val t.isLt = (out0_B_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 8 = 0) (h1 : t.val % 8 = 7) :
    outsAt0 m c t.val t.isLt = (out0_C_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => (outsAt0 m c t.val t.isLt).1
    | ⟨_ + 23, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t)

set_option maxHeartbeats 28800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  by_cases h0 : t.val % 8 = 0
  · by_cases h1 : t.val % 8 = 7
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      rw [show (dats m 0 c).leavesExact 18 t = owns (c : Thread nD τ) (ms0_18 t) fullShare ((dats m 0 c).after 18 t) from by
      unfold Dat.leavesExact; rw [liveAt0_18 t], after0_18]
      rw [show (dats m 0 c).leavesExact 19 t = owns (c : Thread nD τ) (ms0_19 t) fullShare ((dats m 0 c).after 19 t) from by
      unfold Dat.leavesExact; rw [liveAt0_19 t], after0_19]
      rw [show (dats m 0 c).leavesExact 20 t = owns (c : Thread nD τ) (ms0_20 t) fullShare ((dats m 0 c).after 20 t) from by
      unfold Dat.leavesExact; rw [liveAt0_20 t], after0_20]
      rw [show (dats m 0 c).leavesExact 21 t = owns (c : Thread nD τ) (ms0_21 t) fullShare ((dats m 0 c).after 21 t) from by
      unfold Dat.leavesExact; rw [liveAt0_21 t], after0_21]
      rw [Dat.leavesExact_idle (dats m 0 c) 22 t (idleAt0_22_A t ((hcond0_0 t).mpr h0) (fun h => h1 ((hcond0_1 t).mp h))) (noFlush0_22_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
        iapply ((kernelRun0_A c (grid0.coords t) _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexact H22
        isplitl [HS0]; · iexact HS0
        iintro ⟨H0, H1, H2, H3, H4, H5, H6, H7, H8, H9, H10, H11, H12, H13, H14, H15, H16, H17, H18, H19, H20, H21, H22, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        iexists _; iexact H22
      · exfalso; have hN : t.val < 8 := lt_of_lt_of_eq t.isLt (show cfg0.N = 8 from N_0); omega
  · by_cases h1 : t.val % 8 = 7
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      rw [show (dats m 0 c).leavesExact 18 t = owns (c : Thread nD τ) (ms0_18 t) fullShare ((dats m 0 c).after 18 t) from by
      unfold Dat.leavesExact; rw [liveAt0_18 t], after0_18]
      rw [show (dats m 0 c).leavesExact 19 t = owns (c : Thread nD τ) (ms0_19 t) fullShare ((dats m 0 c).after 19 t) from by
      unfold Dat.leavesExact; rw [liveAt0_19 t], after0_19]
      rw [show (dats m 0 c).leavesExact 20 t = owns (c : Thread nD τ) (ms0_20 t) fullShare ((dats m 0 c).after 20 t) from by
      unfold Dat.leavesExact; rw [liveAt0_20 t], after0_20]
      rw [show (dats m 0 c).leavesExact 21 t = owns (c : Thread nD τ) (ms0_21 t) fullShare ((dats m 0 c).after 21 t) from by
      unfold Dat.leavesExact; rw [liveAt0_21 t], after0_21]
      rw [show (dats m 0 c).leavesExact 22 t = owns (c : Thread nD τ) (ms0_22 t) fullShare ((dats m 0 c).after 22 t) from by
      unfold Dat.leavesExact; rw [liveAt0_22_C t (fun h => h0 ((hcond0_0 t).mp h)) ((hcond0_1 t).mpr h1)], after0_22]
      by_cases hz : t.val = 0
      · exfalso; have hN : t.val < 8 := lt_of_lt_of_eq t.isLt (show cfg0.N = 8 from N_0); omega
      · rw [PhiS_castSucc m c t, PhiS_pos m c _ _ hz]
        rw [outsAt0_C m c t h0 h1]
        unfold out0_C_22 sout0_C_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
        iapply ((kernelRun0_C c (grid0.coords t) _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexists _; iexact H22
        isplitl [HS0]; · iexact HS0
        iintro ⟨H0, H1, H2, H3, H4, H5, H6, H7, H8, H9, H10, H11, H12, H13, H14, H15, H16, H17, H18, H19, H20, H21, ⟨%e22, H22⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        unfold owns; iexists _; isplitr
        swap; · iexact H22
        ipureintro; exact View.read_writes_of_cover _ _ _ _ _ (cover0_C_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      rw [show (dats m 0 c).leavesExact 18 t = owns (c : Thread nD τ) (ms0_18 t) fullShare ((dats m 0 c).after 18 t) from by
      unfold Dat.leavesExact; rw [liveAt0_18 t], after0_18]
      rw [show (dats m 0 c).leavesExact 19 t = owns (c : Thread nD τ) (ms0_19 t) fullShare ((dats m 0 c).after 19 t) from by
      unfold Dat.leavesExact; rw [liveAt0_19 t], after0_19]
      rw [show (dats m 0 c).leavesExact 20 t = owns (c : Thread nD τ) (ms0_20 t) fullShare ((dats m 0 c).after 20 t) from by
      unfold Dat.leavesExact; rw [liveAt0_20 t], after0_20]
      rw [show (dats m 0 c).leavesExact 21 t = owns (c : Thread nD τ) (ms0_21 t) fullShare ((dats m 0 c).after 21 t) from by
      unfold Dat.leavesExact; rw [liveAt0_21 t], after0_21]
      rw [Dat.leavesExact_idle (dats m 0 c) 22 t (idleAt0_22_B t (fun h => h0 ((hcond0_0 t).mp h)) (fun h => h1 ((hcond0_1 t).mp h))) (noFlush0_22_B t (fun h => h0 ((hcond0_0 t).mp h)) (fun h => h1 ((hcond0_1 t).mp h)))]
      by_cases hz : t.val = 0
      · exfalso; have hN : t.val < 8 := lt_of_lt_of_eq t.isLt (show cfg0.N = 8 from N_0); omega
      · rw [PhiS_castSucc m c t, PhiS_pos m c _ _ hz]
        rw [outsAt0_B m c t h0 h1]
        unfold sout0_B_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
        iapply ((kernelRun0_B c (grid0.coords t) _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexact H22
        isplitl [HS0]; · iexact HS0
        iintro ⟨H0, H1, H2, H3, H4, H5, H6, H7, H8, H9, H10, H11, H12, H13, H14, H15, H16, H17, H18, H19, H20, H21, H22, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        iexists _; iexact H22

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 8 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  frame_of m ρ (dats m) (A_eq m) (run_main m ρ)

/-- THE FRAME: `Cert.quiescent_KernelSineIdeal`'s statement (Defs.lean) at any `F` — Proof.lean cites it at `Bits`:
    `theorem Cert.Proof.claim : Cert.Claim := ⟨Cert.KernelSineIdeal.Gen.facts, fun m ρ _ => Cert.KernelSineIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24))
      ∧ r.2.sem = fun _ => 0) :=
  θ_run_and (unchanged m ρ) ((θ_run defs _ _).mono (fun _ h => h.2) (run_main_quiescent m ρ))

end Cert.KernelSineIdeal.Gen

end
-- ==== Proof.KernelSineIdeal.Value.lean ====
/- The run of the kernel with the sine written as such, over the reals, with the result after it named as the final array of the output window. Taken over from
   the generated module `Gen/KernelSineIdeal/Value.lean`. -/
module

public import proofs.«01_k».proof.Proof.KernelSineIdeal.Frame
public import Idealize.ShloMosaic.Lib.Pipeline.Value

@[expose] public section

noncomputable section

namespace Cert.KernelSineIdeal.Value

open Cert.KernelSineIdeal Cert.KernelSineIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v85) = (dats m 0 c).arrAt 22 cfg0.N :=
  (h c).1 22

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the frame run, argument `main_arg15` is as launched: no window stages it, and the run leaves the region's other buffers as they were. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- After the frame run, argument `main_arg16` is as launched: no window stages it, and the run leaves the region's other buffers as they were. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

/-- After the frame run, argument `main_arg17` is as launched: no window stages it, and the run leaves the region's other buffers as they were. -/
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)

/-- After the frame run, argument `main_arg18` is as launched: no window stages it, and the run leaves the region's other buffers as they were. -/
theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).2 main_arg18 (Pipeline.mem_restRefs_of main_arg18 (by decide) (by decide))).trans (V_main_arg18 m c)

/-- After the frame run, argument `main_arg19` is as launched: no window stages it, and the run leaves the region's other buffers as they were. -/
theorem kept_main_arg19 (r : PUnit × MemSt nD τ sig (Elt F)) (h : Pipeline.FramePost cfgs (dats m) 0 (V m) r) (c : Dev nD) :
    r.2.mem ((c : Thread nD τ).loc main_arg19) = m ((c : Thread nD τ).loc main_arg19) :=
  ((h c).2 main_arg19 (Pipeline.mem_restRefs_of main_arg19 (by decide) (by decide))).trans (V_main_arg19 m c)

/-- After the frame run, argument `main_arg20` is as launched: no window stages it, and the run leaves the region's other buffers as they were. -/
theorem kept_main_arg20 (r : PUnit × MemSt nD τ sig (Elt F)) (h : Pipeline.FramePost cfgs (dats m) 0 (V m) r) (c : Dev nD) :
    r.2.mem ((c : Thread nD τ).loc main_arg20) = m ((c : Thread nD τ).loc main_arg20) :=
  ((h c).2 main_arg20 (Pipeline.mem_restRefs_of main_arg20 (by decide) (by decide))).trans (V_main_arg20 m c)

/-- After the frame run, argument `main_arg21` is as launched: no window stages it, and the run leaves the region's other buffers as they were. -/
theorem kept_main_arg21 (r : PUnit × MemSt nD τ sig (Elt F)) (h : Pipeline.FramePost cfgs (dats m) 0 (V m) r) (c : Dev nD) :
    r.2.mem ((c : Thread nD τ).loc main_arg21) = m ((c : Thread nD τ).loc main_arg21) :=
  ((h c).2 main_arg21 (Pipeline.mem_restRefs_of main_arg21 (by decide) (by decide))).trans (V_main_arg21 m c)

/-- After the frame run, argument `main_arg22` is as launched: no window stages it, and the run leaves the region's other buffers as they were. -/
theorem kept_main_arg22 (r : PUnit × MemSt nD τ sig (Elt F)) (h : Pipeline.FramePost cfgs (dats m) 0 (V m) r) (c : Dev nD) :
    r.2.mem ((c : Thread nD τ).loc main_arg22) = m ((c : Thread nD τ).loc main_arg22) :=
  ((h c).2 main_arg22 (Pipeline.mem_restRefs_of main_arg22 (by decide) (by decide))).trans (V_main_arg22 m c)

/-- After the frame run, argument `main_arg23` is as launched: no window stages it, and the run leaves the region's other buffers as they were. -/
theorem kept_main_arg23 (r : PUnit × MemSt nD τ sig (Elt F)) (h : Pipeline.FramePost cfgs (dats m) 0 (V m) r) (c : Dev nD) :
    r.2.mem ((c : Thread nD τ).loc main_arg23) = m ((c : Thread nD τ).loc main_arg23) :=
  ((h c).2 main_arg23 (Pipeline.mem_restRefs_of main_arg23 (by decide) (by decide))).trans (V_main_arg23 m c)

/-- After the frame run, argument `main_arg24` is as launched: no window stages it, and the run leaves the region's other buffers as they were. -/
theorem kept_main_arg24 (r : PUnit × MemSt nD τ sig (Elt F)) (h : Pipeline.FramePost cfgs (dats m) 0 (V m) r) (c : Dev nD) :
    r.2.mem ((c : Thread nD τ).loc main_arg24) = m ((c : Thread nD τ).loc main_arg24) :=
  ((h c).2 main_arg24 (Pipeline.mem_restRefs_of main_arg24 (by decide) (by decide))).trans (V_main_arg24 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v85) = (dats m 0 c).arrAt 22 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24) :=
  (θ_run defs _ _).mono (fun r h c => ⟨post22 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c,
      kept_main_arg21 m r h c,
      kept_main_arg22 m r h c,
      kept_main_arg23 m r h c,
      kept_main_arg24 m r h c⟩)
    (run_main m ρ)

end Cert.KernelSineIdeal.Value

end
-- ==== Proof.SineValue.lean ====
/-
  What the kernel with the sine leaves in its result: the accumulator point by point, and the result from it.
-/
module

public import proofs.«01_k».proof.Proof.Accumulated
public import proofs.«01_k».proof.Proof.Pieces
public import proofs.«01_k».proof.Proof.SineBlock
public import proofs.«01_k».proof.Proof.SinePrepared
public import proofs.«01_k».proof.Proof.KernelSineIdeal.Value

@[expose] public section

set_option maxRecDepth 16384

noncomputable section

namespace Cert.DeepSet.Sine

open Idealize.ShloMosaic Idealize.ShloMosaic.TcCoe Idealize.SL.Sem
open Cert.KernelSineIdeal Cert.KernelSineIdeal.Gen Cert.DeepSet

variable (m : (ℓ : Loc nD τ sig) → Buf (Elt Ideal) ℓ) (c : Dev nD)

/-- The accumulator is first filled with zeros. -/
theorem zero_at {i : Fin 48} {j : Fin 193} : (k0_pay5 (F := Ideal) (ix2 i j) : EReal) = 0 := by pointwise [k0_pay5]

/-- The first point leaves its block's part in the accumulator. -/
theorem accumulator_first (t : Fin cfg0.N) (h0 : t.val % 8 = 0) (h1 : ¬t.val % 8 = 7) (r : Fin 48) (k : Fin 193) :
    ((outsAt0 m c t.val t.isLt).2 (ix2 r k) : EReal) = (operands m c t).part Ideal.sin r k := by
  rw [outsAt0_A m c t h0 h1]
  frame_out
  obtain ⟨j, rfl⟩ | ⟨j, rfl⟩ | rfl := column_cases k
  · refine (newest_misses 1 (.inl (show j.val < 192 by omega))).trans ((newest_misses 1 (.inl (show j.val < 128 by omega))).trans
      ((newest_holds (ix2 r j) (by intro a; fin_cases a <;> first | rfl | exact (Nat.zero_add _).symm)).trans ?_))
    refine (stepFR_at (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t) (iblk m c 14 t)
        (iblk m c 15 t) (iblk m c 16 t) (iblk m c 17 t) (iblk m c 18 t) (iblk m c 19 t) (iblk m c 20 t) (iblk m c 21 t) _ r j).trans ?_
    rw [part_FR]
    rw [View.readCov_eq_canon']
    refine (congrArg₂ (· + ·) ((congrArg (View.canon _) (unit_place (ix2 r ⟨j.val, by omega⟩) (by intro a; fin_cases a <;> first | rfl | exact (Nat.zero_add _).symm))).trans
      (((newest_holds (ix2 r ⟨j.val, by omega⟩) (by intro a; fin_cases a <;> first | rfl | exact (Nat.zero_add _).symm))).trans zero_at)) rfl).trans (zero_add _)
  · refine (newest_misses 1 (.inl (show 128 + j.val < 192 by omega))).trans
      ((newest_holds (ix2 r j) (by intro a; fin_cases a <;> first | rfl | exact (Nat.zero_add _).symm)).trans ?_)
    refine (stepM_at (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t) (iblk m c 14 t)
        (iblk m c 15 t) (iblk m c 16 t) (iblk m c 17 t) (iblk m c 18 t) (iblk m c 19 t) (iblk m c 20 t) (iblk m c 21 t) _ r j).trans ?_
    rw [part_M]
    rw [View.readCov_eq_canon']
    refine (congrArg₂ (· + ·) ((congrArg (View.canon _) (unit_place (ix2 r ⟨128 + j.val, by omega⟩) (by intro a; fin_cases a <;> first | rfl | exact (Nat.zero_add _).symm))).trans
      (((newest_misses 1 (.inr (show 128 ≤ 128 + j.val by omega))).trans (newest_holds (ix2 r ⟨128 + j.val, by omega⟩) (by intro a; fin_cases a <;> first | rfl | exact (Nat.zero_add _).symm))).trans zero_at)) rfl).trans (zero_add _)
  · refine (newest_holds (ix2 r 0) (by intro a; fin_cases a <;> first | rfl | exact (Nat.zero_add _).symm)).trans ?_
    refine (stepC_at (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t) (iblk m c 14 t)
        (iblk m c 15 t) (iblk m c 16 t) (iblk m c 17 t) (iblk m c 18 t) (iblk m c 19 t) (iblk m c 20 t) (iblk m c 21 t) _ r 0).trans ?_
    rw [part_C]
    rw [View.readCov_eq_canon']
    refine (congrArg₂ (· + ·) ((congrArg (View.canon _) (unit_place (ix2 r 192) (by intro a; fin_cases a <;> first | rfl | exact (Nat.zero_add _).symm))).trans
      (((newest_misses 1 (.inr (show 128 + 64 ≤ 192 by omega))).trans ((newest_misses 1 (.inr (show 0 + 128 ≤ 192 by omega))).trans (newest_holds (ix2 r 192) (by intro a; fin_cases a <;> first | rfl | exact (Nat.zero_add _).symm)))).trans zero_at)) rfl).trans (zero_add _)

/-- Every other point adds its block's part to the accumulator. -/
theorem accumulator_next (t : Fin cfg0.N) (h0 : ¬t.val % 8 = 0) (r : Fin 48) (k : Fin 193) :
    ((outsAt0 m c t.val t.isLt).2 (ix2 r k) : EReal)
      = (outsAt0 m c (t.val - 1) (lt_of_le_of_lt (Nat.sub_le _ _) t.isLt)).2 (ix2 r k) + (operands m c t).part Ideal.sin r k := by
  by_cases h1 : t.val % 8 = 7
  on_goal 1 => rw [outsAt0_C m c t h0 h1]
  on_goal 2 => rw [outsAt0_B m c t h0 h1]
  all_goals frame_out
  all_goals
    obtain ⟨j, rfl⟩ | ⟨j, rfl⟩ | rfl := column_cases k
    · refine (newest_misses 1 (.inl (show j.val < 192 by omega))).trans ((newest_misses 1 (.inl (show j.val < 128 by omega))).trans
        ((newest_holds (ix2 r j) (by intro a; fin_cases a <;> first | rfl | exact (Nat.zero_add _).symm)).trans ?_))
      refine (stepFR_at (iblk m c 0 t) (iblk m c 1 t) (iblk m c 2 t) (iblk m c 3 t) (iblk m c 4 t) (iblk m c 5 t) (iblk m c 6 t)
          (iblk m c 7 t) (iblk m c 8 t) (iblk m c 9 t) (iblk m c 10 t) (iblk m c 11 t) (iblk m c 12 t) (iblk m c 13 t) (iblk m c 14 t)
          (iblk m c 15 t) (iblk m c 16 t) (iblk m c 17 t) (iblk m c 18 t) (iblk m c 19 t) (iblk m c 20 t) (iblk m c 21 t) _ r j).trans ?_
      rw [part_FR]
      refine congrArg₂ (· + ·) ?_ rfl
      rw [View.ld_unit_apply_of _ _ _ _ _ (ix2 r ⟨j.val, by omega⟩) (by intro a; fin_cases a <;> first | rfl | exact (Nat.zero_add _).symm)]
      exact congrFun (Memref.IsWhole.read_unread _ _) _
    · refine (newest_misses 1 (.inl (show 128 + j.val < 192 by omega))).trans
        ((newest_holds (ix2 r j) (by intro a; fin_cases a <;> first | rfl | exact (Nat.zero_add _).symm)).trans ?_)
      refine (stepM_at (iblk m c 0 t) (iblk m c 1 t) (iblk m c 2 t) (iblk m c 3 t) (iblk m c 4 t) (iblk m c 5 t) (iblk m c 6 t)
          (iblk m c 7 t) (iblk m c 8 t) (iblk m c 9 t) (iblk m c 10 t) (iblk m c 11 t) (iblk m c 12 t) (iblk m c 13 t) (iblk m c 14 t)
          (iblk m c 15 t) (iblk m c 16 t) (iblk m c 17 t) (iblk m c 18 t) (iblk m c 19 t) (iblk m c 20 t) (iblk m c 21 t) _ r j).trans ?_
      rw [part_M]
      refine congrArg₂ (· + ·) ?_ rfl
      rw [View.ld_unit_apply_of _ _ _ _ _ (ix2 r ⟨128 + j.val, by omega⟩) (by intro a; fin_cases a <;> first | rfl | exact (Nat.zero_add _).symm)]
      exact congrFun (Memref.IsWhole.read_unread _ _) _
    · refine (newest_holds (ix2 r 0) (by intro a; fin_cases a <;> first | rfl | exact (Nat.zero_add _).symm)).trans ?_
      refine (stepC_at (iblk m c 0 t) (iblk m c 1 t) (iblk m c 2 t) (iblk m c 3 t) (iblk m c 4 t) (iblk m c 5 t) (iblk m c 6 t)
          (iblk m c 7 t) (iblk m c 8 t) (iblk m c 9 t) (iblk m c 10 t) (iblk m c 11 t) (iblk m c 12 t) (iblk m c 13 t) (iblk m c 14 t)
          (iblk m c 15 t) (iblk m c 16 t) (iblk m c 17 t) (iblk m c 18 t) (iblk m c 19 t) (iblk m c 20 t) (iblk m c 21 t) _ r 0).trans ?_
      rw [part_C]
      refine congrArg₂ (· + ·) ?_ rfl
      rw [View.ld_unit_apply_of _ _ _ _ _ (ix2 r 192) (by intro a; fin_cases a <;> first | rfl | exact (Nat.zero_add _).symm)]
      exact congrFun (Memref.IsWhole.read_unread _ _) _

/-- The accumulator after the last point. -/
theorem accumulator_last (r : Fin 48) (k : Fin 193) :
    ((outsAt0 m c t0_7.val t0_7.isLt).2 (ix2 r k) : EReal) = accumulated Ideal.sin (operands m c) r k := by
  refine (Pipeline.eq_sum_fin_of_reset_step_apply_last (fun n h (_ : Unit) => ((outsAt0 m c n h).2 (ix2 r k) : EReal)) 8
    (fun _ => 0) (fun t _ => (operands m c t).part Ideal.sin r k) ?_ ?_ (le_of_eq N_0) t0_7 rfl ()).trans ?_
  · intro t h0 i
    exact (accumulator_first m c t h0 (by omega) r k).trans (zero_add _).symm
  · intro t h0 i
    exact accumulator_next m c t h0 r k
  · exact zero_add _

/-- The last point leaves the result in the output's block. -/
theorem output_last (r : Fin 16) (k : Fin 128) :
    ((outsAt0 m c t0_7.val t0_7.isLt).1 (ix2 r k) : EReal)
      = result Ideal.sin (shared m c) (branchF m c) (branchR m c) (branchM m c) r k := by
  have last := accumulator_last m c
  rw [outsAt0_C m c t0_7 (by decide) (by decide)] at last ⊢
  frame_out at last
  frame_out
  rw [View.readCov_eq_canon']
  refine (finishBlock_at (iblk m c 0 t0_7) (iblk m c 1 t0_7) (iblk m c 2 t0_7) (iblk m c 3 t0_7) (iblk m c 4 t0_7) (iblk m c 5 t0_7) (iblk m c 6 t0_7)
        (iblk m c 7 t0_7) (iblk m c 8 t0_7) (iblk m c 9 t0_7) (iblk m c 10 t0_7) (iblk m c 11 t0_7) (iblk m c 12 t0_7) (iblk m c 13 t0_7) (iblk m c 14 t0_7)
        (iblk m c 15 t0_7) (iblk m c 16 t0_7) (iblk m c 17 t0_7) (iblk m c 18 t0_7) (iblk m c 19 t0_7) (iblk m c 20 t0_7) (iblk m c 21 t0_7) _ r k).trans ?_
  refine Eq.trans ?_ (finish_accumulated (prepared m c) t0_7 r k)
  refine congrArg (fun A => (operands m c t0_7).finish A r k) (funext fun a => funext fun b => ?_)
  exact (congrArg (View.canon _) (unit_place (ix2 a b) (by intro a; fin_cases a <;> first | rfl | exact (Nat.zero_add _).symm))).trans (last a b)

/-- The output array once the kernel is done. -/
theorem output_at (r : Fin 16) (k : Fin 128) :
    ((dats m 0 c).arrAt 22 cfg0.N (ix2 r k) : EReal)
      = result Ideal.sin (shared m c) (branchF m c) (branchR m c) (branchM m c) r k := by
  have h : (dats m 0 c).arrAt 22 cfg0.N = fun j : Shape.Idx S16x128 =>
      result Ideal.sin (shared m c) (branchF m c) (branchR m c) (branchM m c) (j 0) (j 1) := by
    refine (dats m 0 c).arrAt_eq_of_after_last 22 t0_7 (by decide +kernel) _ fun j => ?_
    idx_vars j
    blk_simp
    rw [after0_22]
    exact output_last m c j0 j1
  rw [h]
  rfl

end Cert.DeepSet.Sine

end
-- ==== Proof.ReferenceValue.lean ====
/-
  What the reference's run leaves is the host's result with the sine.
-/
module

public import proofs.«01_k».proof.Proof.HostResult

@[expose] public section

set_option maxRecDepth 16384

noncomputable section

namespace Cert.DeepSet

open Idealize.ShloMosaic Idealize.ShloMosaic.TcCoe Idealize.ShloMosaic.StableHlo Idealize.SL.Sem
open Cert.ReferenceIdeal Cert.ReferenceIdeal.Facts₀ Cert.ReferenceIdeal.Facts Cert.ReferenceIdeal.Value

/-- The sine of the host, entry by entry. -/
theorem hostSine_at (x : FVec Ideal S32768x7 .f32) (n : Fin 32768) (k : Fin 7) : (Host.sin x (ix2 n k) : EReal) = Ideal.sin (x (ix2 n k)) := by
  pointwise

/-- The run's term, unfolded. -/
theorem reference_term (m : (ℓ : Loc nD τ sig) → Buf (Elt Ideal) ℓ) (c : Dev nD) :
    select (cmpf .oge (res_main_v125 (launchContents m c)) (broadcastInDim S16x128 ![] bcast_S_S16x128 (constant S_ .f32 0x00000000#32))) (res_main_v125 (launchContents m c)) (mulf (res_main_v125 (launchContents m c)) (broadcastInDim S16x128 ![] bcast_S_S16x128 (constant S_ .f32 0x3E6AAAAB#32)))
      = hostResult (Host.sin (F := Ideal)) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10))
        (m ((c.tc : Thread nD τ).loc main_arg11)) (m ((c.tc : Thread nD τ).loc main_arg12)) (m ((c.tc : Thread nD τ).loc main_arg13)) (m ((c.tc : Thread nD τ).loc main_arg14))
        (m ((c.tc : Thread nD τ).loc main_arg15)) (m ((c.tc : Thread nD τ).loc main_arg16)) (m ((c.tc : Thread nD τ).loc main_arg17)) (m ((c.tc : Thread nD τ).loc main_arg18))
        (m ((c.tc : Thread nD τ).loc main_arg19)) (m ((c.tc : Thread nD τ).loc main_arg20)) (m ((c.tc : Thread nD τ).loc main_arg21)) (m ((c.tc : Thread nD τ).loc main_arg22))
        (m ((c.tc : Thread nD τ).loc main_arg23)) (m ((c.tc : Thread nD τ).loc main_arg24)) := rfl

end Cert.DeepSet

end
-- ==== Proof.SineClaims.lean ====
/-
  The claims about the kernel with the sine: it runs and leaves its arguments, as printed and over the reals, and over
  the reals its result is the reference's.
-/
module

public import proofs.«01_k».proof.Defs
public import proofs.«01_k».proof.Proof.SineValue
public import proofs.«01_k».proof.Proof.ReferenceValue
public import proofs.«01_k».proof.Proof.Gen.KernelSine
public import proofs.«01_k».proof.Proof.Gen.KernelSine.Launch
public import proofs.«01_k».proof.Proof.Gen.ReferenceIdeal.Run
public import Idealize.ShloMosaic.Adequacy
public import Idealize.ShloMosaic.Init
public import Idealize.ShloMosaic.Lib.Quiescent
public import Idealize.ShloMosaic.Lib.Tactic

@[expose] public section

set_option maxRecDepth 16384

noncomputable section

namespace Cert.DeepSet.Sine

open Idealize.ShloMosaic Idealize.ShloMosaic.TcCoe Idealize.SL.Sem Cert.DeepSet

set_option maxHeartbeats 4000000 in
/-- The printed kernel and the one over the reals are one program before a meaning is given to their floats. -/
theorem main_same : Cert.KernelSine.main (F := Bits) = Cert.KernelSineIdeal.main (F := Bits) := by sl_kernel_rfl

set_option maxHeartbeats 4000000 in
/-- So are their regions. -/
theorem defs_same : Cert.KernelSine.defs (F := Bits) = Cert.KernelSineIdeal.defs (F := Bits) := by sl_kernel_rfl

set_option maxHeartbeats 1000000 in
/-- The kernel as printed runs and leaves its arguments. -/
theorem quiescent : quiescent_KernelSine := by
  unfold quiescent_KernelSine
  rw [main_same, defs_same]
  exact fun m ρ _ => Cert.KernelSineIdeal.Gen.frame (F := Bits) m ρ

/-- The reference runs and leaves its arguments. -/
theorem quiescent_reference : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result is the reference's. -/
theorem algebraic : algebraic_KernelSineIdeal_ReferenceIdeal := by
  intro m ρ m' ρ' _ hagree
  refine ⟨_, Cert.KernelSineIdeal.Value.run_blocks (F := Ideal) m ρ, ?_⟩
  refine (θ_run Cert.ReferenceIdeal.defs _ _).mono (fun _ h c => ⟨?_, (h c).2⟩) (Cert.ReferenceIdeal.Value.run (F := Ideal) m' ρ')
  rw [(h c).1, reference_term]
  funext i
  idx_vars i
  refine (hostResult_at _ Ideal.sin hostSine_at _ _ _ _ _ _ _ _ _ _ _ _ _ _ _ _ _ _ _ _ _ _ _ _ _ i0 i1).trans ?_
  simp only [hagree c]
  exact (output_at m c i0 i1).symm

end Cert.DeepSet.Sine

end
-- ==== Proof.lean ====
/-
  The certificate: the claims about the kernel as it is, with its polynomial for the sine, and about the kernel with
  the sine, each against its reference.
-/
module

public import proofs.«01_k».proof.Defs
public import proofs.«01_k».proof.Proof.PolynomialClaims
public import proofs.«01_k».proof.Proof.SineClaims
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceApproxIdeal.Gen.facts,
    Cert.KernelSine.Gen.facts, Cert.KernelSineIdeal.Gen.facts, Cert.ReferenceIdeal.Gen.facts,
    DeepSet.Polynomial.quiescent, fun m ρ _ => Cert.KernelIdeal.Gen.frame m ρ, DeepSet.Polynomial.quiescent_reference,
    DeepSet.Sine.quiescent, fun m ρ _ => Cert.KernelSineIdeal.Gen.frame m ρ, DeepSet.Sine.quiescent_reference,
    (trivial : preserves_Kernel_KernelIdeal), DeepSet.Polynomial.algebraic,
    (trivial : preserves_KernelSine_KernelSineIdeal), DeepSet.Sine.algebraic⟩

end Cert.Proof

end
